-- ==== Defs.lean ====
def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ffn2Ideal_ffn2_finite [hPre_ffn2_finite : Cert.Pre_ffn2_finite.Facts] (m : (ℓ : Loc Cert.Ffn2Ideal.nD Cert.Ffn2Ideal.τ Cert.Ffn2Ideal.sig) → Buf (Elt Ideal) ℓ) : Prop :=
  ∀ c : Dev Cert.Ffn2Ideal.nD,
    (Cert.Pre_ffn2_finite.fn (F := Ideal) (m ((c.tc : Thread Cert.Ffn2Ideal.nD Cert.Ffn2Ideal.τ).loc Cert.Ffn2Ideal.main_arg0)) (m ((c.tc : Thread Cert.Ffn2Ideal.nD Cert.Ffn2Ideal.τ).loc Cert.Ffn2Ideal.main_arg1)) (m ((c.tc : Thread Cert.Ffn2Ideal.nD Cert.Ffn2Ideal.τ).loc Cert.Ffn2Ideal.main_arg2)) (m ((c.tc : Thread Cert.Ffn2Ideal.nD Cert.Ffn2Ideal.τ).loc Cert.Ffn2Ideal.main_arg3)) (m ((c.tc : Thread Cert.Ffn2Ideal.nD Cert.Ffn2Ideal.τ).loc Cert.Ffn2Ideal.main_arg4)) (m ((c.tc : Thread Cert.Ffn2Ideal.nD Cert.Ffn2Ideal.τ).loc Cert.Ffn2Ideal.main_arg5))).1 = (fun _ => 1#1)
    ∧ (Cert.Pre_ffn2_finite.fn (F := Ideal) (m ((c.tc : Thread Cert.Ffn2Ideal.nD Cert.Ffn2Ideal.τ).loc Cert.Ffn2Ideal.main_arg0)) (m ((c.tc : Thread Cert.Ffn2Ideal.nD Cert.Ffn2Ideal.τ).loc Cert.Ffn2Ideal.main_arg1)) (m ((c.tc : Thread Cert.Ffn2Ideal.nD Cert.Ffn2Ideal.τ).loc Cert.Ffn2Ideal.main_arg2)) (m ((c.tc : Thread Cert.Ffn2Ideal.nD Cert.Ffn2Ideal.τ).loc Cert.Ffn2Ideal.main_arg3)) (m ((c.tc : Thread Cert.Ffn2Ideal.nD Cert.Ffn2Ideal.τ).loc Cert.Ffn2Ideal.main_arg4)) (m ((c.tc : Thread Cert.Ffn2Ideal.nD Cert.Ffn2Ideal.τ).loc Cert.Ffn2Ideal.main_arg5))).2.1 = (fun _ => 1#1)
    ∧ (Cert.Pre_ffn2_finite.fn (F := Ideal) (m ((c.tc : Thread Cert.Ffn2Ideal.nD Cert.Ffn2Ideal.τ).loc Cert.Ffn2Ideal.main_arg0)) (m ((c.tc : Thread Cert.Ffn2Ideal.nD Cert.Ffn2Ideal.τ).loc Cert.Ffn2Ideal.main_arg1)) (m ((c.tc : Thread Cert.Ffn2Ideal.nD Cert.Ffn2Ideal.τ).loc Cert.Ffn2Ideal.main_arg2)) (m ((c.tc : Thread Cert.Ffn2Ideal.nD Cert.Ffn2Ideal.τ).loc Cert.Ffn2Ideal.main_arg3)) (m ((c.tc : Thread Cert.Ffn2Ideal.nD Cert.Ffn2Ideal.τ).loc Cert.Ffn2Ideal.main_arg4)) (m ((c.tc : Thread Cert.Ffn2Ideal.nD Cert.Ffn2Ideal.τ).loc Cert.Ffn2Ideal.main_arg5))).2.2.1 = (fun _ => 1#1)
    ∧ (Cert.Pre_ffn2_finite.fn (F := Ideal) (m ((c.tc : Thread Cert.Ffn2Ideal.nD Cert.Ffn2Ideal.τ).loc Cert.Ffn2Ideal.main_arg0)) (m ((c.tc : Thread Cert.Ffn2Ideal.nD Cert.Ffn2Ideal.τ).loc Cert.Ffn2Ideal.main_arg1)) (m ((c.tc : Thread Cert.Ffn2Ideal.nD Cert.Ffn2Ideal.τ).loc Cert.Ffn2Ideal.main_arg2)) (m ((c.tc : Thread Cert.Ffn2Ideal.nD Cert.Ffn2Ideal.τ).loc Cert.Ffn2Ideal.main_arg3)) (m ((c.tc : Thread Cert.Ffn2Ideal.nD Cert.Ffn2Ideal.τ).loc Cert.Ffn2Ideal.main_arg4)) (m ((c.tc : Thread Cert.Ffn2Ideal.nD Cert.Ffn2Ideal.τ).loc Cert.Ffn2Ideal.main_arg5))).2.2.2 = (fun _ => 1#1)

def Pre_Ffn2RefIdeal (m : (ℓ : Loc Cert.Ffn2RefIdeal.nD Cert.Ffn2RefIdeal.τ Cert.Ffn2RefIdeal.sig) → Buf (Elt Ideal) ℓ) : Prop :=
  True

def Pre_Ffn2RefIdeal_ffn2_finite [hPre_ffn2_finite : Cert.Pre_ffn2_finite.Facts] (m : (ℓ : Loc Cert.Ffn2RefIdeal.nD Cert.Ffn2RefIdeal.τ Cert.Ffn2RefIdeal.sig) → Buf (Elt Ideal) ℓ) : Prop :=
  ∀ c : Dev Cert.Ffn2RefIdeal.nD,
    (Cert.Pre_ffn2_finite.fn (F := Ideal) (m ((c.tc : Thread Cert.Ffn2RefIdeal.nD Cert.Ffn2RefIdeal.τ).loc Cert.Ffn2RefIdeal.main_arg0)) (m ((c.tc : Thread Cert.Ffn2RefIdeal.nD Cert.Ffn2RefIdeal.τ).loc Cert.Ffn2RefIdeal.main_arg1)) (m ((c.tc : Thread Cert.Ffn2RefIdeal.nD Cert.Ffn2RefIdeal.τ).loc Cert.Ffn2RefIdeal.main_arg2)) (m ((c.tc : Thread Cert.Ffn2RefIdeal.nD Cert.Ffn2RefIdeal.τ).loc Cert.Ffn2RefIdeal.main_arg3)) (m ((c.tc : Thread Cert.Ffn2RefIdeal.nD Cert.Ffn2RefIdeal.τ).loc Cert.Ffn2RefIdeal.main_arg4)) (m ((c.tc : Thread Cert.Ffn2RefIdeal.nD Cert.Ffn2RefIdeal.τ).loc Cert.Ffn2RefIdeal.main_arg5))).1 = (fun _ => 1#1)
    ∧ (Cert.Pre_ffn2_finite.fn (F := Ideal) (m ((c.tc : Thread Cert.Ffn2RefIdeal.nD Cert.Ffn2RefIdeal.τ).loc Cert.Ffn2RefIdeal.main_arg0)) (m ((c.tc : Thread Cert.Ffn2RefIdeal.nD Cert.Ffn2RefIdeal.τ).loc Cert.Ffn2RefIdeal.main_arg1)) (m ((c.tc : Thread Cert.Ffn2RefIdeal.nD Cert.Ffn2RefIdeal.τ).loc Cert.Ffn2RefIdeal.main_arg2)) (m ((c.tc : Thread Cert.Ffn2RefIdeal.nD Cert.Ffn2RefIdeal.τ).loc Cert.Ffn2RefIdeal.main_arg3)) (m ((c.tc : Thread Cert.Ffn2RefIdeal.nD Cert.Ffn2RefIdeal.τ).loc Cert.Ffn2RefIdeal.main_arg4)) (m ((c.tc : Thread Cert.Ffn2RefIdeal.nD Cert.Ffn2RefIdeal.τ).loc Cert.Ffn2RefIdeal.main_arg5))).2.1 = (fun _ => 1#1)
    ∧ (Cert.Pre_ffn2_finite.fn (F := Ideal) (m ((c.tc : Thread Cert.Ffn2RefIdeal.nD Cert.Ffn2RefIdeal.τ).loc Cert.Ffn2RefIdeal.main_arg0)) (m ((c.tc : Thread Cert.Ffn2RefIdeal.nD Cert.Ffn2RefIdeal.τ).loc Cert.Ffn2RefIdeal.main_arg1)) (m ((c.tc : Thread Cert.Ffn2RefIdeal.nD Cert.Ffn2RefIdeal.τ).loc Cert.Ffn2RefIdeal.main_arg2)) (m ((c.tc : Thread Cert.Ffn2RefIdeal.nD Cert.Ffn2RefIdeal.τ).loc Cert.Ffn2RefIdeal.main_arg3)) (m ((c.tc : Thread Cert.Ffn2RefIdeal.nD Cert.Ffn2RefIdeal.τ).loc Cert.Ffn2RefIdeal.main_arg4)) (m ((c.tc : Thread Cert.Ffn2RefIdeal.nD Cert.Ffn2RefIdeal.τ).loc Cert.Ffn2RefIdeal.main_arg5))).2.2.1 = (fun _ => 1#1)
    ∧ (Cert.Pre_ffn2_finite.fn (F := Ideal) (m ((c.tc : Thread Cert.Ffn2RefIdeal.nD Cert.Ffn2RefIdeal.τ).loc Cert.Ffn2RefIdeal.main_arg0)) (m ((c.tc : Thread Cert.Ffn2RefIdeal.nD Cert.Ffn2RefIdeal.τ).loc Cert.Ffn2RefIdeal.main_arg1)) (m ((c.tc : Thread Cert.Ffn2RefIdeal.nD Cert.Ffn2RefIdeal.τ).loc Cert.Ffn2RefIdeal.main_arg2)) (m ((c.tc : Thread Cert.Ffn2RefIdeal.nD Cert.Ffn2RefIdeal.τ).loc Cert.Ffn2RefIdeal.main_arg3)) (m ((c.tc : Thread Cert.Ffn2RefIdeal.nD Cert.Ffn2RefIdeal.τ).loc Cert.Ffn2RefIdeal.main_arg4)) (m ((c.tc : Thread Cert.Ffn2RefIdeal.nD Cert.Ffn2RefIdeal.τ).loc Cert.Ffn2RefIdeal.main_arg5))).2.2.2 = (fun _ => 1#1)

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1Ideal_ffn1_finite [hPre_ffn1_finite : Cert.Pre_ffn1_finite.Facts] (m : (ℓ : Loc Cert.Ffn1Ideal.nD Cert.Ffn1Ideal.τ Cert.Ffn1Ideal.sig) → Buf (Elt Ideal) ℓ) : Prop :=
  ∀ c : Dev Cert.Ffn1Ideal.nD,
    (Cert.Pre_ffn1_finite.fn (F := Ideal) (m ((c.tc : Thread Cert.Ffn1Ideal.nD Cert.Ffn1Ideal.τ).loc Cert.Ffn1Ideal.main_arg0)) (m ((c.tc : Thread Cert.Ffn1Ideal.nD Cert.Ffn1Ideal.τ).loc Cert.Ffn1Ideal.main_arg1)) (m ((c.tc : Thread Cert.Ffn1Ideal.nD Cert.Ffn1Ideal.τ).loc Cert.Ffn1Ideal.main_arg2)) (m ((c.tc : Thread Cert.Ffn1Ideal.nD Cert.Ffn1Ideal.τ).loc Cert.Ffn1Ideal.main_arg3)) (m ((c.tc : Thread Cert.Ffn1Ideal.nD Cert.Ffn1Ideal.τ).loc Cert.Ffn1Ideal.main_arg4))).1 = (fun _ => 1#1)
    ∧ (Cert.Pre_ffn1_finite.fn (F := Ideal) (m ((c.tc : Thread Cert.Ffn1Ideal.nD Cert.Ffn1Ideal.τ).loc Cert.Ffn1Ideal.main_arg0)) (m ((c.tc : Thread Cert.Ffn1Ideal.nD Cert.Ffn1Ideal.τ).loc Cert.Ffn1Ideal.main_arg1)) (m ((c.tc : Thread Cert.Ffn1Ideal.nD Cert.Ffn1Ideal.τ).loc Cert.Ffn1Ideal.main_arg2)) (m ((c.tc : Thread Cert.Ffn1Ideal.nD Cert.Ffn1Ideal.τ).loc Cert.Ffn1Ideal.main_arg3)) (m ((c.tc : Thread Cert.Ffn1Ideal.nD Cert.Ffn1Ideal.τ).loc Cert.Ffn1Ideal.main_arg4))).2.1 = (fun _ => 1#1)
    ∧ (Cert.Pre_ffn1_finite.fn (F := Ideal) (m ((c.tc : Thread Cert.Ffn1Ideal.nD Cert.Ffn1Ideal.τ).loc Cert.Ffn1Ideal.main_arg0)) (m ((c.tc : Thread Cert.Ffn1Ideal.nD Cert.Ffn1Ideal.τ).loc Cert.Ffn1Ideal.main_arg1)) (m ((c.tc : Thread Cert.Ffn1Ideal.nD Cert.Ffn1Ideal.τ).loc Cert.Ffn1Ideal.main_arg2)) (m ((c.tc : Thread Cert.Ffn1Ideal.nD Cert.Ffn1Ideal.τ).loc Cert.Ffn1Ideal.main_arg3)) (m ((c.tc : Thread Cert.Ffn1Ideal.nD Cert.Ffn1Ideal.τ).loc Cert.Ffn1Ideal.main_arg4))).2.2.1 = (fun _ => 1#1)
    ∧ (Cert.Pre_ffn1_finite.fn (F := Ideal) (m ((c.tc : Thread Cert.Ffn1Ideal.nD Cert.Ffn1Ideal.τ).loc Cert.Ffn1Ideal.main_arg0)) (m ((c.tc : Thread Cert.Ffn1Ideal.nD Cert.Ffn1Ideal.τ).loc Cert.Ffn1Ideal.main_arg1)) (m ((c.tc : Thread Cert.Ffn1Ideal.nD Cert.Ffn1Ideal.τ).loc Cert.Ffn1Ideal.main_arg2)) (m ((c.tc : Thread Cert.Ffn1Ideal.nD Cert.Ffn1Ideal.τ).loc Cert.Ffn1Ideal.main_arg3)) (m ((c.tc : Thread Cert.Ffn1Ideal.nD Cert.Ffn1Ideal.τ).loc Cert.Ffn1Ideal.main_arg4))).2.2.2 = (fun _ => 1#1)

def Pre_Ffn1RefIdeal (m : (ℓ : Loc Cert.Ffn1RefIdeal.nD Cert.Ffn1RefIdeal.τ Cert.Ffn1RefIdeal.sig) → Buf (Elt Ideal) ℓ) : Prop :=
  True

def Pre_Ffn1RefIdeal_ffn1_finite [hPre_ffn1_finite : Cert.Pre_ffn1_finite.Facts] (m : (ℓ : Loc Cert.Ffn1RefIdeal.nD Cert.Ffn1RefIdeal.τ Cert.Ffn1RefIdeal.sig) → Buf (Elt Ideal) ℓ) : Prop :=
  ∀ c : Dev Cert.Ffn1RefIdeal.nD,
    (Cert.Pre_ffn1_finite.fn (F := Ideal) (m ((c.tc : Thread Cert.Ffn1RefIdeal.nD Cert.Ffn1RefIdeal.τ).loc Cert.Ffn1RefIdeal.main_arg0)) (m ((c.tc : Thread Cert.Ffn1RefIdeal.nD Cert.Ffn1RefIdeal.τ).loc Cert.Ffn1RefIdeal.main_arg1)) (m ((c.tc : Thread Cert.Ffn1RefIdeal.nD Cert.Ffn1RefIdeal.τ).loc Cert.Ffn1RefIdeal.main_arg2)) (m ((c.tc : Thread Cert.Ffn1RefIdeal.nD Cert.Ffn1RefIdeal.τ).loc Cert.Ffn1RefIdeal.main_arg3)) (m ((c.tc : Thread Cert.Ffn1RefIdeal.nD Cert.Ffn1RefIdeal.τ).loc Cert.Ffn1RefIdeal.main_arg4))).1 = (fun _ => 1#1)
    ∧ (Cert.Pre_ffn1_finite.fn (F := Ideal) (m ((c.tc : Thread Cert.Ffn1RefIdeal.nD Cert.Ffn1RefIdeal.τ).loc Cert.Ffn1RefIdeal.main_arg0)) (m ((c.tc : Thread Cert.Ffn1RefIdeal.nD Cert.Ffn1RefIdeal.τ).loc Cert.Ffn1RefIdeal.main_arg1)) (m ((c.tc : Thread Cert.Ffn1RefIdeal.nD Cert.Ffn1RefIdeal.τ).loc Cert.Ffn1RefIdeal.main_arg2)) (m ((c.tc : Thread Cert.Ffn1RefIdeal.nD Cert.Ffn1RefIdeal.τ).loc Cert.Ffn1RefIdeal.main_arg3)) (m ((c.tc : Thread Cert.Ffn1RefIdeal.nD Cert.Ffn1RefIdeal.τ).loc Cert.Ffn1RefIdeal.main_arg4))).2.1 = (fun _ => 1#1)
    ∧ (Cert.Pre_ffn1_finite.fn (F := Ideal) (m ((c.tc : Thread Cert.Ffn1RefIdeal.nD Cert.Ffn1RefIdeal.τ).loc Cert.Ffn1RefIdeal.main_arg0)) (m ((c.tc : Thread Cert.Ffn1RefIdeal.nD Cert.Ffn1RefIdeal.τ).loc Cert.Ffn1RefIdeal.main_arg1)) (m ((c.tc : Thread Cert.Ffn1RefIdeal.nD Cert.Ffn1RefIdeal.τ).loc Cert.Ffn1RefIdeal.main_arg2)) (m ((c.tc : Thread Cert.Ffn1RefIdeal.nD Cert.Ffn1RefIdeal.τ).loc Cert.Ffn1RefIdeal.main_arg3)) (m ((c.tc : Thread Cert.Ffn1RefIdeal.nD Cert.Ffn1RefIdeal.τ).loc Cert.Ffn1RefIdeal.main_arg4))).2.2.1 = (fun _ => 1#1)
    ∧ (Cert.Pre_ffn1_finite.fn (F := Ideal) (m ((c.tc : Thread Cert.Ffn1RefIdeal.nD Cert.Ffn1RefIdeal.τ).loc Cert.Ffn1RefIdeal.main_arg0)) (m ((c.tc : Thread Cert.Ffn1RefIdeal.nD Cert.Ffn1RefIdeal.τ).loc Cert.Ffn1RefIdeal.main_arg1)) (m ((c.tc : Thread Cert.Ffn1RefIdeal.nD Cert.Ffn1RefIdeal.τ).loc Cert.Ffn1RefIdeal.main_arg2)) (m ((c.tc : Thread Cert.Ffn1RefIdeal.nD Cert.Ffn1RefIdeal.τ).loc Cert.Ffn1RefIdeal.main_arg3)) (m ((c.tc : Thread Cert.Ffn1RefIdeal.nD Cert.Ffn1RefIdeal.τ).loc Cert.Ffn1RefIdeal.main_arg4))).2.2.2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_LruFwd (m : (ℓ : Loc Cert.LruFwd.nD Cert.LruFwd.τ Cert.LruFwd.sig) → Buf (Elt Bits) ℓ) : Prop :=
  True

def Pre_LruFwdIdeal (m : (ℓ : Loc Cert.LruFwdIdeal.nD Cert.LruFwdIdeal.τ Cert.LruFwdIdeal.sig) → Buf (Elt Ideal) ℓ) : Prop :=
  True

def Pre_LruFwdRefIdeal (m : (ℓ : Loc Cert.LruFwdRefIdeal.nD Cert.LruFwdRefIdeal.τ Cert.LruFwdRefIdeal.sig) → Buf (Elt Ideal) ℓ) : Prop :=
  True

def Pre_FfnCtx (m : (ℓ : Loc Cert.FfnCtx.nD Cert.FfnCtx.τ Cert.FfnCtx.sig) → Buf (Elt Bits) ℓ) : Prop :=
  True

def Pre_FfnCtxIdeal (m : (ℓ : Loc Cert.FfnCtxIdeal.nD Cert.FfnCtxIdeal.τ Cert.FfnCtxIdeal.sig) → Buf (Elt Ideal) ℓ) : Prop :=
  True

def Pre_FfnCtxIdeal_ffn_ctx_finite [hPre_ffn_ctx_finite : Cert.Pre_ffn_ctx_finite.Facts] (m : (ℓ : Loc Cert.FfnCtxIdeal.nD Cert.FfnCtxIdeal.τ Cert.FfnCtxIdeal.sig) → Buf (Elt Ideal) ℓ) : Prop :=
  ∀ c : Dev Cert.FfnCtxIdeal.nD,
    (Cert.Pre_ffn_ctx_finite.fn (F := Ideal) (m ((c.tc : Thread Cert.FfnCtxIdeal.nD Cert.FfnCtxIdeal.τ).loc Cert.FfnCtxIdeal.main_arg0)) (m ((c.tc : Thread Cert.FfnCtxIdeal.nD Cert.FfnCtxIdeal.τ).loc Cert.FfnCtxIdeal.main_arg1)) (m ((c.tc : Thread Cert.FfnCtxIdeal.nD Cert.FfnCtxIdeal.τ).loc Cert.FfnCtxIdeal.main_arg2)) (m ((c.tc : Thread Cert.FfnCtxIdeal.nD Cert.FfnCtxIdeal.τ).loc Cert.FfnCtxIdeal.main_arg3)) (m ((c.tc : Thread Cert.FfnCtxIdeal.nD Cert.FfnCtxIdeal.τ).loc Cert.FfnCtxIdeal.main_arg4))).1 = (fun _ => 1#1)
    ∧ (Cert.Pre_ffn_ctx_finite.fn (F := Ideal) (m ((c.tc : Thread Cert.FfnCtxIdeal.nD Cert.FfnCtxIdeal.τ).loc Cert.FfnCtxIdeal.main_arg0)) (m ((c.tc : Thread Cert.FfnCtxIdeal.nD Cert.FfnCtxIdeal.τ).loc Cert.FfnCtxIdeal.main_arg1)) (m ((c.tc : Thread Cert.FfnCtxIdeal.nD Cert.FfnCtxIdeal.τ).loc Cert.FfnCtxIdeal.main_arg2)) (m ((c.tc : Thread Cert.FfnCtxIdeal.nD Cert.FfnCtxIdeal.τ).loc Cert.FfnCtxIdeal.main_arg3)) (m ((c.tc : Thread Cert.FfnCtxIdeal.nD Cert.FfnCtxIdeal.τ).loc Cert.FfnCtxIdeal.main_arg4))).2.1 = (fun _ => 1#1)
    ∧ (Cert.Pre_ffn_ctx_finite.fn (F := Ideal) (m ((c.tc : Thread Cert.FfnCtxIdeal.nD Cert.FfnCtxIdeal.τ).loc Cert.FfnCtxIdeal.main_arg0)) (m ((c.tc : Thread Cert.FfnCtxIdeal.nD Cert.FfnCtxIdeal.τ).loc Cert.FfnCtxIdeal.main_arg1)) (m ((c.tc : Thread Cert.FfnCtxIdeal.nD Cert.FfnCtxIdeal.τ).loc Cert.FfnCtxIdeal.main_arg2)) (m ((c.tc : Thread Cert.FfnCtxIdeal.nD Cert.FfnCtxIdeal.τ).loc Cert.FfnCtxIdeal.main_arg3)) (m ((c.tc : Thread Cert.FfnCtxIdeal.nD Cert.FfnCtxIdeal.τ).loc Cert.FfnCtxIdeal.main_arg4))).2.2.1 = (fun _ => 1#1)
    ∧ (Cert.Pre_ffn_ctx_finite.fn (F := Ideal) (m ((c.tc : Thread Cert.FfnCtxIdeal.nD Cert.FfnCtxIdeal.τ).loc Cert.FfnCtxIdeal.main_arg0)) (m ((c.tc : Thread Cert.FfnCtxIdeal.nD Cert.FfnCtxIdeal.τ).loc Cert.FfnCtxIdeal.main_arg1)) (m ((c.tc : Thread Cert.FfnCtxIdeal.nD Cert.FfnCtxIdeal.τ).loc Cert.FfnCtxIdeal.main_arg2)) (m ((c.tc : Thread Cert.FfnCtxIdeal.nD Cert.FfnCtxIdeal.τ).loc Cert.FfnCtxIdeal.main_arg3)) (m ((c.tc : Thread Cert.FfnCtxIdeal.nD Cert.FfnCtxIdeal.τ).loc Cert.FfnCtxIdeal.main_arg4))).2.2.2 = (fun _ => 1#1)

def Pre_FfnCtxRefIdeal (m : (ℓ : Loc Cert.FfnCtxRefIdeal.nD Cert.FfnCtxRefIdeal.τ Cert.FfnCtxRefIdeal.sig) → Buf (Elt Ideal) ℓ) : Prop :=
  True

def Pre_FfnCtxRefIdeal_ffn_ctx_finite [hPre_ffn_ctx_finite : Cert.Pre_ffn_ctx_finite.Facts] (m : (ℓ : Loc Cert.FfnCtxRefIdeal.nD Cert.FfnCtxRefIdeal.τ Cert.FfnCtxRefIdeal.sig) → Buf (Elt Ideal) ℓ) : Prop :=
  ∀ c : Dev Cert.FfnCtxRefIdeal.nD,
    (Cert.Pre_ffn_ctx_finite.fn (F := Ideal) (m ((c.tc : Thread Cert.FfnCtxRefIdeal.nD Cert.FfnCtxRefIdeal.τ).loc Cert.FfnCtxRefIdeal.main_arg0)) (m ((c.tc : Thread Cert.FfnCtxRefIdeal.nD Cert.FfnCtxRefIdeal.τ).loc Cert.FfnCtxRefIdeal.main_arg1)) (m ((c.tc : Thread Cert.FfnCtxRefIdeal.nD Cert.FfnCtxRefIdeal.τ).loc Cert.FfnCtxRefIdeal.main_arg2)) (m ((c.tc : Thread Cert.FfnCtxRefIdeal.nD Cert.FfnCtxRefIdeal.τ).loc Cert.FfnCtxRefIdeal.main_arg3)) (m ((c.tc : Thread Cert.FfnCtxRefIdeal.nD Cert.FfnCtxRefIdeal.τ).loc Cert.FfnCtxRefIdeal.main_arg4))).1 = (fun _ => 1#1)
    ∧ (Cert.Pre_ffn_ctx_finite.fn (F := Ideal) (m ((c.tc : Thread Cert.FfnCtxRefIdeal.nD Cert.FfnCtxRefIdeal.τ).loc Cert.FfnCtxRefIdeal.main_arg0)) (m ((c.tc : Thread Cert.FfnCtxRefIdeal.nD Cert.FfnCtxRefIdeal.τ).loc Cert.FfnCtxRefIdeal.main_arg1)) (m ((c.tc : Thread Cert.FfnCtxRefIdeal.nD Cert.FfnCtxRefIdeal.τ).loc Cert.FfnCtxRefIdeal.main_arg2)) (m ((c.tc : Thread Cert.FfnCtxRefIdeal.nD Cert.FfnCtxRefIdeal.τ).loc Cert.FfnCtxRefIdeal.main_arg3)) (m ((c.tc : Thread Cert.FfnCtxRefIdeal.nD Cert.FfnCtxRefIdeal.τ).loc Cert.FfnCtxRefIdeal.main_arg4))).2.1 = (fun _ => 1#1)
    ∧ (Cert.Pre_ffn_ctx_finite.fn (F := Ideal) (m ((c.tc : Thread Cert.FfnCtxRefIdeal.nD Cert.FfnCtxRefIdeal.τ).loc Cert.FfnCtxRefIdeal.main_arg0)) (m ((c.tc : Thread Cert.FfnCtxRefIdeal.nD Cert.FfnCtxRefIdeal.τ).loc Cert.FfnCtxRefIdeal.main_arg1)) (m ((c.tc : Thread Cert.FfnCtxRefIdeal.nD Cert.FfnCtxRefIdeal.τ).loc Cert.FfnCtxRefIdeal.main_arg2)) (m ((c.tc : Thread Cert.FfnCtxRefIdeal.nD Cert.FfnCtxRefIdeal.τ).loc Cert.FfnCtxRefIdeal.main_arg3)) (m ((c.tc : Thread Cert.FfnCtxRefIdeal.nD Cert.FfnCtxRefIdeal.τ).loc Cert.FfnCtxRefIdeal.main_arg4))).2.2.1 = (fun _ => 1#1)
    ∧ (Cert.Pre_ffn_ctx_finite.fn (F := Ideal) (m ((c.tc : Thread Cert.FfnCtxRefIdeal.nD Cert.FfnCtxRefIdeal.τ).loc Cert.FfnCtxRefIdeal.main_arg0)) (m ((c.tc : Thread Cert.FfnCtxRefIdeal.nD Cert.FfnCtxRefIdeal.τ).loc Cert.FfnCtxRefIdeal.main_arg1)) (m ((c.tc : Thread Cert.FfnCtxRefIdeal.nD Cert.FfnCtxRefIdeal.τ).loc Cert.FfnCtxRefIdeal.main_arg2)) (m ((c.tc : Thread Cert.FfnCtxRefIdeal.nD Cert.FfnCtxRefIdeal.τ).loc Cert.FfnCtxRefIdeal.main_arg3)) (m ((c.tc : Thread Cert.FfnCtxRefIdeal.nD Cert.FfnCtxRefIdeal.τ).loc Cert.FfnCtxRefIdeal.main_arg4))).2.2.2 = (fun _ => 1#1)

def Pre_InprojCtx (m : (ℓ : Loc Cert.InprojCtx.nD Cert.InprojCtx.τ Cert.InprojCtx.sig) → Buf (Elt Bits) ℓ) : Prop :=
  True

def Pre_InprojCtxIdeal (m : (ℓ : Loc Cert.InprojCtxIdeal.nD Cert.InprojCtxIdeal.τ Cert.InprojCtxIdeal.sig) → Buf (Elt Ideal) ℓ) : Prop :=
  True

def Pre_InprojCtxRefIdeal (m : (ℓ : Loc Cert.InprojCtxRefIdeal.nD Cert.InprojCtxRefIdeal.τ Cert.InprojCtxRefIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationRefIdeal (m : (ℓ : Loc Cert.ModulationRefIdeal.nD Cert.ModulationRefIdeal.τ Cert.ModulationRefIdeal.sig) → Buf (Elt Ideal) ℓ) : Prop :=
  True

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3)
      ∧ r.2.mem ((c.tc : Thread Cert.Ffn2.nD Cert.Ffn2.τ).loc Cert.Ffn2.main_arg4) = m ((c.tc : Thread Cert.Ffn2.nD Cert.Ffn2.τ).loc Cert.Ffn2.main_arg4)
      ∧ r.2.mem ((c.tc : Thread Cert.Ffn2.nD Cert.Ffn2.τ).loc Cert.Ffn2.main_arg5) = m ((c.tc : Thread Cert.Ffn2.nD Cert.Ffn2.τ).loc Cert.Ffn2.main_arg5))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
      ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5))
      ∧ r.2.sem = fun _ => 0)

def quiescent_Ffn2Ideal_pre_ffn2_finite [hFfn2Ideal : Cert.Ffn2Ideal.Facts] [hPre_ffn2_finite : Cert.Pre_ffn2_finite.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal_ffn2_finite m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
      ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5))
      ∧ r.2.sem = fun _ => 0)

def quiescent_Ffn2RefIdeal [hFfn2RefIdeal : Cert.Ffn2RefIdeal.Facts] : Prop :=
  ∀ (m : (ℓ : Loc Cert.Ffn2RefIdeal.nD Cert.Ffn2RefIdeal.τ Cert.Ffn2RefIdeal.sig) → Buf (Elt Ideal) ℓ) (g : Dev Cert.Ffn2RefIdeal.nD → PrngReg), Pre_Ffn2RefIdeal m →
    θ_run (Cert.Ffn2RefIdeal.defs (F := Ideal)) (onTc (τ := Cert.Ffn2RefIdeal.τ) (Cert.Ffn2RefIdeal.main (F := Ideal))) ⟨m, fun _ => 0, g⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1)
      ∧ r.2.mem ((c.tc : Thread Cert.Ffn2RefIdeal.nD Cert.Ffn2RefIdeal.τ).loc Cert.Ffn2RefIdeal.main_arg2) = m ((c.tc : Thread Cert.Ffn2RefIdeal.nD Cert.Ffn2RefIdeal.τ).loc Cert.Ffn2RefIdeal.main_arg2)
      ∧ r.2.mem ((c.tc : Thread Cert.Ffn2RefIdeal.nD Cert.Ffn2RefIdeal.τ).loc Cert.Ffn2RefIdeal.main_arg3) = m ((c.tc : Thread Cert.Ffn2RefIdeal.nD Cert.Ffn2RefIdeal.τ).loc Cert.Ffn2RefIdeal.main_arg3)
      ∧ r.2.mem ((c.tc : Thread Cert.Ffn2RefIdeal.nD Cert.Ffn2RefIdeal.τ).loc Cert.Ffn2RefIdeal.main_arg4) = m ((c.tc : Thread Cert.Ffn2RefIdeal.nD Cert.Ffn2RefIdeal.τ).loc Cert.Ffn2RefIdeal.main_arg4)
      ∧ r.2.mem ((c.tc : Thread Cert.Ffn2RefIdeal.nD Cert.Ffn2RefIdeal.τ).loc Cert.Ffn2RefIdeal.main_arg5) = m ((c.tc : Thread Cert.Ffn2RefIdeal.nD Cert.Ffn2RefIdeal.τ).loc Cert.Ffn2RefIdeal.main_arg5))
      ∧ r.2.sem = fun _ => 0)

def quiescent_Ffn2RefIdeal_pre_ffn2_finite [hFfn2RefIdeal : Cert.Ffn2RefIdeal.Facts] [hPre_ffn2_finite : Cert.Pre_ffn2_finite.Facts] : Prop :=
  ∀ (m : (ℓ : Loc Cert.Ffn2RefIdeal.nD Cert.Ffn2RefIdeal.τ Cert.Ffn2RefIdeal.sig) → Buf (Elt Ideal) ℓ) (g : Dev Cert.Ffn2RefIdeal.nD → PrngReg), Pre_Ffn2RefIdeal_ffn2_finite m →
    θ_run (Cert.Ffn2RefIdeal.defs (F := Ideal)) (onTc (τ := Cert.Ffn2RefIdeal.τ) (Cert.Ffn2RefIdeal.main (F := Ideal))) ⟨m, fun _ => 0, g⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1)
      ∧ r.2.mem ((c.tc : Thread Cert.Ffn2RefIdeal.nD Cert.Ffn2RefIdeal.τ).loc Cert.Ffn2RefIdeal.main_arg2) = m ((c.tc : Thread Cert.Ffn2RefIdeal.nD Cert.Ffn2RefIdeal.τ).loc Cert.Ffn2RefIdeal.main_arg2)
      ∧ r.2.mem ((c.tc : Thread Cert.Ffn2RefIdeal.nD Cert.Ffn2RefIdeal.τ).loc Cert.Ffn2RefIdeal.main_arg3) = m ((c.tc : Thread Cert.Ffn2RefIdeal.nD Cert.Ffn2RefIdeal.τ).loc Cert.Ffn2RefIdeal.main_arg3)
      ∧ r.2.mem ((c.tc : Thread Cert.Ffn2RefIdeal.nD Cert.Ffn2RefIdeal.τ).loc Cert.Ffn2RefIdeal.main_arg4) = m ((c.tc : Thread Cert.Ffn2RefIdeal.nD Cert.Ffn2RefIdeal.τ).loc Cert.Ffn2RefIdeal.main_arg4)
      ∧ r.2.mem ((c.tc : Thread Cert.Ffn2RefIdeal.nD Cert.Ffn2RefIdeal.τ).loc Cert.Ffn2RefIdeal.main_arg5) = m ((c.tc : Thread Cert.Ffn2RefIdeal.nD Cert.Ffn2RefIdeal.τ).loc Cert.Ffn2RefIdeal.main_arg5))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4))
      ∧ r.2.sem = fun _ => 0)

def quiescent_Ffn1Ideal_pre_ffn1_finite [hFfn1Ideal : Cert.Ffn1Ideal.Facts] [hPre_ffn1_finite : Cert.Pre_ffn1_finite.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal_ffn1_finite m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4))
      ∧ r.2.sem = fun _ => 0)

def quiescent_Ffn1RefIdeal [hFfn1RefIdeal : Cert.Ffn1RefIdeal.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1)
      ∧ r.2.mem ((c.tc : Thread Cert.Ffn1RefIdeal.nD Cert.Ffn1RefIdeal.τ).loc Cert.Ffn1RefIdeal.main_arg2) = m ((c.tc : Thread Cert.Ffn1RefIdeal.nD Cert.Ffn1RefIdeal.τ).loc Cert.Ffn1RefIdeal.main_arg2)
      ∧ r.2.mem ((c.tc : Thread Cert.Ffn1RefIdeal.nD Cert.Ffn1RefIdeal.τ).loc Cert.Ffn1RefIdeal.main_arg3) = m ((c.tc : Thread Cert.Ffn1RefIdeal.nD Cert.Ffn1RefIdeal.τ).loc Cert.Ffn1RefIdeal.main_arg3)
      ∧ r.2.mem ((c.tc : Thread Cert.Ffn1RefIdeal.nD Cert.Ffn1RefIdeal.τ).loc Cert.Ffn1RefIdeal.main_arg4) = m ((c.tc : Thread Cert.Ffn1RefIdeal.nD Cert.Ffn1RefIdeal.τ).loc Cert.Ffn1RefIdeal.main_arg4))
      ∧ r.2.sem = fun _ => 0)

def quiescent_Ffn1RefIdeal_pre_ffn1_finite [hFfn1RefIdeal : Cert.Ffn1RefIdeal.Facts] [hPre_ffn1_finite : Cert.Pre_ffn1_finite.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal_ffn1_finite m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1)
      ∧ r.2.mem ((c.tc : Thread Cert.Ffn1RefIdeal.nD Cert.Ffn1RefIdeal.τ).loc Cert.Ffn1RefIdeal.main_arg2) = m ((c.tc : Thread Cert.Ffn1RefIdeal.nD Cert.Ffn1RefIdeal.τ).loc Cert.Ffn1RefIdeal.main_arg2)
      ∧ r.2.mem ((c.tc : Thread Cert.Ffn1RefIdeal.nD Cert.Ffn1RefIdeal.τ).loc Cert.Ffn1RefIdeal.main_arg3) = m ((c.tc : Thread Cert.Ffn1RefIdeal.nD Cert.Ffn1RefIdeal.τ).loc Cert.Ffn1RefIdeal.main_arg3)
      ∧ r.2.mem ((c.tc : Thread Cert.Ffn1RefIdeal.nD Cert.Ffn1RefIdeal.τ).loc Cert.Ffn1RefIdeal.main_arg4) = m ((c.tc : Thread Cert.Ffn1RefIdeal.nD Cert.Ffn1RefIdeal.τ).loc Cert.Ffn1RefIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_LruFwd [hLruFwd : Cert.LruFwd.Facts] : Prop :=
  ∀ (m : (ℓ : Loc Cert.LruFwd.nD Cert.LruFwd.τ Cert.LruFwd.sig) → Buf (Elt Bits) ℓ) (g : Dev Cert.LruFwd.nD → PrngReg), Pre_LruFwd m →
    θ_run (Cert.LruFwd.defs (F := Bits)) (onTc (τ := Cert.LruFwd.τ) (Cert.LruFwd.main (F := Bits))) ⟨m, fun _ => 0, g⟩ (fun r => (∀ c : Dev Cert.LruFwd.nD,
      r.2.mem ((c.tc : Thread Cert.LruFwd.nD Cert.LruFwd.τ).loc Cert.LruFwd.main_arg0) = m ((c.tc : Thread Cert.LruFwd.nD Cert.LruFwd.τ).loc Cert.LruFwd.main_arg0)
      ∧ r.2.mem ((c.tc : Thread Cert.LruFwd.nD Cert.LruFwd.τ).loc Cert.LruFwd.main_arg1) = m ((c.tc : Thread Cert.LruFwd.nD Cert.LruFwd.τ).loc Cert.LruFwd.main_arg1)
      ∧ r.2.mem ((c.tc : Thread Cert.LruFwd.nD Cert.LruFwd.τ).loc Cert.LruFwd.main_arg2) = m ((c.tc : Thread Cert.LruFwd.nD Cert.LruFwd.τ).loc Cert.LruFwd.main_arg2)
      ∧ r.2.mem ((c.tc : Thread Cert.LruFwd.nD Cert.LruFwd.τ).loc Cert.LruFwd.main_arg3) = m ((c.tc : Thread Cert.LruFwd.nD Cert.LruFwd.τ).loc Cert.LruFwd.main_arg3)
      ∧ r.2.mem ((c.tc : Thread Cert.LruFwd.nD Cert.LruFwd.τ).loc Cert.LruFwd.main_arg4) = m ((c.tc : Thread Cert.LruFwd.nD Cert.LruFwd.τ).loc Cert.LruFwd.main_arg4)
      ∧ r.2.mem ((c.tc : Thread Cert.LruFwd.nD Cert.LruFwd.τ).loc Cert.LruFwd.main_arg5) = m ((c.tc : Thread Cert.LruFwd.nD Cert.LruFwd.τ).loc Cert.LruFwd.main_arg5)
      ∧ r.2.mem ((c.tc : Thread Cert.LruFwd.nD Cert.LruFwd.τ).loc Cert.LruFwd.main_arg6) = m ((c.tc : Thread Cert.LruFwd.nD Cert.LruFwd.τ).loc Cert.LruFwd.main_arg6)
      ∧ r.2.mem ((c.tc : Thread Cert.LruFwd.nD Cert.LruFwd.τ).loc Cert.LruFwd.main_arg7) = m ((c.tc : Thread Cert.LruFwd.nD Cert.LruFwd.τ).loc Cert.LruFwd.main_arg7)
      ∧ r.2.mem ((c.tc : Thread Cert.LruFwd.nD Cert.LruFwd.τ).loc Cert.LruFwd.main_arg8) = m ((c.tc : Thread Cert.LruFwd.nD Cert.LruFwd.τ).loc Cert.LruFwd.main_arg8))
      ∧ r.2.sem = fun _ => 0)

def quiescent_LruFwdIdeal [hLruFwdIdeal : Cert.LruFwdIdeal.Facts] : Prop :=
  ∀ (m : (ℓ : Loc Cert.LruFwdIdeal.nD Cert.LruFwdIdeal.τ Cert.LruFwdIdeal.sig) → Buf (Elt Ideal) ℓ) (g : Dev Cert.LruFwdIdeal.nD → PrngReg), Pre_LruFwdIdeal m →
    θ_run (Cert.LruFwdIdeal.defs (F := Ideal)) (onTc (τ := Cert.LruFwdIdeal.τ) (Cert.LruFwdIdeal.main (F := Ideal))) ⟨m, fun _ => 0, g⟩ (fun r => (∀ c : Dev Cert.LruFwdIdeal.nD,
      r.2.mem ((c.tc : Thread Cert.LruFwdIdeal.nD Cert.LruFwdIdeal.τ).loc Cert.LruFwdIdeal.main_arg0) = m ((c.tc : Thread Cert.LruFwdIdeal.nD Cert.LruFwdIdeal.τ).loc Cert.LruFwdIdeal.main_arg0)
      ∧ r.2.mem ((c.tc : Thread Cert.LruFwdIdeal.nD Cert.LruFwdIdeal.τ).loc Cert.LruFwdIdeal.main_arg1) = m ((c.tc : Thread Cert.LruFwdIdeal.nD Cert.LruFwdIdeal.τ).loc Cert.LruFwdIdeal.main_arg1)
      ∧ r.2.mem ((c.tc : Thread Cert.LruFwdIdeal.nD Cert.LruFwdIdeal.τ).loc Cert.LruFwdIdeal.main_arg2) = m ((c.tc : Thread Cert.LruFwdIdeal.nD Cert.LruFwdIdeal.τ).loc Cert.LruFwdIdeal.main_arg2)
      ∧ r.2.mem ((c.tc : Thread Cert.LruFwdIdeal.nD Cert.LruFwdIdeal.τ).loc Cert.LruFwdIdeal.main_arg3) = m ((c.tc : Thread Cert.LruFwdIdeal.nD Cert.LruFwdIdeal.τ).loc Cert.LruFwdIdeal.main_arg3)
      ∧ r.2.mem ((c.tc : Thread Cert.LruFwdIdeal.nD Cert.LruFwdIdeal.τ).loc Cert.LruFwdIdeal.main_arg4) = m ((c.tc : Thread Cert.LruFwdIdeal.nD Cert.LruFwdIdeal.τ).loc Cert.LruFwdIdeal.main_arg4)
      ∧ r.2.mem ((c.tc : Thread Cert.LruFwdIdeal.nD Cert.LruFwdIdeal.τ).loc Cert.LruFwdIdeal.main_arg5) = m ((c.tc : Thread Cert.LruFwdIdeal.nD Cert.LruFwdIdeal.τ).loc Cert.LruFwdIdeal.main_arg5)
      ∧ r.2.mem ((c.tc : Thread Cert.LruFwdIdeal.nD Cert.LruFwdIdeal.τ).loc Cert.LruFwdIdeal.main_arg6) = m ((c.tc : Thread Cert.LruFwdIdeal.nD Cert.LruFwdIdeal.τ).loc Cert.LruFwdIdeal.main_arg6)
      ∧ r.2.mem ((c.tc : Thread Cert.LruFwdIdeal.nD Cert.LruFwdIdeal.τ).loc Cert.LruFwdIdeal.main_arg7) = m ((c.tc : Thread Cert.LruFwdIdeal.nD Cert.LruFwdIdeal.τ).loc Cert.LruFwdIdeal.main_arg7)
      ∧ r.2.mem ((c.tc : Thread Cert.LruFwdIdeal.nD Cert.LruFwdIdeal.τ).loc Cert.LruFwdIdeal.main_arg8) = m ((c.tc : Thread Cert.LruFwdIdeal.nD Cert.LruFwdIdeal.τ).loc Cert.LruFwdIdeal.main_arg8))
      ∧ r.2.sem = fun _ => 0)

def quiescent_LruFwdRefIdeal [hLruFwdRefIdeal : Cert.LruFwdRefIdeal.Facts] : Prop :=
  ∀ (m : (ℓ : Loc Cert.LruFwdRefIdeal.nD Cert.LruFwdRefIdeal.τ Cert.LruFwdRefIdeal.sig) → Buf (Elt Ideal) ℓ) (g : Dev Cert.LruFwdRefIdeal.nD → PrngReg), Pre_LruFwdRefIdeal m →
    θ_run (Cert.LruFwdRefIdeal.defs (F := Ideal)) (onTc (τ := Cert.LruFwdRefIdeal.τ) (Cert.LruFwdRefIdeal.main (F := Ideal))) ⟨m, fun _ => 0, g⟩ (fun r => (∀ c : Dev Cert.LruFwdRefIdeal.nD,
      r.2.mem ((c.tc : Thread Cert.LruFwdRefIdeal.nD Cert.LruFwdRefIdeal.τ).loc Cert.LruFwdRefIdeal.main_arg0) = m ((c.tc : Thread Cert.LruFwdRefIdeal.nD Cert.LruFwdRefIdeal.τ).loc Cert.LruFwdRefIdeal.main_arg0)
      ∧ r.2.mem ((c.tc : Thread Cert.LruFwdRefIdeal.nD Cert.LruFwdRefIdeal.τ).loc Cert.LruFwdRefIdeal.main_arg1) = m ((c.tc : Thread Cert.LruFwdRefIdeal.nD Cert.LruFwdRefIdeal.τ).loc Cert.LruFwdRefIdeal.main_arg1)
      ∧ r.2.mem ((c.tc : Thread Cert.LruFwdRefIdeal.nD Cert.LruFwdRefIdeal.τ).loc Cert.LruFwdRefIdeal.main_arg2) = m ((c.tc : Thread Cert.LruFwdRefIdeal.nD Cert.LruFwdRefIdeal.τ).loc Cert.LruFwdRefIdeal.main_arg2)
      ∧ r.2.mem ((c.tc : Thread Cert.LruFwdRefIdeal.nD Cert.LruFwdRefIdeal.τ).loc Cert.LruFwdRefIdeal.main_arg3) = m ((c.tc : Thread Cert.LruFwdRefIdeal.nD Cert.LruFwdRefIdeal.τ).loc Cert.LruFwdRefIdeal.main_arg3)
      ∧ r.2.mem ((c.tc : Thread Cert.LruFwdRefIdeal.nD Cert.LruFwdRefIdeal.τ).loc Cert.LruFwdRefIdeal.main_arg4) = m ((c.tc : Thread Cert.LruFwdRefIdeal.nD Cert.LruFwdRefIdeal.τ).loc Cert.LruFwdRefIdeal.main_arg4)
      ∧ r.2.mem ((c.tc : Thread Cert.LruFwdRefIdeal.nD Cert.LruFwdRefIdeal.τ).loc Cert.LruFwdRefIdeal.main_arg5) = m ((c.tc : Thread Cert.LruFwdRefIdeal.nD Cert.LruFwdRefIdeal.τ).loc Cert.LruFwdRefIdeal.main_arg5)
      ∧ r.2.mem ((c.tc : Thread Cert.LruFwdRefIdeal.nD Cert.LruFwdRefIdeal.τ).loc Cert.LruFwdRefIdeal.main_arg6) = m ((c.tc : Thread Cert.LruFwdRefIdeal.nD Cert.LruFwdRefIdeal.τ).loc Cert.LruFwdRefIdeal.main_arg6)
      ∧ r.2.mem ((c.tc : Thread Cert.LruFwdRefIdeal.nD Cert.LruFwdRefIdeal.τ).loc Cert.LruFwdRefIdeal.main_arg7) = m ((c.tc : Thread Cert.LruFwdRefIdeal.nD Cert.LruFwdRefIdeal.τ).loc Cert.LruFwdRefIdeal.main_arg7)
      ∧ r.2.mem ((c.tc : Thread Cert.LruFwdRefIdeal.nD Cert.LruFwdRefIdeal.τ).loc Cert.LruFwdRefIdeal.main_arg8) = m ((c.tc : Thread Cert.LruFwdRefIdeal.nD Cert.LruFwdRefIdeal.τ).loc Cert.LruFwdRefIdeal.main_arg8))
      ∧ r.2.sem = fun _ => 0)

def quiescent_FfnCtx [hFfnCtx : Cert.FfnCtx.Facts] : Prop :=
  ∀ (m : (ℓ : Loc Cert.FfnCtx.nD Cert.FfnCtx.τ Cert.FfnCtx.sig) → Buf (Elt Bits) ℓ) (g : Dev Cert.FfnCtx.nD → PrngReg), Pre_FfnCtx m →
    θ_run (Cert.FfnCtx.defs (F := Bits)) (onTc (τ := Cert.FfnCtx.τ) (Cert.FfnCtx.main (F := Bits))) ⟨m, fun _ => 0, g⟩ (fun r => (∀ c : Dev Cert.FfnCtx.nD,
      r.2.mem ((c.tc : Thread Cert.FfnCtx.nD Cert.FfnCtx.τ).loc Cert.FfnCtx.main_arg0) = m ((c.tc : Thread Cert.FfnCtx.nD Cert.FfnCtx.τ).loc Cert.FfnCtx.main_arg0)
      ∧ r.2.mem ((c.tc : Thread Cert.FfnCtx.nD Cert.FfnCtx.τ).loc Cert.FfnCtx.main_arg1) = m ((c.tc : Thread Cert.FfnCtx.nD Cert.FfnCtx.τ).loc Cert.FfnCtx.main_arg1)
      ∧ r.2.mem ((c.tc : Thread Cert.FfnCtx.nD Cert.FfnCtx.τ).loc Cert.FfnCtx.main_arg2) = m ((c.tc : Thread Cert.FfnCtx.nD Cert.FfnCtx.τ).loc Cert.FfnCtx.main_arg2)
      ∧ r.2.mem ((c.tc : Thread Cert.FfnCtx.nD Cert.FfnCtx.τ).loc Cert.FfnCtx.main_arg3) = m ((c.tc : Thread Cert.FfnCtx.nD Cert.FfnCtx.τ).loc Cert.FfnCtx.main_arg3)
      ∧ r.2.mem ((c.tc : Thread Cert.FfnCtx.nD Cert.FfnCtx.τ).loc Cert.FfnCtx.main_arg4) = m ((c.tc : Thread Cert.FfnCtx.nD Cert.FfnCtx.τ).loc Cert.FfnCtx.main_arg4))
      ∧ r.2.sem = fun _ => 0)

def quiescent_FfnCtxIdeal [hFfnCtxIdeal : Cert.FfnCtxIdeal.Facts] : Prop :=
  ∀ (m : (ℓ : Loc Cert.FfnCtxIdeal.nD Cert.FfnCtxIdeal.τ Cert.FfnCtxIdeal.sig) → Buf (Elt Ideal) ℓ) (g : Dev Cert.FfnCtxIdeal.nD → PrngReg), Pre_FfnCtxIdeal m →
    θ_run (Cert.FfnCtxIdeal.defs (F := Ideal)) (onTc (τ := Cert.FfnCtxIdeal.τ) (Cert.FfnCtxIdeal.main (F := Ideal))) ⟨m, fun _ => 0, g⟩ (fun r => (∀ c : Dev Cert.FfnCtxIdeal.nD,
      r.2.mem ((c.tc : Thread Cert.FfnCtxIdeal.nD Cert.FfnCtxIdeal.τ).loc Cert.FfnCtxIdeal.main_arg0) = m ((c.tc : Thread Cert.FfnCtxIdeal.nD Cert.FfnCtxIdeal.τ).loc Cert.FfnCtxIdeal.main_arg0)
      ∧ r.2.mem ((c.tc : Thread Cert.FfnCtxIdeal.nD Cert.FfnCtxIdeal.τ).loc Cert.FfnCtxIdeal.main_arg1) = m ((c.tc : Thread Cert.FfnCtxIdeal.nD Cert.FfnCtxIdeal.τ).loc Cert.FfnCtxIdeal.main_arg1)
      ∧ r.2.mem ((c.tc : Thread Cert.FfnCtxIdeal.nD Cert.FfnCtxIdeal.τ).loc Cert.FfnCtxIdeal.main_arg2) = m ((c.tc : Thread Cert.FfnCtxIdeal.nD Cert.FfnCtxIdeal.τ).loc Cert.FfnCtxIdeal.main_arg2)
      ∧ r.2.mem ((c.tc : Thread Cert.FfnCtxIdeal.nD Cert.FfnCtxIdeal.τ).loc Cert.FfnCtxIdeal.main_arg3) = m ((c.tc : Thread Cert.FfnCtxIdeal.nD Cert.FfnCtxIdeal.τ).loc Cert.FfnCtxIdeal.main_arg3)
      ∧ r.2.mem ((c.tc : Thread Cert.FfnCtxIdeal.nD Cert.FfnCtxIdeal.τ).loc Cert.FfnCtxIdeal.main_arg4) = m ((c.tc : Thread Cert.FfnCtxIdeal.nD Cert.FfnCtxIdeal.τ).loc Cert.FfnCtxIdeal.main_arg4))
      ∧ r.2.sem = fun _ => 0)

def quiescent_FfnCtxIdeal_pre_ffn_ctx_finite [hFfnCtxIdeal : Cert.FfnCtxIdeal.Facts] [hPre_ffn_ctx_finite : Cert.Pre_ffn_ctx_finite.Facts] : Prop :=
  ∀ (m : (ℓ : Loc Cert.FfnCtxIdeal.nD Cert.FfnCtxIdeal.τ Cert.FfnCtxIdeal.sig) → Buf (Elt Ideal) ℓ) (g : Dev Cert.FfnCtxIdeal.nD → PrngReg), Pre_FfnCtxIdeal_ffn_ctx_finite m →
    θ_run (Cert.FfnCtxIdeal.defs (F := Ideal)) (onTc (τ := Cert.FfnCtxIdeal.τ) (Cert.FfnCtxIdeal.main (F := Ideal))) ⟨m, fun _ => 0, g⟩ (fun r => (∀ c : Dev Cert.FfnCtxIdeal.nD,
      r.2.mem ((c.tc : Thread Cert.FfnCtxIdeal.nD Cert.FfnCtxIdeal.τ).loc Cert.FfnCtxIdeal.main_arg0) = m ((c.tc : Thread Cert.FfnCtxIdeal.nD Cert.FfnCtxIdeal.τ).loc Cert.FfnCtxIdeal.main_arg0)
      ∧ r.2.mem ((c.tc : Thread Cert.FfnCtxIdeal.nD Cert.FfnCtxIdeal.τ).loc Cert.FfnCtxIdeal.main_arg1) = m ((c.tc : Thread Cert.FfnCtxIdeal.nD Cert.FfnCtxIdeal.τ).loc Cert.FfnCtxIdeal.main_arg1)
      ∧ r.2.mem ((c.tc : Thread Cert.FfnCtxIdeal.nD Cert.FfnCtxIdeal.τ).loc Cert.FfnCtxIdeal.main_arg2) = m ((c.tc : Thread Cert.FfnCtxIdeal.nD Cert.FfnCtxIdeal.τ).loc Cert.FfnCtxIdeal.main_arg2)
      ∧ r.2.mem ((c.tc : Thread Cert.FfnCtxIdeal.nD Cert.FfnCtxIdeal.τ).loc Cert.FfnCtxIdeal.main_arg3) = m ((c.tc : Thread Cert.FfnCtxIdeal.nD Cert.FfnCtxIdeal.τ).loc Cert.FfnCtxIdeal.main_arg3)
      ∧ r.2.mem ((c.tc : Thread Cert.FfnCtxIdeal.nD Cert.FfnCtxIdeal.τ).loc Cert.FfnCtxIdeal.main_arg4) = m ((c.tc : Thread Cert.FfnCtxIdeal.nD Cert.FfnCtxIdeal.τ).loc Cert.FfnCtxIdeal.main_arg4))
      ∧ r.2.sem = fun _ => 0)

def quiescent_FfnCtxRefIdeal [hFfnCtxRefIdeal : Cert.FfnCtxRefIdeal.Facts] : Prop :=
  ∀ (m : (ℓ : Loc Cert.FfnCtxRefIdeal.nD Cert.FfnCtxRefIdeal.τ Cert.FfnCtxRefIdeal.sig) → Buf (Elt Ideal) ℓ) (g : Dev Cert.FfnCtxRefIdeal.nD → PrngReg), Pre_FfnCtxRefIdeal m →
    θ_run (Cert.FfnCtxRefIdeal.defs (F := Ideal)) (onTc (τ := Cert.FfnCtxRefIdeal.τ) (Cert.FfnCtxRefIdeal.main (F := Ideal))) ⟨m, fun _ => 0, g⟩ (fun r => (∀ c : Dev Cert.FfnCtxRefIdeal.nD,
      r.2.mem ((c.tc : Thread Cert.FfnCtxRefIdeal.nD Cert.FfnCtxRefIdeal.τ).loc Cert.FfnCtxRefIdeal.main_arg0) = m ((c.tc : Thread Cert.FfnCtxRefIdeal.nD Cert.FfnCtxRefIdeal.τ).loc Cert.FfnCtxRefIdeal.main_arg0)
      ∧ r.2.mem ((c.tc : Thread Cert.FfnCtxRefIdeal.nD Cert.FfnCtxRefIdeal.τ).loc Cert.FfnCtxRefIdeal.main_arg1) = m ((c.tc : Thread Cert.FfnCtxRefIdeal.nD Cert.FfnCtxRefIdeal.τ).loc Cert.FfnCtxRefIdeal.main_arg1)
      ∧ r.2.mem ((c.tc : Thread Cert.FfnCtxRefIdeal.nD Cert.FfnCtxRefIdeal.τ).loc Cert.FfnCtxRefIdeal.main_arg2) = m ((c.tc : Thread Cert.FfnCtxRefIdeal.nD Cert.FfnCtxRefIdeal.τ).loc Cert.FfnCtxRefIdeal.main_arg2)
      ∧ r.2.mem ((c.tc : Thread Cert.FfnCtxRefIdeal.nD Cert.FfnCtxRefIdeal.τ).loc Cert.FfnCtxRefIdeal.main_arg3) = m ((c.tc : Thread Cert.FfnCtxRefIdeal.nD Cert.FfnCtxRefIdeal.τ).loc Cert.FfnCtxRefIdeal.main_arg3)
      ∧ r.2.mem ((c.tc : Thread Cert.FfnCtxRefIdeal.nD Cert.FfnCtxRefIdeal.τ).loc Cert.FfnCtxRefIdeal.main_arg4) = m ((c.tc : Thread Cert.FfnCtxRefIdeal.nD Cert.FfnCtxRefIdeal.τ).loc Cert.FfnCtxRefIdeal.main_arg4))
      ∧ r.2.sem = fun _ => 0)

def quiescent_FfnCtxRefIdeal_pre_ffn_ctx_finite [hFfnCtxRefIdeal : Cert.FfnCtxRefIdeal.Facts] [hPre_ffn_ctx_finite : Cert.Pre_ffn_ctx_finite.Facts] : Prop :=
  ∀ (m : (ℓ : Loc Cert.FfnCtxRefIdeal.nD Cert.FfnCtxRefIdeal.τ Cert.FfnCtxRefIdeal.sig) → Buf (Elt Ideal) ℓ) (g : Dev Cert.FfnCtxRefIdeal.nD → PrngReg), Pre_FfnCtxRefIdeal_ffn_ctx_finite m →
    θ_run (Cert.FfnCtxRefIdeal.defs (F := Ideal)) (onTc (τ := Cert.FfnCtxRefIdeal.τ) (Cert.FfnCtxRefIdeal.main (F := Ideal))) ⟨m, fun _ => 0, g⟩ (fun r => (∀ c : Dev Cert.FfnCtxRefIdeal.nD,
      r.2.mem ((c.tc : Thread Cert.FfnCtxRefIdeal.nD Cert.FfnCtxRefIdeal.τ).loc Cert.FfnCtxRefIdeal.main_arg0) = m ((c.tc : Thread Cert.FfnCtxRefIdeal.nD Cert.FfnCtxRefIdeal.τ).loc Cert.FfnCtxRefIdeal.main_arg0)
      ∧ r.2.mem ((c.tc : Thread Cert.FfnCtxRefIdeal.nD Cert.FfnCtxRefIdeal.τ).loc Cert.FfnCtxRefIdeal.main_arg1) = m ((c.tc : Thread Cert.FfnCtxRefIdeal.nD Cert.FfnCtxRefIdeal.τ).loc Cert.FfnCtxRefIdeal.main_arg1)
      ∧ r.2.mem ((c.tc : Thread Cert.FfnCtxRefIdeal.nD Cert.FfnCtxRefIdeal.τ).loc Cert.FfnCtxRefIdeal.main_arg2) = m ((c.tc : Thread Cert.FfnCtxRefIdeal.nD Cert.FfnCtxRefIdeal.τ).loc Cert.FfnCtxRefIdeal.main_arg2)
      ∧ r.2.mem ((c.tc : Thread Cert.FfnCtxRefIdeal.nD Cert.FfnCtxRefIdeal.τ).loc Cert.FfnCtxRefIdeal.main_arg3) = m ((c.tc : Thread Cert.FfnCtxRefIdeal.nD Cert.FfnCtxRefIdeal.τ).loc Cert.FfnCtxRefIdeal.main_arg3)
      ∧ r.2.mem ((c.tc : Thread Cert.FfnCtxRefIdeal.nD Cert.FfnCtxRefIdeal.τ).loc Cert.FfnCtxRefIdeal.main_arg4) = m ((c.tc : Thread Cert.FfnCtxRefIdeal.nD Cert.FfnCtxRefIdeal.τ).loc Cert.FfnCtxRefIdeal.main_arg4))
      ∧ r.2.sem = fun _ => 0)

def quiescent_InprojCtx [hInprojCtx : Cert.InprojCtx.Facts] : Prop :=
  ∀ (m : (ℓ : Loc Cert.InprojCtx.nD Cert.InprojCtx.τ Cert.InprojCtx.sig) → Buf (Elt Bits) ℓ) (g : Dev Cert.InprojCtx.nD → PrngReg), Pre_InprojCtx m →
    θ_run (Cert.InprojCtx.defs (F := Bits)) (onTc (τ := Cert.InprojCtx.τ) (Cert.InprojCtx.main (F := Bits))) ⟨m, fun _ => 0, g⟩ (fun r => (∀ c : Dev Cert.InprojCtx.nD,
      r.2.mem ((c.tc : Thread Cert.InprojCtx.nD Cert.InprojCtx.τ).loc Cert.InprojCtx.main_arg0) = m ((c.tc : Thread Cert.InprojCtx.nD Cert.InprojCtx.τ).loc Cert.InprojCtx.main_arg0)
      ∧ r.2.mem ((c.tc : Thread Cert.InprojCtx.nD Cert.InprojCtx.τ).loc Cert.InprojCtx.main_arg1) = m ((c.tc : Thread Cert.InprojCtx.nD Cert.InprojCtx.τ).loc Cert.InprojCtx.main_arg1)
      ∧ r.2.mem ((c.tc : Thread Cert.InprojCtx.nD Cert.InprojCtx.τ).loc Cert.InprojCtx.main_arg2) = m ((c.tc : Thread Cert.InprojCtx.nD Cert.InprojCtx.τ).loc Cert.InprojCtx.main_arg2)
      ∧ r.2.mem ((c.tc : Thread Cert.InprojCtx.nD Cert.InprojCtx.τ).loc Cert.InprojCtx.main_arg3) = m ((c.tc : Thread Cert.InprojCtx.nD Cert.InprojCtx.τ).loc Cert.InprojCtx.main_arg3)
      ∧ r.2.mem ((c.tc : Thread Cert.InprojCtx.nD Cert.InprojCtx.τ).loc Cert.InprojCtx.main_arg4) = m ((c.tc : Thread Cert.InprojCtx.nD Cert.InprojCtx.τ).loc Cert.InprojCtx.main_arg4))
      ∧ r.2.sem = fun _ => 0)

def quiescent_InprojCtxIdeal [hInprojCtxIdeal : Cert.InprojCtxIdeal.Facts] : Prop :=
  ∀ (m : (ℓ : Loc Cert.InprojCtxIdeal.nD Cert.InprojCtxIdeal.τ Cert.InprojCtxIdeal.sig) → Buf (Elt Ideal) ℓ) (g : Dev Cert.InprojCtxIdeal.nD → PrngReg), Pre_InprojCtxIdeal m →
    θ_run (Cert.InprojCtxIdeal.defs (F := Ideal)) (onTc (τ := Cert.InprojCtxIdeal.τ) (Cert.InprojCtxIdeal.main (F := Ideal))) ⟨m, fun _ => 0, g⟩ (fun r => (∀ c : Dev Cert.InprojCtxIdeal.nD,
      r.2.mem ((c.tc : Thread Cert.InprojCtxIdeal.nD Cert.InprojCtxIdeal.τ).loc Cert.InprojCtxIdeal.main_arg0) = m ((c.tc : Thread Cert.InprojCtxIdeal.nD Cert.InprojCtxIdeal.τ).loc Cert.InprojCtxIdeal.main_arg0)
      ∧ r.2.mem ((c.tc : Thread Cert.InprojCtxIdeal.nD Cert.InprojCtxIdeal.τ).loc Cert.InprojCtxIdeal.main_arg1) = m ((c.tc : Thread Cert.InprojCtxIdeal.nD Cert.InprojCtxIdeal.τ).loc Cert.InprojCtxIdeal.main_arg1)
      ∧ r.2.mem ((c.tc : Thread Cert.InprojCtxIdeal.nD Cert.InprojCtxIdeal.τ).loc Cert.InprojCtxIdeal.main_arg2) = m ((c.tc : Thread Cert.InprojCtxIdeal.nD Cert.InprojCtxIdeal.τ).loc Cert.InprojCtxIdeal.main_arg2)
      ∧ r.2.mem ((c.tc : Thread Cert.InprojCtxIdeal.nD Cert.InprojCtxIdeal.τ).loc Cert.InprojCtxIdeal.main_arg3) = m ((c.tc : Thread Cert.InprojCtxIdeal.nD Cert.InprojCtxIdeal.τ).loc Cert.InprojCtxIdeal.main_arg3)
      ∧ r.2.mem ((c.tc : Thread Cert.InprojCtxIdeal.nD Cert.InprojCtxIdeal.τ).loc Cert.InprojCtxIdeal.main_arg4) = m ((c.tc : Thread Cert.InprojCtxIdeal.nD Cert.InprojCtxIdeal.τ).loc Cert.InprojCtxIdeal.main_arg4))
      ∧ r.2.sem = fun _ => 0)

def quiescent_InprojCtxRefIdeal [hInprojCtxRefIdeal : Cert.InprojCtxRefIdeal.Facts] : Prop :=
  ∀ (m : (ℓ : Loc Cert.InprojCtxRefIdeal.nD Cert.InprojCtxRefIdeal.τ Cert.InprojCtxRefIdeal.sig) → Buf (Elt Ideal) ℓ) (g : Dev Cert.InprojCtxRefIdeal.nD → PrngReg), Pre_InprojCtxRefIdeal m →
    θ_run (Cert.InprojCtxRefIdeal.defs (F := Ideal)) (onTc (τ := Cert.InprojCtxRefIdeal.τ) (Cert.InprojCtxRefIdeal.main (F := Ideal))) ⟨m, fun _ => 0, g⟩ (fun r => (∀ c : Dev Cert.InprojCtxRefIdeal.nD,
      r.2.mem ((c.tc : Thread Cert.InprojCtxRefIdeal.nD Cert.InprojCtxRefIdeal.τ).loc Cert.InprojCtxRefIdeal.main_arg0) = m ((c.tc : Thread Cert.InprojCtxRefIdeal.nD Cert.InprojCtxRefIdeal.τ).loc Cert.InprojCtxRefIdeal.main_arg0)
      ∧ r.2.mem ((c.tc : Thread Cert.InprojCtxRefIdeal.nD Cert.InprojCtxRefIdeal.τ).loc Cert.InprojCtxRefIdeal.main_arg1) = m ((c.tc : Thread Cert.InprojCtxRefIdeal.nD Cert.InprojCtxRefIdeal.τ).loc Cert.InprojCtxRefIdeal.main_arg1)
      ∧ r.2.mem ((c.tc : Thread Cert.InprojCtxRefIdeal.nD Cert.InprojCtxRefIdeal.τ).loc Cert.InprojCtxRefIdeal.main_arg2) = m ((c.tc : Thread Cert.InprojCtxRefIdeal.nD Cert.InprojCtxRefIdeal.τ).loc Cert.InprojCtxRefIdeal.main_arg2)
      ∧ r.2.mem ((c.tc : Thread Cert.InprojCtxRefIdeal.nD Cert.InprojCtxRefIdeal.τ).loc Cert.InprojCtxRefIdeal.main_arg3) = m ((c.tc : Thread Cert.InprojCtxRefIdeal.nD Cert.InprojCtxRefIdeal.τ).loc Cert.InprojCtxRefIdeal.main_arg3)
      ∧ r.2.mem ((c.tc : Thread Cert.InprojCtxRefIdeal.nD Cert.InprojCtxRefIdeal.τ).loc Cert.InprojCtxRefIdeal.main_arg4) = m ((c.tc : Thread Cert.InprojCtxRefIdeal.nD Cert.InprojCtxRefIdeal.τ).loc Cert.InprojCtxRefIdeal.main_arg4))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationRefIdeal [hModulationRefIdeal : Cert.ModulationRefIdeal.Facts] : Prop :=
  ∀ (m : (ℓ : Loc Cert.ModulationRefIdeal.nD Cert.ModulationRefIdeal.τ Cert.ModulationRefIdeal.sig) → Buf (Elt Ideal) ℓ) (g : Dev Cert.ModulationRefIdeal.nD → PrngReg), Pre_ModulationRefIdeal m →
    θ_run (Cert.ModulationRefIdeal.defs (F := Ideal)) (onTc (τ := Cert.ModulationRefIdeal.τ) (Cert.ModulationRefIdeal.main (F := Ideal))) ⟨m, fun _ => 0, g⟩ (fun r => (∀ c : Dev Cert.ModulationRefIdeal.nD,
      r.2.mem ((c.tc : Thread Cert.ModulationRefIdeal.nD Cert.ModulationRefIdeal.τ).loc Cert.ModulationRefIdeal.main_arg0) = m ((c.tc : Thread Cert.ModulationRefIdeal.nD Cert.ModulationRefIdeal.τ).loc Cert.ModulationRefIdeal.main_arg0)
      ∧ r.2.mem ((c.tc : Thread Cert.ModulationRefIdeal.nD Cert.ModulationRefIdeal.τ).loc Cert.ModulationRefIdeal.main_arg1) = m ((c.tc : Thread Cert.ModulationRefIdeal.nD Cert.ModulationRefIdeal.τ).loc Cert.ModulationRefIdeal.main_arg1)
      ∧ r.2.mem ((c.tc : Thread Cert.ModulationRefIdeal.nD Cert.ModulationRefIdeal.τ).loc Cert.ModulationRefIdeal.main_arg2) = m ((c.tc : Thread Cert.ModulationRefIdeal.nD Cert.ModulationRefIdeal.τ).loc Cert.ModulationRefIdeal.main_arg2))
      ∧ r.2.sem = fun _ => 0)

def preserves_Ffn2_Ffn2Ideal : Prop :=
  True

def algebraic_Ffn2Ideal_Ffn2RefIdeal_pre_ffn2_finite [hFfn2Ideal : Cert.Ffn2Ideal.Facts] [hFfn2RefIdeal : Cert.Ffn2RefIdeal.Facts] [hPre_ffn2_finite : Cert.Pre_ffn2_finite.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.Ffn2RefIdeal.nD Cert.Ffn2RefIdeal.τ Cert.Ffn2RefIdeal.sig) → Buf (Elt Ideal) ℓ) (g' : Dev Cert.Ffn2RefIdeal.nD → PrngReg), Pre_Ffn2Ideal_ffn2_finite m →
    (∀ c : Dev Cert.Ffn2Ideal.nD,
      m' ((c.tc : Thread Cert.Ffn2RefIdeal.nD Cert.Ffn2RefIdeal.τ).loc Cert.Ffn2RefIdeal.main_arg0) = m ((c.tc : Thread Cert.Ffn2Ideal.nD Cert.Ffn2Ideal.τ).loc Cert.Ffn2Ideal.main_arg0)
      ∧ m' ((c.tc : Thread Cert.Ffn2RefIdeal.nD Cert.Ffn2RefIdeal.τ).loc Cert.Ffn2RefIdeal.main_arg1) = m ((c.tc : Thread Cert.Ffn2Ideal.nD Cert.Ffn2Ideal.τ).loc Cert.Ffn2Ideal.main_arg1)
      ∧ m' ((c.tc : Thread Cert.Ffn2RefIdeal.nD Cert.Ffn2RefIdeal.τ).loc Cert.Ffn2RefIdeal.main_arg2) = m ((c.tc : Thread Cert.Ffn2Ideal.nD Cert.Ffn2Ideal.τ).loc Cert.Ffn2Ideal.main_arg2)
      ∧ m' ((c.tc : Thread Cert.Ffn2RefIdeal.nD Cert.Ffn2RefIdeal.τ).loc Cert.Ffn2RefIdeal.main_arg3) = m ((c.tc : Thread Cert.Ffn2Ideal.nD Cert.Ffn2Ideal.τ).loc Cert.Ffn2Ideal.main_arg3)
      ∧ m' ((c.tc : Thread Cert.Ffn2RefIdeal.nD Cert.Ffn2RefIdeal.τ).loc Cert.Ffn2RefIdeal.main_arg4) = m ((c.tc : Thread Cert.Ffn2Ideal.nD Cert.Ffn2Ideal.τ).loc Cert.Ffn2Ideal.main_arg4)
      ∧ m' ((c.tc : Thread Cert.Ffn2RefIdeal.nD Cert.Ffn2RefIdeal.τ).loc Cert.Ffn2RefIdeal.main_arg5) = m ((c.tc : Thread Cert.Ffn2Ideal.nD Cert.Ffn2Ideal.τ).loc Cert.Ffn2Ideal.main_arg5)) →
    ∃ (v0 : (c : Dev Cert.Ffn2Ideal.nD) → Buf (Elt Ideal) ((c.tc : Thread Cert.Ffn2Ideal.nD Cert.Ffn2Ideal.τ).loc Cert.Ffn2Ideal.main_v5)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v5) = v0 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
          ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
          ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5))
      ∧ θ_run (Cert.Ffn2RefIdeal.defs (F := Ideal)) (onTc (τ := Cert.Ffn2RefIdeal.τ) (Cert.Ffn2RefIdeal.main (F := Ideal))) ⟨m', fun _ => 0, g'⟩ (fun r => ∀ c : Dev Cert.Ffn2RefIdeal.nD,
          r.2.mem ((c.tc : Thread Cert.Ffn2RefIdeal.nD Cert.Ffn2RefIdeal.τ).loc Cert.Ffn2RefIdeal.main_v54) = v0 c
          ∧ r.2.mem ((c.tc : Thread Cert.Ffn2RefIdeal.nD Cert.Ffn2RefIdeal.τ).loc Cert.Ffn2RefIdeal.main_arg0) = m' ((c.tc : Thread Cert.Ffn2RefIdeal.nD Cert.Ffn2RefIdeal.τ).loc Cert.Ffn2RefIdeal.main_arg0)
          ∧ r.2.mem ((c.tc : Thread Cert.Ffn2RefIdeal.nD Cert.Ffn2RefIdeal.τ).loc Cert.Ffn2RefIdeal.main_arg1) = m' ((c.tc : Thread Cert.Ffn2RefIdeal.nD Cert.Ffn2RefIdeal.τ).loc Cert.Ffn2RefIdeal.main_arg1)
          ∧ r.2.mem ((c.tc : Thread Cert.Ffn2RefIdeal.nD Cert.Ffn2RefIdeal.τ).loc Cert.Ffn2RefIdeal.main_arg2) = m' ((c.tc : Thread Cert.Ffn2RefIdeal.nD Cert.Ffn2RefIdeal.τ).loc Cert.Ffn2RefIdeal.main_arg2)
          ∧ r.2.mem ((c.tc : Thread Cert.Ffn2RefIdeal.nD Cert.Ffn2RefIdeal.τ).loc Cert.Ffn2RefIdeal.main_arg3) = m' ((c.tc : Thread Cert.Ffn2RefIdeal.nD Cert.Ffn2RefIdeal.τ).loc Cert.Ffn2RefIdeal.main_arg3)
          ∧ r.2.mem ((c.tc : Thread Cert.Ffn2RefIdeal.nD Cert.Ffn2RefIdeal.τ).loc Cert.Ffn2RefIdeal.main_arg4) = m' ((c.tc : Thread Cert.Ffn2RefIdeal.nD Cert.Ffn2RefIdeal.τ).loc Cert.Ffn2RefIdeal.main_arg4)
          ∧ r.2.mem ((c.tc : Thread Cert.Ffn2RefIdeal.nD Cert.Ffn2RefIdeal.τ).loc Cert.Ffn2RefIdeal.main_arg5) = m' ((c.tc : Thread Cert.Ffn2RefIdeal.nD Cert.Ffn2RefIdeal.τ).loc Cert.Ffn2RefIdeal.main_arg5))

def preserves_Ffn1_Ffn1Ideal : Prop :=
  True

def algebraic_Ffn1Ideal_Ffn1RefIdeal_pre_ffn1_finite [hFfn1Ideal : Cert.Ffn1Ideal.Facts] [hFfn1RefIdeal : Cert.Ffn1RefIdeal.Facts] [hPre_ffn1_finite : Cert.Pre_ffn1_finite.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1RefIdeal.nD Cert.Ffn1RefIdeal.τ Cert.Ffn1RefIdeal.sig) → Buf (Elt Ideal) ℓ) (g' : Dev Cert.Ffn1RefIdeal.nD → PrngReg), Pre_Ffn1Ideal_ffn1_finite m →
    (∀ c : Dev Cert.Ffn1Ideal.nD,
      m' ((c.tc : Thread Cert.Ffn1RefIdeal.nD Cert.Ffn1RefIdeal.τ).loc Cert.Ffn1RefIdeal.main_arg0) = m ((c.tc : Thread Cert.Ffn1Ideal.nD Cert.Ffn1Ideal.τ).loc Cert.Ffn1Ideal.main_arg0)
      ∧ m' ((c.tc : Thread Cert.Ffn1RefIdeal.nD Cert.Ffn1RefIdeal.τ).loc Cert.Ffn1RefIdeal.main_arg1) = m ((c.tc : Thread Cert.Ffn1Ideal.nD Cert.Ffn1Ideal.τ).loc Cert.Ffn1Ideal.main_arg1)
      ∧ m' ((c.tc : Thread Cert.Ffn1RefIdeal.nD Cert.Ffn1RefIdeal.τ).loc Cert.Ffn1RefIdeal.main_arg2) = m ((c.tc : Thread Cert.Ffn1Ideal.nD Cert.Ffn1Ideal.τ).loc Cert.Ffn1Ideal.main_arg2)
      ∧ m' ((c.tc : Thread Cert.Ffn1RefIdeal.nD Cert.Ffn1RefIdeal.τ).loc Cert.Ffn1RefIdeal.main_arg3) = m ((c.tc : Thread Cert.Ffn1Ideal.nD Cert.Ffn1Ideal.τ).loc Cert.Ffn1Ideal.main_arg3)
      ∧ m' ((c.tc : Thread Cert.Ffn1RefIdeal.nD Cert.Ffn1RefIdeal.τ).loc Cert.Ffn1RefIdeal.main_arg4) = m ((c.tc : Thread Cert.Ffn1Ideal.nD Cert.Ffn1Ideal.τ).loc Cert.Ffn1Ideal.main_arg4)) →
    ∃ (v0 : (c : Dev Cert.Ffn1Ideal.nD) → Buf (Elt Ideal) ((c.tc : Thread Cert.Ffn1Ideal.nD Cert.Ffn1Ideal.τ).loc Cert.Ffn1Ideal.main_v30)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v30) = v0 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4))
      ∧ θ_run (Cert.Ffn1RefIdeal.defs (F := Ideal)) (onTc (τ := Cert.Ffn1RefIdeal.τ) (Cert.Ffn1RefIdeal.main (F := Ideal))) ⟨m', fun _ => 0, g'⟩ (fun r => ∀ c : Dev Cert.Ffn1RefIdeal.nD,
          r.2.mem ((c.tc : Thread Cert.Ffn1RefIdeal.nD Cert.Ffn1RefIdeal.τ).loc Cert.Ffn1RefIdeal.main_v71) = v0 c
          ∧ r.2.mem ((c.tc : Thread Cert.Ffn1RefIdeal.nD Cert.Ffn1RefIdeal.τ).loc Cert.Ffn1RefIdeal.main_arg0) = m' ((c.tc : Thread Cert.Ffn1RefIdeal.nD Cert.Ffn1RefIdeal.τ).loc Cert.Ffn1RefIdeal.main_arg0)
          ∧ r.2.mem ((c.tc : Thread Cert.Ffn1RefIdeal.nD Cert.Ffn1RefIdeal.τ).loc Cert.Ffn1RefIdeal.main_arg1) = m' ((c.tc : Thread Cert.Ffn1RefIdeal.nD Cert.Ffn1RefIdeal.τ).loc Cert.Ffn1RefIdeal.main_arg1)
          ∧ r.2.mem ((c.tc : Thread Cert.Ffn1RefIdeal.nD Cert.Ffn1RefIdeal.τ).loc Cert.Ffn1RefIdeal.main_arg2) = m' ((c.tc : Thread Cert.Ffn1RefIdeal.nD Cert.Ffn1RefIdeal.τ).loc Cert.Ffn1RefIdeal.main_arg2)
          ∧ r.2.mem ((c.tc : Thread Cert.Ffn1RefIdeal.nD Cert.Ffn1RefIdeal.τ).loc Cert.Ffn1RefIdeal.main_arg3) = m' ((c.tc : Thread Cert.Ffn1RefIdeal.nD Cert.Ffn1RefIdeal.τ).loc Cert.Ffn1RefIdeal.main_arg3)
          ∧ r.2.mem ((c.tc : Thread Cert.Ffn1RefIdeal.nD Cert.Ffn1RefIdeal.τ).loc Cert.Ffn1RefIdeal.main_arg4) = m' ((c.tc : Thread Cert.Ffn1RefIdeal.nD Cert.Ffn1RefIdeal.τ).loc Cert.Ffn1RefIdeal.main_arg4))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v3_0)) (v1 : (c : Dev Cert.InprojIdeal.nD) → Buf (Elt Ideal) ((c.tc : Thread Cert.InprojIdeal.nD Cert.InprojIdeal.τ).loc Cert.InprojIdeal.main_v3_1)) (v2 : (c : Dev Cert.InprojIdeal.nD) → Buf (Elt Ideal) ((c.tc : Thread Cert.InprojIdeal.nD Cert.InprojIdeal.τ).loc Cert.InprojIdeal.main_v3_2)) (v3 : (c : Dev Cert.InprojIdeal.nD) → Buf (Elt Ideal) ((c.tc : Thread Cert.InprojIdeal.nD Cert.InprojIdeal.τ).loc Cert.InprojIdeal.main_v3_3)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v3_0) = v0 c
          ∧ r.2.mem ((c.tc : Thread Cert.InprojIdeal.nD Cert.InprojIdeal.τ).loc Cert.InprojIdeal.main_v3_1) = v1 c
          ∧ r.2.mem ((c.tc : Thread Cert.InprojIdeal.nD Cert.InprojIdeal.τ).loc Cert.InprojIdeal.main_v3_2) = v2 c
          ∧ r.2.mem ((c.tc : Thread Cert.InprojIdeal.nD Cert.InprojIdeal.τ).loc Cert.InprojIdeal.main_v3_3) = v3 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v42) = v0 c
          ∧ r.2.mem ((c.tc : Thread Cert.InprojRefIdeal.nD Cert.InprojRefIdeal.τ).loc Cert.InprojRefIdeal.main_v43) = v1 c
          ∧ r.2.mem ((c.tc : Thread Cert.InprojRefIdeal.nD Cert.InprojRefIdeal.τ).loc Cert.InprojRefIdeal.main_v58) = v2 c
          ∧ r.2.mem ((c.tc : Thread Cert.InprojRefIdeal.nD Cert.InprojRefIdeal.τ).loc Cert.InprojRefIdeal.main_v66) = v3 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_LruFwd_LruFwdIdeal : Prop :=
  True

def algebraic_LruFwdIdeal_LruFwdRefIdeal [hLruFwdIdeal : Cert.LruFwdIdeal.Facts] [hLruFwdRefIdeal : Cert.LruFwdRefIdeal.Facts] : Prop :=
  ∀ (m : (ℓ : Loc Cert.LruFwdIdeal.nD Cert.LruFwdIdeal.τ Cert.LruFwdIdeal.sig) → Buf (Elt Ideal) ℓ) (g : Dev Cert.LruFwdIdeal.nD → PrngReg)
    (m' : (ℓ : Loc Cert.LruFwdRefIdeal.nD Cert.LruFwdRefIdeal.τ Cert.LruFwdRefIdeal.sig) → Buf (Elt Ideal) ℓ) (g' : Dev Cert.LruFwdRefIdeal.nD → PrngReg), Pre_LruFwdIdeal m →
    (∀ c : Dev Cert.LruFwdIdeal.nD,
      m' ((c.tc : Thread Cert.LruFwdRefIdeal.nD Cert.LruFwdRefIdeal.τ).loc Cert.LruFwdRefIdeal.main_arg0) = m ((c.tc : Thread Cert.LruFwdIdeal.nD Cert.LruFwdIdeal.τ).loc Cert.LruFwdIdeal.main_arg0)
      ∧ m' ((c.tc : Thread Cert.LruFwdRefIdeal.nD Cert.LruFwdRefIdeal.τ).loc Cert.LruFwdRefIdeal.main_arg1) = m ((c.tc : Thread Cert.LruFwdIdeal.nD Cert.LruFwdIdeal.τ).loc Cert.LruFwdIdeal.main_arg1)
      ∧ m' ((c.tc : Thread Cert.LruFwdRefIdeal.nD Cert.LruFwdRefIdeal.τ).loc Cert.LruFwdRefIdeal.main_arg2) = m ((c.tc : Thread Cert.LruFwdIdeal.nD Cert.LruFwdIdeal.τ).loc Cert.LruFwdIdeal.main_arg2)
      ∧ m' ((c.tc : Thread Cert.LruFwdRefIdeal.nD Cert.LruFwdRefIdeal.τ).loc Cert.LruFwdRefIdeal.main_arg3) = m ((c.tc : Thread Cert.LruFwdIdeal.nD Cert.LruFwdIdeal.τ).loc Cert.LruFwdIdeal.main_arg3)
      ∧ m' ((c.tc : Thread Cert.LruFwdRefIdeal.nD Cert.LruFwdRefIdeal.τ).loc Cert.LruFwdRefIdeal.main_arg4) = m ((c.tc : Thread Cert.LruFwdIdeal.nD Cert.LruFwdIdeal.τ).loc Cert.LruFwdIdeal.main_arg4)
      ∧ m' ((c.tc : Thread Cert.LruFwdRefIdeal.nD Cert.LruFwdRefIdeal.τ).loc Cert.LruFwdRefIdeal.main_arg5) = m ((c.tc : Thread Cert.LruFwdIdeal.nD Cert.LruFwdIdeal.τ).loc Cert.LruFwdIdeal.main_arg5)
      ∧ m' ((c.tc : Thread Cert.LruFwdRefIdeal.nD Cert.LruFwdRefIdeal.τ).loc Cert.LruFwdRefIdeal.main_arg6) = m ((c.tc : Thread Cert.LruFwdIdeal.nD Cert.LruFwdIdeal.τ).loc Cert.LruFwdIdeal.main_arg6)
      ∧ m' ((c.tc : Thread Cert.LruFwdRefIdeal.nD Cert.LruFwdRefIdeal.τ).loc Cert.LruFwdRefIdeal.main_arg7) = m ((c.tc : Thread Cert.LruFwdIdeal.nD Cert.LruFwdIdeal.τ).loc Cert.LruFwdIdeal.main_arg7)
      ∧ m' ((c.tc : Thread Cert.LruFwdRefIdeal.nD Cert.LruFwdRefIdeal.τ).loc Cert.LruFwdRefIdeal.main_arg8) = m ((c.tc : Thread Cert.LruFwdIdeal.nD Cert.LruFwdIdeal.τ).loc Cert.LruFwdIdeal.main_arg8)) →
    ∃ (v0 : (c : Dev Cert.LruFwdIdeal.nD) → Buf (Elt Ideal) ((c.tc : Thread Cert.LruFwdIdeal.nD Cert.LruFwdIdeal.τ).loc Cert.LruFwdIdeal.main_v15_0)),
      θ_run (Cert.LruFwdIdeal.defs (F := Ideal)) (onTc (τ := Cert.LruFwdIdeal.τ) (Cert.LruFwdIdeal.main (F := Ideal))) ⟨m, fun _ => 0, g⟩ (fun r => ∀ c : Dev Cert.LruFwdIdeal.nD,
          r.2.mem ((c.tc : Thread Cert.LruFwdIdeal.nD Cert.LruFwdIdeal.τ).loc Cert.LruFwdIdeal.main_v15_0) = v0 c
          ∧ r.2.mem ((c.tc : Thread Cert.LruFwdIdeal.nD Cert.LruFwdIdeal.τ).loc Cert.LruFwdIdeal.main_arg0) = m ((c.tc : Thread Cert.LruFwdIdeal.nD Cert.LruFwdIdeal.τ).loc Cert.LruFwdIdeal.main_arg0)
          ∧ r.2.mem ((c.tc : Thread Cert.LruFwdIdeal.nD Cert.LruFwdIdeal.τ).loc Cert.LruFwdIdeal.main_arg1) = m ((c.tc : Thread Cert.LruFwdIdeal.nD Cert.LruFwdIdeal.τ).loc Cert.LruFwdIdeal.main_arg1)
          ∧ r.2.mem ((c.tc : Thread Cert.LruFwdIdeal.nD Cert.LruFwdIdeal.τ).loc Cert.LruFwdIdeal.main_arg2) = m ((c.tc : Thread Cert.LruFwdIdeal.nD Cert.LruFwdIdeal.τ).loc Cert.LruFwdIdeal.main_arg2)
          ∧ r.2.mem ((c.tc : Thread Cert.LruFwdIdeal.nD Cert.LruFwdIdeal.τ).loc Cert.LruFwdIdeal.main_arg3) = m ((c.tc : Thread Cert.LruFwdIdeal.nD Cert.LruFwdIdeal.τ).loc Cert.LruFwdIdeal.main_arg3)
          ∧ r.2.mem ((c.tc : Thread Cert.LruFwdIdeal.nD Cert.LruFwdIdeal.τ).loc Cert.LruFwdIdeal.main_arg4) = m ((c.tc : Thread Cert.LruFwdIdeal.nD Cert.LruFwdIdeal.τ).loc Cert.LruFwdIdeal.main_arg4)
          ∧ r.2.mem ((c.tc : Thread Cert.LruFwdIdeal.nD Cert.LruFwdIdeal.τ).loc Cert.LruFwdIdeal.main_arg5) = m ((c.tc : Thread Cert.LruFwdIdeal.nD Cert.LruFwdIdeal.τ).loc Cert.LruFwdIdeal.main_arg5)
          ∧ r.2.mem ((c.tc : Thread Cert.LruFwdIdeal.nD Cert.LruFwdIdeal.τ).loc Cert.LruFwdIdeal.main_arg6) = m ((c.tc : Thread Cert.LruFwdIdeal.nD Cert.LruFwdIdeal.τ).loc Cert.LruFwdIdeal.main_arg6)
          ∧ r.2.mem ((c.tc : Thread Cert.LruFwdIdeal.nD Cert.LruFwdIdeal.τ).loc Cert.LruFwdIdeal.main_arg7) = m ((c.tc : Thread Cert.LruFwdIdeal.nD Cert.LruFwdIdeal.τ).loc Cert.LruFwdIdeal.main_arg7)
          ∧ r.2.mem ((c.tc : Thread Cert.LruFwdIdeal.nD Cert.LruFwdIdeal.τ).loc Cert.LruFwdIdeal.main_arg8) = m ((c.tc : Thread Cert.LruFwdIdeal.nD Cert.LruFwdIdeal.τ).loc Cert.LruFwdIdeal.main_arg8))
      ∧ θ_run (Cert.LruFwdRefIdeal.defs (F := Ideal)) (onTc (τ := Cert.LruFwdRefIdeal.τ) (Cert.LruFwdRefIdeal.main (F := Ideal))) ⟨m', fun _ => 0, g'⟩ (fun r => ∀ c : Dev Cert.LruFwdRefIdeal.nD,
          r.2.mem ((c.tc : Thread Cert.LruFwdRefIdeal.nD Cert.LruFwdRefIdeal.τ).loc Cert.LruFwdRefIdeal.main_v89) = v0 c
          ∧ r.2.mem ((c.tc : Thread Cert.LruFwdRefIdeal.nD Cert.LruFwdRefIdeal.τ).loc Cert.LruFwdRefIdeal.main_arg0) = m' ((c.tc : Thread Cert.LruFwdRefIdeal.nD Cert.LruFwdRefIdeal.τ).loc Cert.LruFwdRefIdeal.main_arg0)
          ∧ r.2.mem ((c.tc : Thread Cert.LruFwdRefIdeal.nD Cert.LruFwdRefIdeal.τ).loc Cert.LruFwdRefIdeal.main_arg1) = m' ((c.tc : Thread Cert.LruFwdRefIdeal.nD Cert.LruFwdRefIdeal.τ).loc Cert.LruFwdRefIdeal.main_arg1)
          ∧ r.2.mem ((c.tc : Thread Cert.LruFwdRefIdeal.nD Cert.LruFwdRefIdeal.τ).loc Cert.LruFwdRefIdeal.main_arg2) = m' ((c.tc : Thread Cert.LruFwdRefIdeal.nD Cert.LruFwdRefIdeal.τ).loc Cert.LruFwdRefIdeal.main_arg2)
          ∧ r.2.mem ((c.tc : Thread Cert.LruFwdRefIdeal.nD Cert.LruFwdRefIdeal.τ).loc Cert.LruFwdRefIdeal.main_arg3) = m' ((c.tc : Thread Cert.LruFwdRefIdeal.nD Cert.LruFwdRefIdeal.τ).loc Cert.LruFwdRefIdeal.main_arg3)
          ∧ r.2.mem ((c.tc : Thread Cert.LruFwdRefIdeal.nD Cert.LruFwdRefIdeal.τ).loc Cert.LruFwdRefIdeal.main_arg4) = m' ((c.tc : Thread Cert.LruFwdRefIdeal.nD Cert.LruFwdRefIdeal.τ).loc Cert.LruFwdRefIdeal.main_arg4)
          ∧ r.2.mem ((c.tc : Thread Cert.LruFwdRefIdeal.nD Cert.LruFwdRefIdeal.τ).loc Cert.LruFwdRefIdeal.main_arg5) = m' ((c.tc : Thread Cert.LruFwdRefIdeal.nD Cert.LruFwdRefIdeal.τ).loc Cert.LruFwdRefIdeal.main_arg5)
          ∧ r.2.mem ((c.tc : Thread Cert.LruFwdRefIdeal.nD Cert.LruFwdRefIdeal.τ).loc Cert.LruFwdRefIdeal.main_arg6) = m' ((c.tc : Thread Cert.LruFwdRefIdeal.nD Cert.LruFwdRefIdeal.τ).loc Cert.LruFwdRefIdeal.main_arg6)
          ∧ r.2.mem ((c.tc : Thread Cert.LruFwdRefIdeal.nD Cert.LruFwdRefIdeal.τ).loc Cert.LruFwdRefIdeal.main_arg7) = m' ((c.tc : Thread Cert.LruFwdRefIdeal.nD Cert.LruFwdRefIdeal.τ).loc Cert.LruFwdRefIdeal.main_arg7)
          ∧ r.2.mem ((c.tc : Thread Cert.LruFwdRefIdeal.nD Cert.LruFwdRefIdeal.τ).loc Cert.LruFwdRefIdeal.main_arg8) = m' ((c.tc : Thread Cert.LruFwdRefIdeal.nD Cert.LruFwdRefIdeal.τ).loc Cert.LruFwdRefIdeal.main_arg8))

def preserves_FfnCtx_FfnCtxIdeal : Prop :=
  True

def algebraic_FfnCtxIdeal_FfnCtxRefIdeal_pre_ffn_ctx_finite [hFfnCtxIdeal : Cert.FfnCtxIdeal.Facts] [hFfnCtxRefIdeal : Cert.FfnCtxRefIdeal.Facts] [hPre_ffn_ctx_finite : Cert.Pre_ffn_ctx_finite.Facts] : Prop :=
  ∀ (m : (ℓ : Loc Cert.FfnCtxIdeal.nD Cert.FfnCtxIdeal.τ Cert.FfnCtxIdeal.sig) → Buf (Elt Ideal) ℓ) (g : Dev Cert.FfnCtxIdeal.nD → PrngReg)
    (m' : (ℓ : Loc Cert.FfnCtxRefIdeal.nD Cert.FfnCtxRefIdeal.τ Cert.FfnCtxRefIdeal.sig) → Buf (Elt Ideal) ℓ) (g' : Dev Cert.FfnCtxRefIdeal.nD → PrngReg), Pre_FfnCtxIdeal_ffn_ctx_finite m →
    (∀ c : Dev Cert.FfnCtxIdeal.nD,
      m' ((c.tc : Thread Cert.FfnCtxRefIdeal.nD Cert.FfnCtxRefIdeal.τ).loc Cert.FfnCtxRefIdeal.main_arg0) = m ((c.tc : Thread Cert.FfnCtxIdeal.nD Cert.FfnCtxIdeal.τ).loc Cert.FfnCtxIdeal.main_arg0)
      ∧ m' ((c.tc : Thread Cert.FfnCtxRefIdeal.nD Cert.FfnCtxRefIdeal.τ).loc Cert.FfnCtxRefIdeal.main_arg1) = m ((c.tc : Thread Cert.FfnCtxIdeal.nD Cert.FfnCtxIdeal.τ).loc Cert.FfnCtxIdeal.main_arg1)
      ∧ m' ((c.tc : Thread Cert.FfnCtxRefIdeal.nD Cert.FfnCtxRefIdeal.τ).loc Cert.FfnCtxRefIdeal.main_arg2) = m ((c.tc : Thread Cert.FfnCtxIdeal.nD Cert.FfnCtxIdeal.τ).loc Cert.FfnCtxIdeal.main_arg2)
      ∧ m' ((c.tc : Thread Cert.FfnCtxRefIdeal.nD Cert.FfnCtxRefIdeal.τ).loc Cert.FfnCtxRefIdeal.main_arg3) = m ((c.tc : Thread Cert.FfnCtxIdeal.nD Cert.FfnCtxIdeal.τ).loc Cert.FfnCtxIdeal.main_arg3)
      ∧ m' ((c.tc : Thread Cert.FfnCtxRefIdeal.nD Cert.FfnCtxRefIdeal.τ).loc Cert.FfnCtxRefIdeal.main_arg4) = m ((c.tc : Thread Cert.FfnCtxIdeal.nD Cert.FfnCtxIdeal.τ).loc Cert.FfnCtxIdeal.main_arg4)) →
    ∃ (v0 : (c : Dev Cert.FfnCtxIdeal.nD) → Buf (Elt Ideal) ((c.tc : Thread Cert.FfnCtxIdeal.nD Cert.FfnCtxIdeal.τ).loc Cert.FfnCtxIdeal.main_v3)),
      θ_run (Cert.FfnCtxIdeal.defs (F := Ideal)) (onTc (τ := Cert.FfnCtxIdeal.τ) (Cert.FfnCtxIdeal.main (F := Ideal))) ⟨m, fun _ => 0, g⟩ (fun r => ∀ c : Dev Cert.FfnCtxIdeal.nD,
          r.2.mem ((c.tc : Thread Cert.FfnCtxIdeal.nD Cert.FfnCtxIdeal.τ).loc Cert.FfnCtxIdeal.main_v3) = v0 c
          ∧ r.2.mem ((c.tc : Thread Cert.FfnCtxIdeal.nD Cert.FfnCtxIdeal.τ).loc Cert.FfnCtxIdeal.main_arg0) = m ((c.tc : Thread Cert.FfnCtxIdeal.nD Cert.FfnCtxIdeal.τ).loc Cert.FfnCtxIdeal.main_arg0)
          ∧ r.2.mem ((c.tc : Thread Cert.FfnCtxIdeal.nD Cert.FfnCtxIdeal.τ).loc Cert.FfnCtxIdeal.main_arg1) = m ((c.tc : Thread Cert.FfnCtxIdeal.nD Cert.FfnCtxIdeal.τ).loc Cert.FfnCtxIdeal.main_arg1)
          ∧ r.2.mem ((c.tc : Thread Cert.FfnCtxIdeal.nD Cert.FfnCtxIdeal.τ).loc Cert.FfnCtxIdeal.main_arg2) = m ((c.tc : Thread Cert.FfnCtxIdeal.nD Cert.FfnCtxIdeal.τ).loc Cert.FfnCtxIdeal.main_arg2)
          ∧ r.2.mem ((c.tc : Thread Cert.FfnCtxIdeal.nD Cert.FfnCtxIdeal.τ).loc Cert.FfnCtxIdeal.main_arg3) = m ((c.tc : Thread Cert.FfnCtxIdeal.nD Cert.FfnCtxIdeal.τ).loc Cert.FfnCtxIdeal.main_arg3)
          ∧ r.2.mem ((c.tc : Thread Cert.FfnCtxIdeal.nD Cert.FfnCtxIdeal.τ).loc Cert.FfnCtxIdeal.main_arg4) = m ((c.tc : Thread Cert.FfnCtxIdeal.nD Cert.FfnCtxIdeal.τ).loc Cert.FfnCtxIdeal.main_arg4))
      ∧ θ_run (Cert.FfnCtxRefIdeal.defs (F := Ideal)) (onTc (τ := Cert.FfnCtxRefIdeal.τ) (Cert.FfnCtxRefIdeal.main (F := Ideal))) ⟨m', fun _ => 0, g'⟩ (fun r => ∀ c : Dev Cert.FfnCtxRefIdeal.nD,
          r.2.mem ((c.tc : Thread Cert.FfnCtxRefIdeal.nD Cert.FfnCtxRefIdeal.τ).loc Cert.FfnCtxRefIdeal.main_v41) = v0 c
          ∧ r.2.mem ((c.tc : Thread Cert.FfnCtxRefIdeal.nD Cert.FfnCtxRefIdeal.τ).loc Cert.FfnCtxRefIdeal.main_arg0) = m' ((c.tc : Thread Cert.FfnCtxRefIdeal.nD Cert.FfnCtxRefIdeal.τ).loc Cert.FfnCtxRefIdeal.main_arg0)
          ∧ r.2.mem ((c.tc : Thread Cert.FfnCtxRefIdeal.nD Cert.FfnCtxRefIdeal.τ).loc Cert.FfnCtxRefIdeal.main_arg1) = m' ((c.tc : Thread Cert.FfnCtxRefIdeal.nD Cert.FfnCtxRefIdeal.τ).loc Cert.FfnCtxRefIdeal.main_arg1)
          ∧ r.2.mem ((c.tc : Thread Cert.FfnCtxRefIdeal.nD Cert.FfnCtxRefIdeal.τ).loc Cert.FfnCtxRefIdeal.main_arg2) = m' ((c.tc : Thread Cert.FfnCtxRefIdeal.nD Cert.FfnCtxRefIdeal.τ).loc Cert.FfnCtxRefIdeal.main_arg2)
          ∧ r.2.mem ((c.tc : Thread Cert.FfnCtxRefIdeal.nD Cert.FfnCtxRefIdeal.τ).loc Cert.FfnCtxRefIdeal.main_arg3) = m' ((c.tc : Thread Cert.FfnCtxRefIdeal.nD Cert.FfnCtxRefIdeal.τ).loc Cert.FfnCtxRefIdeal.main_arg3)
          ∧ r.2.mem ((c.tc : Thread Cert.FfnCtxRefIdeal.nD Cert.FfnCtxRefIdeal.τ).loc Cert.FfnCtxRefIdeal.main_arg4) = m' ((c.tc : Thread Cert.FfnCtxRefIdeal.nD Cert.FfnCtxRefIdeal.τ).loc Cert.FfnCtxRefIdeal.main_arg4))

def preserves_InprojCtx_InprojCtxIdeal : Prop :=
  True

def algebraic_InprojCtxIdeal_InprojCtxRefIdeal [hInprojCtxIdeal : Cert.InprojCtxIdeal.Facts] [hInprojCtxRefIdeal : Cert.InprojCtxRefIdeal.Facts] : Prop :=
  ∀ (m : (ℓ : Loc Cert.InprojCtxIdeal.nD Cert.InprojCtxIdeal.τ Cert.InprojCtxIdeal.sig) → Buf (Elt Ideal) ℓ) (g : Dev Cert.InprojCtxIdeal.nD → PrngReg)
    (m' : (ℓ : Loc Cert.InprojCtxRefIdeal.nD Cert.InprojCtxRefIdeal.τ Cert.InprojCtxRefIdeal.sig) → Buf (Elt Ideal) ℓ) (g' : Dev Cert.InprojCtxRefIdeal.nD → PrngReg), Pre_InprojCtxIdeal m →
    (∀ c : Dev Cert.InprojCtxIdeal.nD,
      m' ((c.tc : Thread Cert.InprojCtxRefIdeal.nD Cert.InprojCtxRefIdeal.τ).loc Cert.InprojCtxRefIdeal.main_arg0) = m ((c.tc : Thread Cert.InprojCtxIdeal.nD Cert.InprojCtxIdeal.τ).loc Cert.InprojCtxIdeal.main_arg0)
      ∧ m' ((c.tc : Thread Cert.InprojCtxRefIdeal.nD Cert.InprojCtxRefIdeal.τ).loc Cert.InprojCtxRefIdeal.main_arg1) = m ((c.tc : Thread Cert.InprojCtxIdeal.nD Cert.InprojCtxIdeal.τ).loc Cert.InprojCtxIdeal.main_arg1)
      ∧ m' ((c.tc : Thread Cert.InprojCtxRefIdeal.nD Cert.InprojCtxRefIdeal.τ).loc Cert.InprojCtxRefIdeal.main_arg2) = m ((c.tc : Thread Cert.InprojCtxIdeal.nD Cert.InprojCtxIdeal.τ).loc Cert.InprojCtxIdeal.main_arg2)
      ∧ m' ((c.tc : Thread Cert.InprojCtxRefIdeal.nD Cert.InprojCtxRefIdeal.τ).loc Cert.InprojCtxRefIdeal.main_arg3) = m ((c.tc : Thread Cert.InprojCtxIdeal.nD Cert.InprojCtxIdeal.τ).loc Cert.InprojCtxIdeal.main_arg3)
      ∧ m' ((c.tc : Thread Cert.InprojCtxRefIdeal.nD Cert.InprojCtxRefIdeal.τ).loc Cert.InprojCtxRefIdeal.main_arg4) = m ((c.tc : Thread Cert.InprojCtxIdeal.nD Cert.InprojCtxIdeal.τ).loc Cert.InprojCtxIdeal.main_arg4)) →
    ∃ (v0 : (c : Dev Cert.InprojCtxIdeal.nD) → Buf (Elt Ideal) ((c.tc : Thread Cert.InprojCtxIdeal.nD Cert.InprojCtxIdeal.τ).loc Cert.InprojCtxIdeal.main_v5)),
      θ_run (Cert.InprojCtxIdeal.defs (F := Ideal)) (onTc (τ := Cert.InprojCtxIdeal.τ) (Cert.InprojCtxIdeal.main (F := Ideal))) ⟨m, fun _ => 0, g⟩ (fun r => ∀ c : Dev Cert.InprojCtxIdeal.nD,
          r.2.mem ((c.tc : Thread Cert.InprojCtxIdeal.nD Cert.InprojCtxIdeal.τ).loc Cert.InprojCtxIdeal.main_v5) = v0 c
          ∧ r.2.mem ((c.tc : Thread Cert.InprojCtxIdeal.nD Cert.InprojCtxIdeal.τ).loc Cert.InprojCtxIdeal.main_arg0) = m ((c.tc : Thread Cert.InprojCtxIdeal.nD Cert.InprojCtxIdeal.τ).loc Cert.InprojCtxIdeal.main_arg0)
          ∧ r.2.mem ((c.tc : Thread Cert.InprojCtxIdeal.nD Cert.InprojCtxIdeal.τ).loc Cert.InprojCtxIdeal.main_arg1) = m ((c.tc : Thread Cert.InprojCtxIdeal.nD Cert.InprojCtxIdeal.τ).loc Cert.InprojCtxIdeal.main_arg1)
          ∧ r.2.mem ((c.tc : Thread Cert.InprojCtxIdeal.nD Cert.InprojCtxIdeal.τ).loc Cert.InprojCtxIdeal.main_arg2) = m ((c.tc : Thread Cert.InprojCtxIdeal.nD Cert.InprojCtxIdeal.τ).loc Cert.InprojCtxIdeal.main_arg2)
          ∧ r.2.mem ((c.tc : Thread Cert.InprojCtxIdeal.nD Cert.InprojCtxIdeal.τ).loc Cert.InprojCtxIdeal.main_arg3) = m ((c.tc : Thread Cert.InprojCtxIdeal.nD Cert.InprojCtxIdeal.τ).loc Cert.InprojCtxIdeal.main_arg3)
          ∧ r.2.mem ((c.tc : Thread Cert.InprojCtxIdeal.nD Cert.InprojCtxIdeal.τ).loc Cert.InprojCtxIdeal.main_arg4) = m ((c.tc : Thread Cert.InprojCtxIdeal.nD Cert.InprojCtxIdeal.τ).loc Cert.InprojCtxIdeal.main_arg4))
      ∧ θ_run (Cert.InprojCtxRefIdeal.defs (F := Ideal)) (onTc (τ := Cert.InprojCtxRefIdeal.τ) (Cert.InprojCtxRefIdeal.main (F := Ideal))) ⟨m', fun _ => 0, g'⟩ (fun r => ∀ c : Dev Cert.InprojCtxRefIdeal.nD,
          r.2.mem ((c.tc : Thread Cert.InprojCtxRefIdeal.nD Cert.InprojCtxRefIdeal.τ).loc Cert.InprojCtxRefIdeal.main_v33) = v0 c
          ∧ r.2.mem ((c.tc : Thread Cert.InprojCtxRefIdeal.nD Cert.InprojCtxRefIdeal.τ).loc Cert.InprojCtxRefIdeal.main_arg0) = m' ((c.tc : Thread Cert.InprojCtxRefIdeal.nD Cert.InprojCtxRefIdeal.τ).loc Cert.InprojCtxRefIdeal.main_arg0)
          ∧ r.2.mem ((c.tc : Thread Cert.InprojCtxRefIdeal.nD Cert.InprojCtxRefIdeal.τ).loc Cert.InprojCtxRefIdeal.main_arg1) = m' ((c.tc : Thread Cert.InprojCtxRefIdeal.nD Cert.InprojCtxRefIdeal.τ).loc Cert.InprojCtxRefIdeal.main_arg1)
          ∧ r.2.mem ((c.tc : Thread Cert.InprojCtxRefIdeal.nD Cert.InprojCtxRefIdeal.τ).loc Cert.InprojCtxRefIdeal.main_arg2) = m' ((c.tc : Thread Cert.InprojCtxRefIdeal.nD Cert.InprojCtxRefIdeal.τ).loc Cert.InprojCtxRefIdeal.main_arg2)
          ∧ r.2.mem ((c.tc : Thread Cert.InprojCtxRefIdeal.nD Cert.InprojCtxRefIdeal.τ).loc Cert.InprojCtxRefIdeal.main_arg3) = m' ((c.tc : Thread Cert.InprojCtxRefIdeal.nD Cert.InprojCtxRefIdeal.τ).loc Cert.InprojCtxRefIdeal.main_arg3)
          ∧ r.2.mem ((c.tc : Thread Cert.InprojCtxRefIdeal.nD Cert.InprojCtxRefIdeal.τ).loc Cert.InprojCtxRefIdeal.main_arg4) = m' ((c.tc : Thread Cert.InprojCtxRefIdeal.nD Cert.InprojCtxRefIdeal.τ).loc Cert.InprojCtxRefIdeal.main_arg4))

def preserves_Modulation_ModulationIdeal : Prop :=
  True

def algebraic_ModulationIdeal_ModulationRefIdeal [hModulationIdeal : Cert.ModulationIdeal.Facts] [hModulationRefIdeal : Cert.ModulationRefIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationRefIdeal.nD Cert.ModulationRefIdeal.τ Cert.ModulationRefIdeal.sig) → Buf (Elt Ideal) ℓ) (g' : Dev Cert.ModulationRefIdeal.nD → PrngReg), Pre_ModulationIdeal m →
    (∀ c : Dev Cert.ModulationIdeal.nD,
      m' ((c.tc : Thread Cert.ModulationRefIdeal.nD Cert.ModulationRefIdeal.τ).loc Cert.ModulationRefIdeal.main_arg0) = m ((c.tc : Thread Cert.ModulationIdeal.nD Cert.ModulationIdeal.τ).loc Cert.ModulationIdeal.main_arg0)
      ∧ m' ((c.tc : Thread Cert.ModulationRefIdeal.nD Cert.ModulationRefIdeal.τ).loc Cert.ModulationRefIdeal.main_arg1) = m ((c.tc : Thread Cert.ModulationIdeal.nD Cert.ModulationIdeal.τ).loc Cert.ModulationIdeal.main_arg1)
      ∧ m' ((c.tc : Thread Cert.ModulationRefIdeal.nD Cert.ModulationRefIdeal.τ).loc Cert.ModulationRefIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationRefIdeal.defs (F := Ideal)) (onTc (τ := Cert.ModulationRefIdeal.τ) (Cert.ModulationRefIdeal.main (F := Ideal))) ⟨m', fun _ => 0, g'⟩ (fun r => ∀ c : Dev Cert.ModulationRefIdeal.nD,
          r.2.mem ((c.tc : Thread Cert.ModulationRefIdeal.nD Cert.ModulationRefIdeal.τ).loc Cert.ModulationRefIdeal.main_v4) = v0 c
          ∧ r.2.mem ((c.tc : Thread Cert.ModulationRefIdeal.nD Cert.ModulationRefIdeal.τ).loc Cert.ModulationRefIdeal.main_arg0) = m' ((c.tc : Thread Cert.ModulationRefIdeal.nD Cert.ModulationRefIdeal.τ).loc Cert.ModulationRefIdeal.main_arg0)
          ∧ r.2.mem ((c.tc : Thread Cert.ModulationRefIdeal.nD Cert.ModulationRefIdeal.τ).loc Cert.ModulationRefIdeal.main_arg1) = m' ((c.tc : Thread Cert.ModulationRefIdeal.nD Cert.ModulationRefIdeal.τ).loc Cert.ModulationRefIdeal.main_arg1)
          ∧ r.2.mem ((c.tc : Thread Cert.ModulationRefIdeal.nD Cert.ModulationRefIdeal.τ).loc Cert.ModulationRefIdeal.main_arg2) = m' ((c.tc : Thread Cert.ModulationRefIdeal.nD Cert.ModulationRefIdeal.τ).loc Cert.ModulationRefIdeal.main_arg2))

def Claim : Prop :=
  ∃ (hFfn2 : Cert.Ffn2.Facts) (hFfn2Ideal : Cert.Ffn2Ideal.Facts) (hFfn2RefIdeal : Cert.Ffn2RefIdeal.Facts) (hFfn1 : Cert.Ffn1.Facts) (hFfn1Ideal : Cert.Ffn1Ideal.Facts) (hFfn1RefIdeal : Cert.Ffn1RefIdeal.Facts) (hInproj : Cert.Inproj.Facts) (hInprojIdeal : Cert.InprojIdeal.Facts) (hInprojRefIdeal : Cert.InprojRefIdeal.Facts) (hLruFwd : Cert.LruFwd.Facts) (hLruFwdIdeal : Cert.LruFwdIdeal.Facts) (hLruFwdRefIdeal : Cert.LruFwdRefIdeal.Facts) (hFfnCtx : Cert.FfnCtx.Facts) (hFfnCtxIdeal : Cert.FfnCtxIdeal.Facts) (hFfnCtxRefIdeal : Cert.FfnCtxRefIdeal.Facts) (hInprojCtx : Cert.InprojCtx.Facts) (hInprojCtxIdeal : Cert.InprojCtxIdeal.Facts) (hInprojCtxRefIdeal : Cert.InprojCtxRefIdeal.Facts) (hModulation : Cert.Modulation.Facts) (hModulationIdeal : Cert.ModulationIdeal.Facts) (hModulationRefIdeal : Cert.ModulationRefIdeal.Facts) (hPre_ffn2_finite : Cert.Pre_ffn2_finite.Facts) (hPre_ffn1_finite : Cert.Pre_ffn1_finite.Facts) (hPre_ffn_ctx_finite : Cert.Pre_ffn_ctx_finite.Facts),
    quiescent_Ffn2 (hFfn2 := hFfn2)
    ∧ quiescent_Ffn2Ideal (hFfn2Ideal := hFfn2Ideal)
    ∧ quiescent_Ffn2Ideal_pre_ffn2_finite (hFfn2Ideal := hFfn2Ideal) (hPre_ffn2_finite := hPre_ffn2_finite)
    ∧ quiescent_Ffn2RefIdeal (hFfn2RefIdeal := hFfn2RefIdeal)
    ∧ quiescent_Ffn2RefIdeal_pre_ffn2_finite (hFfn2RefIdeal := hFfn2RefIdeal) (hPre_ffn2_finite := hPre_ffn2_finite)
    ∧ quiescent_Ffn1 (hFfn1 := hFfn1)
    ∧ quiescent_Ffn1Ideal (hFfn1Ideal := hFfn1Ideal)
    ∧ quiescent_Ffn1Ideal_pre_ffn1_finite (hFfn1Ideal := hFfn1Ideal) (hPre_ffn1_finite := hPre_ffn1_finite)
    ∧ quiescent_Ffn1RefIdeal (hFfn1RefIdeal := hFfn1RefIdeal)
    ∧ quiescent_Ffn1RefIdeal_pre_ffn1_finite (hFfn1RefIdeal := hFfn1RefIdeal) (hPre_ffn1_finite := hPre_ffn1_finite)
    ∧ quiescent_Inproj (hInproj := hInproj)
    ∧ quiescent_InprojIdeal (hInprojIdeal := hInprojIdeal)
    ∧ quiescent_InprojRefIdeal (hInprojRefIdeal := hInprojRefIdeal)
    ∧ quiescent_LruFwd (hLruFwd := hLruFwd)
    ∧ quiescent_LruFwdIdeal (hLruFwdIdeal := hLruFwdIdeal)
    ∧ quiescent_LruFwdRefIdeal (hLruFwdRefIdeal := hLruFwdRefIdeal)
    ∧ quiescent_FfnCtx (hFfnCtx := hFfnCtx)
    ∧ quiescent_FfnCtxIdeal (hFfnCtxIdeal := hFfnCtxIdeal)
    ∧ quiescent_FfnCtxIdeal_pre_ffn_ctx_finite (hFfnCtxIdeal := hFfnCtxIdeal) (hPre_ffn_ctx_finite := hPre_ffn_ctx_finite)
    ∧ quiescent_FfnCtxRefIdeal (hFfnCtxRefIdeal := hFfnCtxRefIdeal)
    ∧ quiescent_FfnCtxRefIdeal_pre_ffn_ctx_finite (hFfnCtxRefIdeal := hFfnCtxRefIdeal) (hPre_ffn_ctx_finite := hPre_ffn_ctx_finite)
    ∧ quiescent_InprojCtx (hInprojCtx := hInprojCtx)
    ∧ quiescent_InprojCtxIdeal (hInprojCtxIdeal := hInprojCtxIdeal)
    ∧ quiescent_InprojCtxRefIdeal (hInprojCtxRefIdeal := hInprojCtxRefIdeal)
    ∧ quiescent_Modulation (hModulation := hModulation)
    ∧ quiescent_ModulationIdeal (hModulationIdeal := hModulationIdeal)
    ∧ quiescent_ModulationRefIdeal (hModulationRefIdeal := hModulationRefIdeal)
    ∧ preserves_Ffn2_Ffn2Ideal
    ∧ algebraic_Ffn2Ideal_Ffn2RefIdeal_pre_ffn2_finite (hFfn2Ideal := hFfn2Ideal) (hFfn2RefIdeal := hFfn2RefIdeal) (hPre_ffn2_finite := hPre_ffn2_finite)
    ∧ preserves_Ffn1_Ffn1Ideal
    ∧ algebraic_Ffn1Ideal_Ffn1RefIdeal_pre_ffn1_finite (hFfn1Ideal := hFfn1Ideal) (hFfn1RefIdeal := hFfn1RefIdeal) (hPre_ffn1_finite := hPre_ffn1_finite)
    ∧ preserves_Inproj_InprojIdeal
    ∧ algebraic_InprojIdeal_InprojRefIdeal (hInprojIdeal := hInprojIdeal) (hInprojRefIdeal := hInprojRefIdeal)
    ∧ preserves_LruFwd_LruFwdIdeal
    ∧ algebraic_LruFwdIdeal_LruFwdRefIdeal (hLruFwdIdeal := hLruFwdIdeal) (hLruFwdRefIdeal := hLruFwdRefIdeal)
    ∧ preserves_FfnCtx_FfnCtxIdeal
    ∧ algebraic_FfnCtxIdeal_FfnCtxRefIdeal_pre_ffn_ctx_finite (hFfnCtxIdeal := hFfnCtxIdeal) (hFfnCtxRefIdeal := hFfnCtxRefIdeal) (hPre_ffn_ctx_finite := hPre_ffn_ctx_finite)
    ∧ preserves_InprojCtx_InprojCtxIdeal
    ∧ algebraic_InprojCtxIdeal_InprojCtxRefIdeal (hInprojCtxIdeal := hInprojCtxIdeal) (hInprojCtxRefIdeal := hInprojCtxRefIdeal)
    ∧ preserves_Modulation_ModulationIdeal
    ∧ algebraic_ModulationIdeal_ModulationRefIdeal (hModulationIdeal := hModulationIdeal) (hModulationRefIdeal := hModulationRefIdeal)
-- ==== Pre_ffn1_finite.lean ====
abbrev S4x8192x1024 : Shape := ⟨3, ![4, 8192, 1024]⟩
abbrev S4x1x9216 : Shape := ⟨3, ![4, 1, 9216]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4x8192x1024 : S_.BroadcastsInDim S4x8192x1024 (![] : Fin 0 → Fin S4x8192x1024.rank)
  bcast_S_S4x1x9216 : S_.BroadcastsInDim S4x1x9216 (![] : Fin 0 → Fin S4x1x9216.rank)
  bcast_S_S1024 : S_.BroadcastsInDim S1024 (![] : Fin 0 → Fin S1024.rank)
  bcast_S_S1024x5632 : S_.BroadcastsInDim S1024x5632 (![] : Fin 0 → Fin S1024x5632.rank)

variable [Facts]

def fn {F : FTy → Type} [FloatOps F] (main_arg0 : FVec F S4x8192x1024 .f32) (main_arg1 : FVec F S4x1x9216 .f32) (main_arg2 : FVec F S1024 .f32) (main_arg3 : FVec F S1024x5632 .f32) (main_arg4 : FVec F S2816x1024 .f32) : IVec S4x8192x1024 1 × IVec S4x1x9216 1 × IVec S1024 1 × IVec S1024x5632 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_v3 : FVec F S4x1x9216 .f32 := Host.absf main_arg1
  let main_cst_0 : FVec F S_ .f32 := constant S_ .f32 0x7F800000#32
  let main_v4 : FVec F S4x1x9216 .f32 := broadcastInDim S4x1x9216 ![] bcast_S_S4x1x9216 main_cst_0
  let main_v5 : IVec S4x1x9216 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  (main_v2, main_v5, main_v8, main_v11)
-- ==== Pre_ffn2_finite.lean ====
abbrev S4x8192x1024 : Shape := ⟨3, ![4, 8192, 1024]⟩
abbrev S4x1x9216 : Shape := ⟨3, ![4, 1, 9216]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4x8192x1024 : S_.BroadcastsInDim S4x8192x1024 (![] : Fin 0 → Fin S4x8192x1024.rank)
  bcast_S_S4x1x9216 : S_.BroadcastsInDim S4x1x9216 (![] : Fin 0 → Fin S4x1x9216.rank)
  bcast_S_S1024 : S_.BroadcastsInDim S1024 (![] : Fin 0 → Fin S1024.rank)
  bcast_S_S1024x5632 : S_.BroadcastsInDim S1024x5632 (![] : Fin 0 → Fin S1024x5632.rank)

variable [Facts]

def fn {F : FTy → Type} [FloatOps F] (main_arg0 : FVec F S4x8192x1024 .f32) (main_arg1 : FVec F S4x1x9216 .f32) (main_arg2 : FVec F S1024 .f32) (main_arg3 : FVec F S1024x5632 .f32) (main_arg4 : FVec F S2816x1024 .f32) (main_arg5 : FVec F S1024 .f32) : IVec S4x8192x1024 1 × IVec S4x1x9216 1 × IVec S1024 1 × IVec S1024x5632 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_v3 : FVec F S4x1x9216 .f32 := Host.absf main_arg1
  let main_cst_0 : FVec F S_ .f32 := constant S_ .f32 0x7F800000#32
  let main_v4 : FVec F S4x1x9216 .f32 := broadcastInDim S4x1x9216 ![] bcast_S_S4x1x9216 main_cst_0
  let main_v5 : IVec S4x1x9216 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  (main_v2, main_v5, main_v8, main_v11)
-- ==== Pre_ffn_ctx_finite.lean ====
abbrev S4x256x1024 : Shape := ⟨3, ![4, 256, 1024]⟩
abbrev S4x1x9216 : Shape := ⟨3, ![4, 1, 9216]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4x256x1024 : S_.BroadcastsInDim S4x256x1024 (![] : Fin 0 → Fin S4x256x1024.rank)
  bcast_S_S4x1x9216 : S_.BroadcastsInDim S4x1x9216 (![] : Fin 0 → Fin S4x1x9216.rank)
  bcast_S_S1024 : S_.BroadcastsInDim S1024 (![] : Fin 0 → Fin S1024.rank)
  bcast_S_S1024x5632 : S_.BroadcastsInDim S1024x5632 (![] : Fin 0 → Fin S1024x5632.rank)

variable [Facts]

def fn {F : FTy → Type} [FloatOps F] (main_arg0 : FVec F S4x256x1024 .f32) (main_arg1 : FVec F S4x1x9216 .f32) (main_arg2 : FVec F S1024 .f32) (main_arg3 : FVec F S1024x5632 .f32) (main_arg4 : FVec F S2816x1024 .f32) : IVec S4x256x1024 1 × IVec S4x1x9216 1 × IVec S1024 1 × IVec S1024x5632 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_v3 : FVec F S4x1x9216 .f32 := Host.absf main_arg1
  let main_cst_0 : FVec F S_ .f32 := constant S_ .f32 0x7F800000#32
  let main_v4 : FVec F S4x1x9216 .f32 := broadcastInDim S4x1x9216 ![] bcast_S_S4x1x9216 main_cst_0
  let main_v5 : IVec S4x1x9216 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  (main_v2, main_v5, main_v8, main_v11)
-- ==== Ffn2.lean ====
abbrev S4x8192x1024 : Shape := ⟨3, ![4, 8192, 1024]⟩
abbrev S4x1x9216 : Shape := ⟨3, ![4, 1, 9216]⟩
abbrev S1024 : Shape := ⟨1, ![1024]⟩
abbrev S1024x5632 : Shape := ⟨2, ![1024, 5632]⟩
abbrev S2816x1024 : Shape := ⟨2, ![2816, 1024]⟩
abbrev S4x16x64x8192 : Shape := ⟨4, ![4, 16, 64, 8192]⟩
abbrev S1x1024 : Shape := ⟨2, ![1, 1024]⟩
abbrev S1x1x64x8192 : Shape := ⟨4, ![1, 1, 64, 8192]⟩
abbrev S1x1x9216 : Shape := ⟨3, ![1, 1, 9216]⟩
abbrev S1x512x1024 : Shape := ⟨3, ![1, 512, 1024]⟩
abbrev S1x1x64x1024 : Shape := ⟨4, ![1, 1, 64, 1024]⟩
abbrev S64x1024 : Shape := ⟨2, ![64, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 12
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S4x1x9216, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1024x5632, .bf16⟩
  | .hbm, ⟨7, _⟩ => ⟨S2816x1024, .bf16⟩
  | .hbm, ⟨8, _⟩ => ⟨S4x16x64x8192, .f32⟩
  | .hbm, ⟨9, _⟩ => ⟨S1x1024, .f32⟩
  | .hbm, ⟨10, _⟩ => ⟨S1x1024, .f32⟩
  | .hbm, ⟨11, _⟩ => ⟨S4x8192x1024, .f32⟩
  | .local _ .vmem, ⟨0, _⟩ => ⟨S1x1x64x8192, .f32⟩
  | .local _ .vmem, ⟨1, _⟩ => ⟨S1x1x64x8192, .f32⟩
  | .local _ .vmem, ⟨2, _⟩ => ⟨S1x1x9216, .f32⟩
  | .local _ .vmem, ⟨3, _⟩ => ⟨S1x1x9216, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x1x64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x9216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Ffn2RefIdeal.lean ====
abbrev S4x8192x1024 : Shape := ⟨3, ![4, 8192, 1024]⟩
abbrev S4x1x9216 : Shape := ⟨3, ![4, 1, 9216]⟩
abbrev S1024 : Shape := ⟨1, ![1024]⟩
abbrev S1024x5632 : Shape := ⟨2, ![1024, 5632]⟩
abbrev S2816x1024 : Shape := ⟨2, ![2816, 1024]⟩
abbrev S4x16x64x8x1024 : Shape := ⟨5, ![4, 16, 64, 8, 1024]⟩
abbrev S4x16x8x64x1024 : Shape := ⟨5, ![4, 16, 8, 64, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩

abbrev nBuf : Space → Nat
  | .hbm => 77
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x9216, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S4x16x64x8x1024, .f32⟩
  | .hbm, ⟨7, _⟩ => ⟨S4x16x8x64x1024, .f32⟩
  | .hbm, ⟨8, _⟩ => ⟨S4x8192x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S_, .f32⟩
  | .hbm, ⟨19, _⟩ => ⟨S4x1x1024, .f32⟩
  | .hbm, ⟨20, _⟩ => ⟨S4x1x1024, .f32⟩
  | .hbm, ⟨21, _⟩ => ⟨S4x8192x1024, .f32⟩
  | .hbm, ⟨22, _⟩ => ⟨S_, .f32⟩
  | .hbm, ⟨23, _⟩ => ⟨S4x8192, .f32⟩
  | .hbm, ⟨24, _⟩ => ⟨S4x8192x1, .f32⟩
  | .hbm, ⟨25, _⟩ => ⟨S_, .f32⟩
  | .hbm, ⟨26, _⟩ => ⟨S4x8192x1, .f32⟩
  | .hbm, ⟨27, _⟩ => ⟨S4x8192x1, .f32⟩
  | .hbm, ⟨28, _⟩ => ⟨S_, .f32⟩
  | .hbm, ⟨29, _⟩ => ⟨S4x8192x1, .f32⟩
  | .hbm, ⟨30, _⟩ => ⟨S4x8192x1, .f32⟩
  | .hbm, ⟨31, _⟩ => ⟨S4x8192x1, .f32⟩
  | .hbm, ⟨32, _⟩ => ⟨S4x8192x1024, .f32⟩
  | .hbm, ⟨33, _⟩ => ⟨S4x8192x1024, .f32⟩
  | .hbm, ⟨34, _⟩ => ⟨S1x1x1024, .f32⟩
  | .hbm, ⟨35, _⟩ => ⟨S4x8192x1024, .f32⟩
  | .hbm, ⟨36, _⟩ => ⟨S4x8192x1024, .f32⟩
  | .hbm, ⟨37, _⟩ => ⟨S_, .f32⟩
  | .hbm, ⟨38, _⟩ => ⟨S4x1x1024, .f32⟩
  | .hbm, ⟨39, _⟩ => ⟨S4x1x1024, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | .hbm, ⟨43, _⟩ => ⟨S4x8192x1024, .f32⟩
  | .hbm, ⟨44, _⟩ => ⟨S4x8192x5632, .f32⟩
  | .hbm, ⟨45, _⟩ => ⟨S4x8192x2816, .f32⟩
  | .hbm, ⟨46, _⟩ => ⟨S4x8192x2816, .f32⟩
  | .hbm, ⟨47, _⟩ => ⟨S4x8192x2816, .f32⟩
  | .hbm, ⟨48, _⟩ => ⟨S4x8192x2816, .f32⟩
  | .hbm, ⟨49, _⟩ => ⟨S_, .f32⟩
  | .hbm, ⟨50, _⟩ => ⟨S4x8192x2816, .f32⟩
  | .hbm, ⟨51, _⟩ => ⟨S4x8192x2816, .f32⟩
  | .hbm, ⟨52, _⟩ => ⟨S_, .f32⟩
  | .hbm, ⟨53, _⟩ => ⟨S4x8192x2816, .f32⟩
  | .hbm, ⟨54, _⟩ => ⟨S4x8192x2816, .f32⟩
  | .hbm, ⟨55, _⟩ => ⟨S4x8192x2816, .f32⟩
  | .hbm, ⟨56, _⟩ => ⟨S4x8192x2816, .f32⟩
  | .hbm, ⟨57, _⟩ => ⟨S4x8192x1024, .f32⟩
  | .hbm, ⟨58, _⟩ => ⟨S4x8192x1024, .f32⟩
  | .hbm, ⟨59, _⟩ => ⟨S4x8192x1024, .f32⟩
  | .hbm, ⟨60, _⟩ => ⟨S4x8192x1024, .f32⟩
  | .hbm, ⟨61, _⟩ => ⟨S4x8192x1024, .f32⟩
  | .hbm, ⟨62, _⟩ => ⟨S_, .f32⟩
  | .hbm, ⟨63, _⟩ => ⟨S4x8192, .f32⟩
  | .hbm, ⟨64, _⟩ => ⟨S4x8192x1, .f32⟩
  | .hbm, ⟨65, _⟩ => ⟨S_, .f32⟩
  | .hbm, ⟨66, _⟩ => ⟨S4x8192x1, .f32⟩
  | .hbm, ⟨67, _⟩ => ⟨S4x8192x1, .f32⟩
  | .hbm, ⟨68, _⟩ => ⟨S_, .f32⟩
  | .hbm, ⟨69, _⟩ => ⟨S4x8192x1, .f32⟩
  | .hbm, ⟨70, _⟩ => ⟨S4x8192x1, .f32⟩
  | .hbm, ⟨71, _⟩ => ⟨S4x8192x1, .f32⟩
  | .hbm, ⟨72, _⟩ => ⟨S4x8192x1024, .f32⟩
  | .hbm, ⟨73, _⟩ => ⟨S4x8192x1024, .f32⟩
  | .hbm, ⟨74, _⟩ => ⟨S1x1x1024, .f32⟩
  | .hbm, ⟨75, _⟩ => ⟨S4x8192x1024, .f32⟩
  | .hbm, ⟨76, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_4 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]
-- ==== Ffn1.lean ====
abbrev S4x8192x1024 : Shape := ⟨3, ![4, 8192, 1024]⟩
abbrev S4x1x9216 : Shape := ⟨3, ![4, 1, 9216]⟩
abbrev S1024 : Shape := ⟨1, ![1024]⟩
abbrev S1024x5632 : Shape := ⟨2, ![1024, 5632]⟩
abbrev S2816x1024 : Shape := ⟨2, ![2816, 1024]⟩
abbrev S8192 : Shape := ⟨1, ![8192]⟩
abbrev S_ : Shape := ⟨0, ![]⟩
abbrev S256 : Shape := ⟨1, ![256]⟩
abbrev S8192x1 : Shape := ⟨2, ![8192, 1]⟩
abbrev S1x256 : Shape := ⟨2, ![1, 256]⟩
abbrev S8192x256 : Shape := ⟨2, ![8192, 256]⟩
abbrev S8192x1024 : Shape := ⟨2, ![8192, 1024]⟩
abbrev S1x1024 : Shape := ⟨2, ![1, 1024]⟩
abbrev S4x16x64x8192 : Shape := ⟨4, ![4, 16, 64, 8192]⟩
abbrev S1x512x1024 : Shape := ⟨3, ![1, 512, 1024]⟩
abbrev S512x1024 : Shape := ⟨2, ![512, 1024]⟩
abbrev S1x1x9216 : Shape := ⟨3, ![1, 1, 9216]⟩
abbrev S1x1x64x8192 : Shape := ⟨4, ![1, 1, 64, 8192]⟩
abbrev S1x1x1024 : Shape := ⟨3, ![1, 1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩
abbrev S64x1024 : Shape := ⟨2, ![64, 1024]⟩
abbrev S1x1x64x1024 : Shape := ⟨4, ![1, 1, 64, 1024]⟩

abbrev nBuf : Space → Nat
  | .hbm => 77
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S4x1x9216, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024x5632, .bf16⟩
  | .hbm, ⟨6, _⟩ => ⟨S2816x1024, .bf16⟩
  | .hbm, ⟨7, _⟩ => ⟨S8192, .i32⟩
  | .hbm, ⟨8, _⟩ => ⟨S_, .i32⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S_, .i32⟩
  | .hbm, ⟨14, _⟩ => ⟨S8192, .i32⟩
  | .hbm, ⟨15, _⟩ => ⟨S8192, .i1⟩
  | .hbm, ⟨16, _⟩ => ⟨S8192, .i32⟩
  | .hbm, ⟨17, _⟩ => ⟨S8192, .i32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192, .f32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S_, .i32⟩
  | .hbm, ⟨42, _⟩ => ⟨S_, .i1⟩
  | .hbm, ⟨43, _⟩ => ⟨S8192, .i1⟩
  | .hbm, ⟨44, _⟩ => ⟨S8192, .i1⟩
  | .hbm, ⟨45, _⟩ => ⟨S8192, .i1⟩
  | .hbm, ⟨46, _⟩ => ⟨S8192, .i32⟩
  | .hbm, ⟨47, _⟩ => ⟨S8192, .i32⟩
  | .hbm, ⟨48, _⟩ => ⟨S8192, .i32⟩
  | .hbm, ⟨49, _⟩ => ⟨S8192, .f32⟩
  | .hbm, ⟨50, _⟩ => ⟨S256, .f32⟩
  | .hbm, ⟨51, _⟩ => ⟨S_, .f32⟩
  | .hbm, ⟨52, _⟩ => ⟨S256, .f32⟩
  | .hbm, ⟨53, _⟩ => ⟨S256, .f32⟩
  | .hbm, ⟨54, _⟩ => ⟨S_, .f32⟩
  | .hbm, ⟨55, _⟩ => ⟨S256, .f32⟩
  | .hbm, ⟨56, _⟩ => ⟨S256, .f32⟩
  | .hbm, ⟨57, _⟩ => ⟨S_, .f32⟩
  | .hbm, ⟨58, _⟩ => ⟨S256, .f32⟩
  | .hbm, ⟨59, _⟩ => ⟨S256, .f32⟩
  | .hbm, ⟨60, _⟩ => ⟨S8192x1, .f32⟩
  | .hbm, ⟨61, _⟩ => ⟨S1x256, .f32⟩
  | .hbm, ⟨62, _⟩ => ⟨S8192x256, .f32⟩
  | .hbm, ⟨63, _⟩ => ⟨S8192x256, .f32⟩
  | .hbm, ⟨64, _⟩ => ⟨S8192x256, .f32⟩
  | .hbm, ⟨65, _⟩ => ⟨S8192x1, .f32⟩
  | .hbm, ⟨66, _⟩ => ⟨S1x256, .f32⟩
  | .hbm, ⟨67, _⟩ => ⟨S8192x256, .f32⟩
  | .hbm, ⟨68, _⟩ => ⟨S8192x256, .f32⟩
  | .hbm, ⟨69, _⟩ => ⟨S8192x256, .f32⟩
  | .hbm, ⟨70, _⟩ => ⟨S8192x256, .f32⟩
  | .hbm, ⟨71, _⟩ => ⟨S8192x256, .f32⟩
  | .hbm, ⟨72, _⟩ => ⟨S8192x256, .f32⟩
  | .hbm, ⟨73, _⟩ => ⟨S8192x256, .f32⟩
  | .hbm, ⟨74, _⟩ => ⟨S8192x1024, .f32⟩
  | .hbm, ⟨75, _⟩ => ⟨S1x1024, .f32⟩
  | .hbm, ⟨76, _⟩ => ⟨S4x16x64x8192, .f32⟩
  | .local _ .vmem, ⟨0, _⟩ => ⟨S1x512x1024, .f32⟩
  | .local _ .vmem, ⟨1, _⟩ => ⟨S1x512x1024, .f32⟩
  | .local _ .vmem, ⟨2, _⟩ => ⟨S512x1024, .f32⟩
  | .local _ .vmem, ⟨3, _⟩ => ⟨S512x1024, .f32⟩
  | .local _ .vmem, ⟨4, _⟩ => ⟨S1x1x9216, .f32⟩
  | .local _ .vmem, ⟨5, _⟩ => ⟨S1x1x9216, .f32⟩
  | .local _ .vmem, ⟨6, _⟩ => ⟨S1x1024, .f32⟩
  | .local _ .vmem, ⟨7, _⟩ => ⟨S1024x5632, .bf16⟩
  | .local _ .vmem, ⟨8, _⟩ => ⟨S2816x1024, .bf16⟩
  | .local _ .vmem, ⟨9, _⟩ => ⟨S1x1x64x8192, .f32⟩
  | .local _ .vmem, ⟨10, _⟩ => ⟨S1x1x64x8192, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_c_0 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_cst : Ref sig .tc := ⟨.hbm, 51, rfl⟩
abbrev main_v8 : Ref sig .tc := ⟨.hbm, 52, rfl⟩
abbrev main_v9 : Ref sig .tc := ⟨.hbm, 53, rfl⟩
abbrev main_cst_1 : Ref sig .tc := ⟨.hbm, 54, rfl⟩
abbrev main_v10 : Ref sig .tc := ⟨.hbm, 55, rfl⟩
abbrev main_v11 : Ref sig .tc := ⟨.hbm, 56, rfl⟩
abbrev main_cst_2 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x9216 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x64x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Ffn1RefIdeal.lean ====
abbrev S4x8192x1024 : Shape := ⟨3, ![4, 8192, 1024]⟩
abbrev S4x1x9216 : Shape := ⟨3, ![4, 1, 9216]⟩
abbrev S1024 : Shape := ⟨1, ![1024]⟩
abbrev S1024x5632 : Shape := ⟨2, ![1024, 5632]⟩
abbrev S2816x1024 : Shape := ⟨2, ![2816, 1024]⟩
abbrev S8192 : Shape := ⟨1, ![8192]⟩
abbrev S_ : Shape := ⟨0, ![]⟩
abbrev S256 : Shape := ⟨1, ![256]⟩
abbrev S8192x1 : Shape := ⟨2, ![8192, 1]⟩
abbrev S1x256 : Shape := ⟨2, ![1, 256]⟩
abbrev S8192x256 : Shape := ⟨2, ![8192, 256]⟩
abbrev S8192x1024 : Shape := ⟨2, ![8192, 1024]⟩
abbrev S1x8192x1024 : Shape := ⟨3, ![1, 8192, 1024]⟩
abbrev S4x1x1024 : Shape := ⟨3, ![4, 1, 1024]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩
abbrev S4x16x8x64x1024 : Shape := ⟨5, ![4, 16, 8, 64, 1024]⟩
abbrev S4x16x64x8x1024 : Shape := ⟨5, ![4, 16, 64, 8, 1024]⟩
abbrev S4x16x64x8192 : Shape := ⟨4, ![4, 16, 64, 8192]⟩

abbrev nBuf : Space → Nat
  | .hbm => 131
  | .vmem => 0
  | .smem => 0
  | _ => 0

abbrev hbmTy0_0 (i : Nat) : BufTy := match i % 128 with
  | 0 => ⟨S4x8192x1024, .f32⟩
  | 1 => ⟨S4x1x9216, .f32⟩
  | 2 => ⟨S1024, .f32⟩
  | 3 => ⟨S1024x5632, .f32⟩
  | 4 => ⟨S2816x1024, .f32⟩
  | 5 => ⟨S8192, .i32⟩
  | 6 => ⟨S_, .i32⟩
  | 7 => ⟨S_, .i32⟩
  | 8 => ⟨S8192, .i32⟩
  | 9 => ⟨S8192, .i32⟩
  | 10 => ⟨S8192, .i32⟩
  | 11 => ⟨S_, .i32⟩
  | 12 => ⟨S8192, .i32⟩
  | 13 => ⟨S8192, .i1⟩
  | 14 => ⟨S8192, .i32⟩
  | 15 => ⟨S8192, .i32⟩
  | 16 => ⟨S_, .i32⟩
  | 17 => ⟨S8192, .i32⟩
  | 18 => ⟨S8192, .i1⟩
  | 19 => ⟨S8192, .i1⟩
  | 20 => ⟨S_, .i32⟩
  | 21 => ⟨S8192, .i32⟩
  | 22 => ⟨S8192, .i32⟩
  | 23 => ⟨S8192, .i32⟩
  | 24 => ⟨S8192, .f32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S8192, .i32⟩
  | 32 => ⟨S8192, .i32⟩
  | 33 => ⟨S_, .i32⟩
  | 34 => ⟨S8192, .i32⟩
  | 35 => ⟨S8192, .i1⟩
  | 36 => ⟨S_, .i32⟩
  | 37 => ⟨S8192, .i32⟩
  | 38 => ⟨S8192, .i1⟩
  | 39 => ⟨S_, .i32⟩
  | 40 => ⟨S_, .i1⟩
  | 41 => ⟨S8192, .i1⟩
  | 42 => ⟨S8192, .i1⟩
  | 43 => ⟨S8192, .i1⟩
  | 44 => ⟨S8192, .i32⟩
  | 45 => ⟨S8192, .i32⟩
  | 46 => ⟨S8192, .i32⟩
  | 47 => ⟨S8192, .f32⟩
  | 48 => ⟨S256, .f32⟩
  | 49 => ⟨S_, .f32⟩
  | 50 => ⟨S256, .f32⟩
  | 51 => ⟨S256, .f32⟩
  | 52 => ⟨S_, .f32⟩
  | 53 => ⟨S256, .f32⟩
  | 54 => ⟨S256, .f32⟩
  | 55 => ⟨S_, .f32⟩
  | 56 => ⟨S256, .f32⟩
  | 57 => ⟨S256, .f32⟩
  | 58 => ⟨S8192x1, .f32⟩
  | 59 => ⟨S1x256, .f32⟩
  | 60 => ⟨S8192x256, .f32⟩
  | 61 => ⟨S8192x256, .f32⟩
  | 62 => ⟨S8192x256, .f32⟩
  | 63 => ⟨S8192x1, .f32⟩
  | 64 => ⟨S1x256, .f32⟩
  | 65 => ⟨S8192x256, .f32⟩
  | 66 => ⟨S8192x256, .f32⟩
  | 67 => ⟨S8192x256, .f32⟩
  | 68 => ⟨S8192x256, .f32⟩
  | 69 => ⟨S8192x256, .f32⟩
  | 70 => ⟨S8192x256, .f32⟩
  | 71 => ⟨S8192x256, .f32⟩
  | 72 => ⟨S8192x1024, .f32⟩
  | 73 => ⟨S1x8192x1024, .f32⟩
  | 74 => ⟨S4x8192x1024, .f32⟩
  | 75 => ⟨S4x8192x1024, .f32⟩
  | 76 => ⟨S4x1x1024, .f32⟩
  | 77 => ⟨S4x1x1024, .f32⟩
  | 78 => ⟨S4x1x1024, .f32⟩
  | 79 => ⟨S4x1x1024, .f32⟩
  | 80 => ⟨S4x1x1024, .f32⟩
  | 81 => ⟨S4x1x1024, .f32⟩
  | 82 => ⟨S4x1x1024, .f32⟩
  | 83 => ⟨S4x1x1024, .f32⟩
  | 84 => ⟨S4x1x1024, .f32⟩
  | 85 => ⟨S_, .f32⟩
  | 86 => ⟨S4x1x1024, .f32⟩
  | 87 => ⟨S4x1x1024, .f32⟩
  | 88 => ⟨S4x8192x1024, .f32⟩
  | 89 => ⟨S_, .f32⟩
  | 90 => ⟨S4x8192, .f32⟩
  | 91 => ⟨S4x8192x1, .f32⟩
  | 92 => ⟨S_, .f32⟩
  | 93 => ⟨S4x8192x1, .f32⟩
  | 94 => ⟨S4x8192x1, .f32⟩
  | 95 => ⟨S_, .f32⟩
  | 96 => ⟨S4x8192x1, .f32⟩
  | 97 => ⟨S4x8192x1, .f32⟩
  | 98 => ⟨S4x8192x1, .f32⟩
  | 99 => ⟨S4x8192x1024, .f32⟩
  | 100 => ⟨S4x8192x1024, .f32⟩
  | 101 => ⟨S1x1x1024, .f32⟩
  | 102 => ⟨S4x8192x1024, .f32⟩
  | 103 => ⟨S4x8192x1024, .f32⟩
  | 104 => ⟨S_, .f32⟩
  | 105 => ⟨S4x1x1024, .f32⟩
  | 106 => ⟨S4x1x1024, .f32⟩
  | 107 => ⟨S4x8192x1024, .f32⟩
  | 108 => ⟨S4x8192x1024, .f32⟩
  | 109 => ⟨S4x8192x1024, .f32⟩
  | 110 => ⟨S4x8192x1024, .f32⟩
  | 111 => ⟨S4x8192x5632, .f32⟩
  | 112 => ⟨S4x8192x2816, .f32⟩
  | 113 => ⟨S4x8192x2816, .f32⟩
  | 114 => ⟨S4x8192x2816, .f32⟩
  | 115 => ⟨S4x8192x2816, .f32⟩
  | 116 => ⟨S_, .f32⟩
  | 117 => ⟨S4x8192x2816, .f32⟩
  | 118 => ⟨S4x8192x2816, .f32⟩
  | 119 => ⟨S_, .f32⟩
  | 120 => ⟨S4x8192x2816, .f32⟩
  | 121 => ⟨S4x8192x2816, .f32⟩
  | 122 => ⟨S4x8192x2816, .f32⟩
  | 123 => ⟨S4x8192x2816, .f32⟩
  | 124 => ⟨S4x8192x1024, .f32⟩
  | 125 => ⟨S4x8192x1024, .f32⟩
  | 126 => ⟨S4x8192x1024, .f32⟩
  | 127 => ⟨S4x8192x1024, .f32⟩
  | _ => ⟨S4x8192x1024, .f32⟩

abbrev hbmTy0_1 (i : Nat) : BufTy := match i % 128 with
  | 0 => ⟨S4x16x8x64x1024, .f32⟩
  | 1 => ⟨S4x16x64x8x1024, .f32⟩
  | 2 => ⟨S4x16x64x8192, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v3 : Ref sig .tc := ⟨.hbm, 46, rfl⟩
abbrev main_v4 : Ref sig .tc := ⟨.hbm, 47, rfl⟩
abbrev main_v5 : Ref sig .tc := ⟨.hbm, 48, rfl⟩
abbrev main_cst : Ref sig .tc := ⟨.hbm, 49, rfl⟩
abbrev main_v6 : Ref sig .tc := ⟨.hbm, 50, rfl⟩
abbrev main_v7 : Ref sig .tc := ⟨.hbm, 51, rfl⟩
abbrev main_cst_1 : Ref sig .tc := ⟨.hbm, 52, rfl⟩
abbrev main_v8 : Ref sig .tc := ⟨.hbm, 53, rfl⟩
abbrev main_v9 : Ref sig .tc := ⟨.hbm, 54, rfl⟩
abbrev main_cst_2 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_cst_3 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_cst_4 : Ref sig .tc := ⟨.hbm, 89, rfl⟩
abbrev main_v42 : Ref sig .tc := ⟨.hbm, 90, rfl⟩
abbrev main_v43 : Ref sig .tc := ⟨.hbm, 91, rfl⟩
abbrev main_cst_5 : Ref sig .tc := ⟨.hbm, 92, rfl⟩
abbrev main_v44 : Ref sig .tc := ⟨.hbm, 93, rfl⟩
abbrev main_v45 : Ref sig .tc := ⟨.hbm, 94, rfl⟩
abbrev main_cst_6 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_cst_7 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_call2_v0 : Ref sig .tc := ⟨.hbm, 114, rfl⟩
abbrev main_call2_v1 : Ref sig .tc := ⟨.hbm, 115, rfl⟩
abbrev main_call2_cst : Ref sig .tc := ⟨.hbm, 116, rfl⟩
abbrev main_call2_v2 : Ref sig .tc := ⟨.hbm, 117, rfl⟩
abbrev main_call2_v3 : Ref sig .tc := ⟨.hbm, 118, rfl⟩
abbrev main_call2_cst_0 : Ref sig .tc := ⟨.hbm, 119, rfl⟩
abbrev main_call2_v4 : Ref sig .tc := ⟨.hbm, 120, rfl⟩
abbrev main_call2_v5 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩

abbrev nD : Nat := 1
abbrev τ : Topo := Topo.v7x

variable {F : FTy → Type} [FloatOps F]
-- ==== Inproj.lean ====
abbrev S4x8192x1024 : Shape := ⟨3, ![4, 8192, 1024]⟩
abbrev S4x1x9216 : Shape := ⟨3, ![4, 1, 9216]⟩
abbrev S1024 : Shape := ⟨1, ![1024]⟩
abbrev S1024x6656 : Shape := ⟨2, ![1024, 6656]⟩
abbrev S6656 : Shape := ⟨1, ![6656]⟩
abbrev S1x1024 : Shape := ⟨2, ![1, 1024]⟩
abbrev S1x6656 : Shape := ⟨2, ![1, 6656]⟩
abbrev S4x8192x1280 : Shape := ⟨3, ![4, 8192, 1280]⟩
abbrev S4x8192x2048 : Shape := ⟨3, ![4, 8192, 2048]⟩
abbrev S1x512x1024 : Shape := ⟨3, ![1, 512, 1024]⟩
abbrev S1x1x9216 : Shape := ⟨3, ![1, 1, 9216]⟩
abbrev S1x512x1280 : Shape := ⟨3, ![1, 512, 1280]⟩
abbrev S1x512x2048 : Shape := ⟨3, ![1, 512, 2048]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x256 : Shape := ⟨2, ![1, 256]⟩
abbrev S1x512x256 : Shape := ⟨3, ![1, 512, 256]⟩

abbrev nBuf : Space → Nat
  | .hbm => 12
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S4x1x9216, .f32⟩
  | .hbm, ⟨2, _⟩ => ⟨S1024, .f32⟩
  | .hbm, ⟨3, _⟩ => ⟨S1024x6656, .f32⟩
  | .hbm, ⟨4, _⟩ => ⟨S6656, .f32⟩
  | .hbm, ⟨5, _⟩ => ⟨S1024x6656, .bf16⟩
  | .hbm, ⟨6, _⟩ => ⟨S1x1024, .f32⟩
  | .hbm, ⟨7, _⟩ => ⟨S1x6656, .f32⟩
  | .hbm, ⟨8, _⟩ => ⟨S4x8192x1024, .bf16⟩
  | .hbm, ⟨9, _⟩ => ⟨S4x8192x1280, .f32⟩
  | .hbm, ⟨10, _⟩ => ⟨S4x8192x1280, .bf16⟩
  | .hbm, ⟨11, _⟩ => ⟨S4x8192x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x9216, .f32⟩
  | .local _ .vmem, ⟨3, _⟩ => ⟨S1x1x9216, .f32⟩
  | .local _ .vmem, ⟨4, _⟩ => ⟨S1x1024, .f32⟩
  | .local _ .vmem, ⟨5, _⟩ => ⟨S1024x6656, .bf16⟩
  | .local _ .vmem, ⟨6, _⟩ => ⟨S1x6656, .f32⟩
  | .local _ .vmem, ⟨7, _⟩ => ⟨S1x512x1024, .bf16⟩
  | .local _ .vmem, ⟨8, _⟩ => ⟨S1x512x1024, .bf16⟩
  | .local _ .vmem, ⟨9, _⟩ => ⟨S1x512x1280, .f32⟩
  | .local _ .vmem, ⟨10, _⟩ => ⟨S1x512x1280, .f32⟩
  | .local _ .vmem, ⟨11, _⟩ => ⟨S1x512x1280, .bf16⟩
  | .local _ .vmem, ⟨12, _⟩ => ⟨S1x512x1280, .bf16⟩
  | .local _ .vmem, ⟨13, _⟩ => ⟨S1x512x2048, .bf16⟩
  | .local _ .vmem, ⟨14, _⟩ => ⟨S1x512x2048, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x9216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x6656 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x6656 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1280 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== InprojRefIdeal.lean ====
abbrev S4x8192x1024 : Shape := ⟨3, ![4, 8192, 1024]⟩
abbrev S4x1x9216 : Shape := ⟨3, ![4, 1, 9216]⟩
abbrev S1024 : Shape := ⟨1, ![1024]⟩
abbrev S1024x6656 : Shape := ⟨2, ![1024, 6656]⟩
abbrev S6656 : Shape := ⟨1, ![6656]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x6656 : Shape := ⟨3, ![4, 8192, 6656]⟩
abbrev S1x1x6656 : Shape := ⟨3, ![1, 1, 6656]⟩
abbrev S4x8192x2048 : Shape := ⟨3, ![4, 8192, 2048]⟩
abbrev S4x8192x1280 : Shape := ⟨3, ![4, 8192, 1280]⟩

abbrev nBuf : Space → Nat
  | .hbm => 84
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x9216, .f32⟩
  | .hbm, ⟨2, _⟩ => ⟨S1024, .f32⟩
  | .hbm, ⟨3, _⟩ => ⟨S1024x6656, .f32⟩
  | .hbm, ⟨4, _⟩ => ⟨S6656, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x8192x1024, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S4x8192x1, .f32⟩
  | .hbm, ⟨25, _⟩ => ⟨S4x8192x1024, .f32⟩
  | .hbm, ⟨26, _⟩ => ⟨S4x8192x1024, .f32⟩
  | .hbm, ⟨27, _⟩ => ⟨S1x1x1024, .f32⟩
  | .hbm, ⟨28, _⟩ => ⟨S4x8192x1024, .f32⟩
  | .hbm, ⟨29, _⟩ => ⟨S4x8192x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S4x8192x1024, .f32⟩
  | .hbm, ⟨37, _⟩ => ⟨S4x8192x6656, .f32⟩
  | .hbm, ⟨38, _⟩ => ⟨S1x1x6656, .f32⟩
  | .hbm, ⟨39, _⟩ => ⟨S4x8192x6656, .f32⟩
  | .hbm, ⟨40, _⟩ => ⟨S4x8192x6656, .f32⟩
  | .hbm, ⟨41, _⟩ => ⟨S4x8192x2048, .f32⟩
  | .hbm, ⟨42, _⟩ => ⟨S4x8192x1024, .f32⟩
  | .hbm, ⟨43, _⟩ => ⟨S4x8192x1024, .f32⟩
  | .hbm, ⟨44, _⟩ => ⟨S4x8192x1024, .f32⟩
  | .hbm, ⟨45, _⟩ => ⟨S4x8192x1024, .f32⟩
  | .hbm, ⟨46, _⟩ => ⟨S_, .f32⟩
  | .hbm, ⟨47, _⟩ => ⟨S4x8192x1024, .f32⟩
  | .hbm, ⟨48, _⟩ => ⟨S4x8192x1024, .f32⟩
  | .hbm, ⟨49, _⟩ => ⟨S_, .f32⟩
  | .hbm, ⟨50, _⟩ => ⟨S4x8192x1024, .f32⟩
  | .hbm, ⟨51, _⟩ => ⟨S4x8192x1024, .f32⟩
  | .hbm, ⟨52, _⟩ => ⟨S4x8192x1024, .f32⟩
  | .hbm, ⟨53, _⟩ => ⟨S4x8192x1024, .bf16⟩
  | .hbm, ⟨54, _⟩ => ⟨S4x8192x1280, .f32⟩
  | .hbm, ⟨55, _⟩ => ⟨S4x8192x1280, .f32⟩
  | .hbm, ⟨56, _⟩ => ⟨S4x8192x1280, .f32⟩
  | .hbm, ⟨57, _⟩ => ⟨S4x8192x1280, .f32⟩
  | .hbm, ⟨58, _⟩ => ⟨S_, .f32⟩
  | .hbm, ⟨59, _⟩ => ⟨S4x8192x1280, .f32⟩
  | .hbm, ⟨60, _⟩ => ⟨S4x8192x1280, .f32⟩
  | .hbm, ⟨61, _⟩ => ⟨S4x8192x1280, .f32⟩
  | .hbm, ⟨62, _⟩ => ⟨S_, .f32⟩
  | .hbm, ⟨63, _⟩ => ⟨S4x8192x1280, .f32⟩
  | .hbm, ⟨64, _⟩ => ⟨S4x8192x1280, .f32⟩
  | .hbm, ⟨65, _⟩ => ⟨S4x8192x1280, .f32⟩
  | .hbm, ⟨66, _⟩ => ⟨S_, .f32⟩
  | .hbm, ⟨67, _⟩ => ⟨S4x8192x1280, .f32⟩
  | .hbm, ⟨68, _⟩ => ⟨S4x8192x1280, .f32⟩
  | .hbm, ⟨69, _⟩ => ⟨S_, .f32⟩
  | .hbm, ⟨70, _⟩ => ⟨S4x8192x1280, .f32⟩
  | .hbm, ⟨71, _⟩ => ⟨S4x8192x1280, .f32⟩
  | .hbm, ⟨72, _⟩ => ⟨S4x8192x1280, .f32⟩
  | .hbm, ⟨73, _⟩ => ⟨S4x8192x1280, .bf16⟩
  | .hbm, ⟨74, _⟩ => ⟨S4x8192x2048, .f32⟩
  | .hbm, ⟨75, _⟩ => ⟨S4x8192x2048, .f32⟩
  | .hbm, ⟨76, _⟩ => ⟨S4x8192x2048, .f32⟩
  | .hbm, ⟨77, _⟩ => ⟨S_, .f32⟩
  | .hbm, ⟨78, _⟩ => ⟨S4x8192x2048, .f32⟩
  | .hbm, ⟨79, _⟩ => ⟨S4x8192x2048, .f32⟩
  | .hbm, ⟨80, _⟩ => ⟨S_, .f32⟩
  | .hbm, ⟨81, _⟩ => ⟨S4x8192x2048, .f32⟩
  | .hbm, ⟨82, _⟩ => ⟨S4x8192x2048, .f32⟩
  | .hbm, ⟨83, _⟩ => ⟨S4x8192x2048, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_5 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_7 : Ref sig .tc := ⟨.hbm, 66, rfl⟩
abbrev main_v53 : Ref sig .tc := ⟨.hbm, 67, rfl⟩
abbrev main_v54 : Ref sig .tc := ⟨.hbm, 68, rfl⟩
abbrev main_cst_8 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_9 : Ref sig .tc := ⟨.hbm, 77, rfl⟩
abbrev main_v62 : Ref sig .tc := ⟨.hbm, 78, rfl⟩
abbrev main_v63 : Ref sig .tc := ⟨.hbm, 79, rfl⟩
abbrev main_cst_10 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩

abbrev nD : Nat := 1
abbrev τ : Topo := Topo.v7x

variable {F : FTy → Type} [FloatOps F]
-- ==== LruFwd.lean ====
abbrev S4x8192x1280 : Shape := ⟨3, ![4, 8192, 1280]⟩
abbrev S4x1280 : Shape := ⟨2, ![4, 1280]⟩
abbrev S1280 : Shape := ⟨1, ![1280]⟩
abbrev S2x10x128x128 : Shape := ⟨4, ![2, 10, 128, 128]⟩
abbrev S2x1280 : Shape := ⟨2, ![2, 1280]⟩
abbrev S4x1x1280 : Shape := ⟨3, ![4, 1, 1280]⟩
abbrev S1x10x128x128 : Shape := ⟨4, ![1, 10, 128, 128]⟩
abbrev S10x128x128 : Shape := ⟨3, ![10, 128, 128]⟩
abbrev S10x128x256 : Shape := ⟨3, ![10, 128, 256]⟩
abbrev S1x1280 : Shape := ⟨2, ![1, 1280]⟩
abbrev S10x1x128 : Shape := ⟨3, ![10, 1, 128]⟩
abbrev S10x1x256 : Shape := ⟨3, ![10, 1, 256]⟩
abbrev S4x8x1280 : Shape := ⟨3, ![4, 8, 1280]⟩
abbrev S1x512x1280 : Shape := ⟨3, ![1, 512, 1280]⟩
abbrev S1x16x1280 : Shape := ⟨3, ![1, 16, 1280]⟩
abbrev S1x8x1280 : Shape := ⟨3, ![1, 8, 1280]⟩
abbrev S1x1x1280 : Shape := ⟨3, ![1, 1, 1280]⟩
abbrev S536x1280 : Shape := ⟨2, ![536, 1280]⟩
abbrev S8x1280 : Shape := ⟨2, ![8, 1280]⟩
abbrev S16x1280 : Shape := ⟨2, ![16, 1280]⟩
abbrev S512x1280 : Shape := ⟨2, ![512, 1280]⟩
abbrev S8x128 : Shape := ⟨2, ![8, 128]⟩
abbrev S1x128 : Shape := ⟨2, ![1, 128]⟩
abbrev S512x128 : Shape := ⟨2, ![512, 128]⟩
abbrev S1x128x256 : Shape := ⟨3, ![1, 128, 256]⟩
abbrev S128x256 : Shape := ⟨2, ![128, 256]⟩
abbrev S512x256 : Shape := ⟨2, ![512, 256]⟩
abbrev S1x1x256 : Shape := ⟨3, ![1, 1, 256]⟩
abbrev S1x256 : Shape := ⟨2, ![1, 256]⟩
abbrev S1x8x128 : Shape := ⟨3, ![1, 8, 128]⟩
abbrev S1x512x128 : Shape := ⟨3, ![1, 512, 128]⟩

abbrev nBuf : Space → Nat
  | .hbm => 26
  | .vmem => 19
  | .smem => 0
  | _ => 0

abbrev bufTy : (tb : Table) → Fin (tcTables nBuf tb) → BufTy
  | .hbm, ⟨0, _⟩ => ⟨S4x8192x1280, .f32⟩
  | .hbm, ⟨1, _⟩ => ⟨S4x1280, .f32⟩
  | .hbm, ⟨2, _⟩ => ⟨S1280, .f32⟩
  | .hbm, ⟨3, _⟩ => ⟨S2x10x128x128, .f32⟩
  | .hbm, ⟨4, _⟩ => ⟨S2x1280, .f32⟩
  | .hbm, ⟨5, _⟩ => ⟨S2x10x128x128, .f32⟩
  | .hbm, ⟨6, _⟩ => ⟨S2x1280, .f32⟩
  | .hbm, ⟨7, _⟩ => ⟨S2x1280, .f32⟩
  | .hbm, ⟨8, _⟩ => ⟨S4x1x1280, .f32⟩
  | .hbm, ⟨9, _⟩ => ⟨S1x10x128x128, .f32⟩
  | .hbm, ⟨10, _⟩ => ⟨S10x128x128, .f32⟩
  | .hbm, ⟨11, _⟩ => ⟨S1x10x128x128, .f32⟩
  | .hbm, ⟨12, _⟩ => ⟨S10x128x128, .f32⟩
  | .hbm, ⟨13, _⟩ => ⟨S10x128x256, .f32⟩
  | .hbm, ⟨14, _⟩ => ⟨S10x128x256, .bf16⟩
  | .hbm, ⟨15, _⟩ => ⟨S1x1280, .f32⟩
  | .hbm, ⟨16, _⟩ => ⟨S1280, .f32⟩
  | .hbm, ⟨17, _⟩ => ⟨S10x1x128, .f32⟩
  | .hbm, ⟨18, _⟩ => ⟨S1x1280, .f32⟩
  | .hbm, ⟨19, _⟩ => ⟨S1280, .f32⟩
  | .hbm, ⟨20, _⟩ => ⟨S10x1x128, .f32⟩
  | .hbm, ⟨21, _⟩ => ⟨S10x1x256, .f32⟩
  | .hbm, ⟨22, _⟩ => ⟨S1x1280, .f32⟩
  | .hbm, ⟨23, _⟩ => ⟨S1x1280, .f32⟩
  | .hbm, ⟨24, _⟩ => ⟨S4x8192x1280, .f32⟩
  | .hbm, ⟨25, _⟩ => ⟨S4x8x1280, .f32⟩
  | .local _ .vmem, ⟨0, _⟩ => ⟨S1x512x1280, .f32⟩
  | .local _ .vmem, ⟨1, _⟩ => ⟨S1x512x1280, .f32⟩
  | .local _ .vmem, ⟨2, _⟩ => ⟨S1x16x1280, .f32⟩
  | .local _ .vmem, ⟨3, _⟩ => ⟨S1x16x1280, .f32⟩
  | .local _ .vmem, ⟨4, _⟩ => ⟨S1x8x1280, .f32⟩
  | .local _ .vmem, ⟨5, _⟩ => ⟨S1x8x1280, .f32⟩
  | .local _ .vmem, ⟨6, _⟩ => ⟨S4x1280, .f32⟩
  | .local _ .vmem, ⟨7, _⟩ => ⟨S1x1280, .f32⟩
  | .local _ .vmem, ⟨8, _⟩ => ⟨S10x128x256, .bf16⟩
  | .local _ .vmem, ⟨9, _⟩ => ⟨S10x1x256, .f32⟩
  | .local _ .vmem, ⟨10, _⟩ => ⟨S1x1280, .f32⟩
  | .local _ .vmem, ⟨11, _⟩ => ⟨S1x1x1280, .f32⟩
  | .local _ .vmem, ⟨12, _⟩ => ⟨S1x1x1280, .f32⟩
  | .local _ .vmem, ⟨13, _⟩ => ⟨S1x512x1280, .f32⟩
  | .local _ .vmem, ⟨14, _⟩ => ⟨S1x512x1280, .f32⟩
  | .local _ .vmem, ⟨15, _⟩ => ⟨S1x8x1280, .f32⟩
  | .local _ .vmem, ⟨16, _⟩ => ⟨S1x8x1280, .f32⟩
  | .local _ .vmem, ⟨17, _⟩ => ⟨S536x1280, .f32⟩
  | .local _ .vmem, ⟨18, _⟩ => ⟨S8x1280, .f32⟩
  | _, _ => ⟨S4x8192x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S10x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S10x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1280 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x1280 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x1280 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== LruFwdRefIdeal.lean ====
abbrev S4x8192x1280 : Shape := ⟨3, ![4, 8192, 1280]⟩
abbrev S4x1280 : Shape := ⟨2, ![4, 1280]⟩
abbrev S1280 : Shape := ⟨1, ![1280]⟩
abbrev S2x10x128x128 : Shape := ⟨4, ![2, 10, 128, 128]⟩
abbrev S2x1280 : Shape := ⟨2, ![2, 1280]⟩
abbrev S4x1x1280 : Shape := ⟨3, ![4, 1, 1280]⟩
abbrev S4x16x64x8x1280 : Shape := ⟨5, ![4, 16, 64, 8, 1280]⟩
abbrev S4x16x8x64x1280 : Shape := ⟨5, ![4, 16, 8, 64, 1280]⟩
abbrev S_ : Shape := ⟨0, ![]⟩
abbrev S4x8195x1280 : Shape := ⟨3, ![4, 8195, 1280]⟩
abbrev S1x1280 : Shape := ⟨2, ![1, 1280]⟩
abbrev S1x1x1280 : Shape := ⟨3, ![1, 1, 1280]⟩
abbrev S4x8192x10x128 : Shape := ⟨4, ![4, 8192, 10, 128]⟩
abbrev S1x10x128x128 : Shape := ⟨4, ![1, 10, 128, 128]⟩
abbrev S10x128x128 : Shape := ⟨3, ![10, 128, 128]⟩
abbrev S10x128x4x8192 : Shape := ⟨4, ![10, 128, 4, 8192]⟩

abbrev nBuf : Space → Nat
  | .hbm => 166
  | .vmem => 0
  | .smem => 0
  | _ => 0

abbrev hbmTy0_0 (i : Nat) : BufTy := match i % 128 with
  | 0 => ⟨S4x8192x1280, .f32⟩
  | 1 => ⟨S4x1280, .f32⟩
  | 2 => ⟨S1280, .f32⟩
  | 3 => ⟨S2x10x128x128, .f32⟩
  | 4 => ⟨S2x1280, .f32⟩
  | 5 => ⟨S2x10x128x128, .f32⟩
  | 6 => ⟨S2x1280, .f32⟩
  | 7 => ⟨S2x1280, .f32⟩
  | 8 => ⟨S4x1x1280, .f32⟩
  | 9 => ⟨S4x16x64x8x1280, .f32⟩
  | 10 => ⟨S4x16x8x64x1280, .f32⟩
  | 11 => ⟨S4x8192x1280, .f32⟩
  | 12 => ⟨S_, .i32⟩
  | 13 => ⟨S_, .f32⟩
  | 14 => ⟨S4x8195x1280, .f32⟩
  | 15 => ⟨S4x8192x1280, .f32⟩
  | 16 => ⟨S1x1280, .f32⟩
  | 17 => ⟨S1280, .f32⟩
  | 18 => ⟨S1x1x1280, .f32⟩
  | 19 => ⟨S4x8192x1280, .f32⟩
  | 20 => ⟨S4x8192x1280, .f32⟩
  | 21 => ⟨S4x8192x1280, .f32⟩
  | 22 => ⟨S1x1280, .f32⟩
  | 23 => ⟨S1280, .f32⟩
  | 24 => ⟨S1x1x1280, .f32⟩
  | 25 => ⟨S4x8192x1280, .f32⟩
  | 26 => ⟨S4x8192x1280, .f32⟩
  | 27 => ⟨S4x8192x1280, .f32⟩
  | 28 => ⟨S4x8192x1280, .f32⟩
  | 29 => ⟨S1x1280, .f32⟩
  | 30 => ⟨S1280, .f32⟩
  | 31 => ⟨S1x1x1280, .f32⟩
  | 32 => ⟨S4x8192x1280, .f32⟩
  | 33 => ⟨S4x8192x1280, .f32⟩
  | 34 => ⟨S4x8192x1280, .f32⟩
  | 35 => ⟨S4x8192x1280, .f32⟩
  | 36 => ⟨S1x1280, .f32⟩
  | 37 => ⟨S1280, .f32⟩
  | 38 => ⟨S1x1x1280, .f32⟩
  | 39 => ⟨S4x8192x1280, .f32⟩
  | 40 => ⟨S4x8192x1280, .f32⟩
  | 41 => ⟨S4x8192x1280, .f32⟩
  | 42 => ⟨S1x1x1280, .f32⟩
  | 43 => ⟨S4x8192x1280, .f32⟩
  | 44 => ⟨S4x8192x1280, .f32⟩
  | 45 => ⟨S4x8192x10x128, .f32⟩
  | 46 => ⟨S1x10x128x128, .f32⟩
  | 47 => ⟨S10x128x128, .f32⟩
  | 48 => ⟨S10x128x4x8192, .f32⟩
  | 49 => ⟨S4x8192x10x128, .f32⟩
  | 50 => ⟨S4x8192x1280, .f32⟩
  | 51 => ⟨S1x1280, .f32⟩
  | 52 => ⟨S1280, .f32⟩
  | 53 => ⟨S1x1x1280, .f32⟩
  | 54 => ⟨S4x8192x1280, .f32⟩
  | 55 => ⟨S4x8192x1280, .f32⟩
  | 56 => ⟨S4x8192x1280, .f32⟩
  | 57 => ⟨S4x8192x1280, .f32⟩
  | 58 => ⟨S_, .f32⟩
  | 59 => ⟨S4x8192x1280, .f32⟩
  | 60 => ⟨S4x8192x1280, .f32⟩
  | 61 => ⟨S_, .f32⟩
  | 62 => ⟨S4x8192x1280, .f32⟩
  | 63 => ⟨S4x8192x1280, .f32⟩
  | 64 => ⟨S1x10x128x128, .f32⟩
  | 65 => ⟨S10x128x128, .f32⟩
  | 66 => ⟨S10x128x4x8192, .f32⟩
  | 67 => ⟨S4x8192x10x128, .f32⟩
  | 68 => ⟨S4x8192x1280, .f32⟩
  | 69 => ⟨S1x1280, .f32⟩
  | 70 => ⟨S1280, .f32⟩
  | 71 => ⟨S1x1x1280, .f32⟩
  | 72 => ⟨S4x8192x1280, .f32⟩
  | 73 => ⟨S4x8192x1280, .f32⟩
  | 74 => ⟨S4x8192x1280, .f32⟩
  | 75 => ⟨S4x8192x1280, .f32⟩
  | 76 => ⟨S_, .f32⟩
  | 77 => ⟨S4x8192x1280, .f32⟩
  | 78 => ⟨S4x8192x1280, .f32⟩
  | 79 => ⟨S_, .f32⟩
  | 80 => ⟨S4x8192x1280, .f32⟩
  | 81 => ⟨S4x8192x1280, .f32⟩
  | 82 => ⟨S_, .f32⟩
  | 83 => ⟨S4x8192x1280, .f32⟩
  | 84 => ⟨S4x8192x1280, .f32⟩
  | 85 => ⟨S1x1280, .f32⟩
  | 86 => ⟨S1280, .f32⟩
  | 87 => ⟨S1280, .f32⟩
  | 88 => ⟨S_, .f32⟩
  | 89 => ⟨S1280, .f32⟩
  | 90 => ⟨S1280, .f32⟩
  | 91 => ⟨S1280, .f32⟩
  | 92 => ⟨S1280, .f32⟩
  | 93 => ⟨S1280, .i1⟩
  | 94 => ⟨S1280, .f32⟩
  | 95 => ⟨S1280, .f32⟩
  | 96 => ⟨S1280, .f32⟩
  | 97 => ⟨S1280, .f32⟩
  | 98 => ⟨S1280, .f32⟩
  | 99 => ⟨S1280, .f32⟩
  | 100 => ⟨S1280, .f32⟩
  | 101 => ⟨S1280, .f32⟩
  | 102 => ⟨S1x1x1280, .f32⟩
  | 103 => ⟨S4x8192x1280, .f32⟩
  | 104 => ⟨S4x8192x1280, .f32⟩
  | 105 => ⟨S4x8192x1280, .f32⟩
  | 106 => ⟨S_, .f32⟩
  | 107 => ⟨S4x8192x1280, .f32⟩
  | 108 => ⟨S4x8192x1280, .f32⟩
  | 109 => ⟨S4x8192x1280, .f32⟩
  | 110 => ⟨S4x8192x1280, .f32⟩
  | 111 => ⟨S4x8192x1280, .f32⟩
  | 112 => ⟨S4x8192x1280, .f32⟩
  | 113 => ⟨S4x8192x1280, .f32⟩
  | 114 => ⟨S4x1280, .f32⟩
  | 115 => ⟨S_, .f32⟩
  | 116 => ⟨S4x8192x1280, .f32⟩
  | 117 => ⟨S_, .i32⟩
  | 118 => ⟨S_, .i32⟩
  | 119 => ⟨S4x8192x1280, .f32⟩
  | 120 => ⟨S4x8192x1280, .f32⟩
  | 121 => ⟨S_, .i32⟩
  | 122 => ⟨S_, .i32⟩
  | 123 => ⟨S4x1280, .f32⟩
  | 124 => ⟨S4x8192x1280, .f32⟩
  | 125 => ⟨S_, .i32⟩
  | 126 => ⟨S_, .i1⟩
  | 127 => ⟨S_, .i32⟩
  | _ => ⟨S4x8192x1280, .f32⟩

abbrev hbmTy0_1 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S4x1x1280, .f32⟩
  | 10 => ⟨S4x1280, .f32⟩
  | 11 => ⟨S4x1280, .f32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S4x1x1280, .f32⟩
  | 21 => ⟨S4x1280, .f32⟩
  | 22 => ⟨S4x1280, .f32⟩
  | 23 => ⟨S4x1x1280, .f32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S4x8192x1280, .f32⟩
  | 33 => ⟨S_, .i32⟩
  | 34 => ⟨S_, .i32⟩
  | 35 => ⟨S4x16x8x64x1280, .f32⟩
  | 36 => ⟨S4x16x64x8x1280, .f32⟩
  | 37 => ⟨S4x8192x1280, .f32⟩
  | _ => ⟨S4x8192x1280, .f32⟩

abbrev hbmTy (i : Nat) : BufTy := match i / 128 with
  | 0 => hbmTy0_0 i
  | 1 => hbmTy0_1 i
  | _ => ⟨S4x8192x1280, .f32⟩

abbrev bufTy : (tb : Table) → Fin (tcTables nBuf tb) → BufTy
  | .hbm, ⟨i, _⟩ => hbmTy i
  | _, _ => ⟨S4x8192x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst : Ref sig .tc := ⟨.hbm, 58, rfl⟩
abbrev main_v47 : Ref sig .tc := ⟨.hbm, 59, rfl⟩
abbrev main_v48 : Ref sig .tc := ⟨.hbm, 60, rfl⟩
abbrev main_cst_0 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_1 : Ref sig .tc := ⟨.hbm, 76, rfl⟩
abbrev main_v63 : Ref sig .tc := ⟨.hbm, 77, rfl⟩
abbrev main_v64 : Ref sig .tc := ⟨.hbm, 78, rfl⟩
abbrev main_cst_2 : Ref sig .tc := ⟨.hbm, 79, rfl⟩
abbrev main_v65 : Ref sig .tc := ⟨.hbm, 80, rfl⟩
abbrev main_v66 : Ref sig .tc := ⟨.hbm, 81, rfl⟩
abbrev main_cst_3 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_call1_cst : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_call1_v5 : Ref sig .tc := ⟨.hbm, 94, rfl⟩
abbrev main_call1_v6 : Ref sig .tc := ⟨.hbm, 95, rfl⟩
abbrev main_call1_v7 : Ref sig .tc := ⟨.hbm, 96, rfl⟩
abbrev main_call1_v8 : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_4 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_5 : Ref sig .tc := ⟨.hbm, 115, rfl⟩
abbrev main_v85 : Ref sig .tc := ⟨.hbm, 116, rfl⟩
abbrev main_c_6 : Ref sig .tc := ⟨.hbm, 117, rfl⟩
abbrev main_c_7 : Ref sig .tc := ⟨.hbm, 118, rfl⟩
abbrev main_v86_0 : Ref sig .tc := ⟨.hbm, 119, rfl⟩
abbrev main_v86_1 : Ref sig .tc := ⟨.hbm, 120, rfl⟩
abbrev main_v86_2 : Ref sig .tc := ⟨.hbm, 121, rfl⟩
abbrev main_v86_3 : Ref sig .tc := ⟨.hbm, 122, rfl⟩
abbrev main_v86_4 : Ref sig .tc := ⟨.hbm, 123, rfl⟩
abbrev main_v86_5 : Ref sig .tc := ⟨.hbm, 124, rfl⟩
abbrev main_while0c_c_13 : Ref sig .tc := ⟨.hbm, 125, rfl⟩
abbrev main_while0c_v90 : Ref sig .tc := ⟨.hbm, 126, rfl⟩
abbrev main_while0b_c_13 : Ref sig .tc := ⟨.hbm, 127, rfl⟩
abbrev main_while0b_v90 : Ref sig .tc := ⟨.hbm, 128, rfl⟩
abbrev main_while0b_call2_c : Ref sig .tc := ⟨.hbm, 129, rfl⟩
abbrev main_while0b_call2_v0 : Ref sig .tc := ⟨.hbm, 130, rfl⟩
abbrev main_while0b_call2_v1 : Ref sig .tc := ⟨.hbm, 131, rfl⟩
abbrev main_while0b_call2_c_0 : Ref sig .tc := ⟨.hbm, 132, rfl⟩
abbrev main_while0b_call2_v2 : Ref sig .tc := ⟨.hbm, 133, rfl⟩
abbrev main_while0b_call2_v3 : Ref sig .tc := ⟨.hbm, 134, rfl⟩
abbrev main_while0b_call2_c_1 : Ref sig .tc := ⟨.hbm, 135, rfl⟩
abbrev main_while0b_call2_c_2 : Ref sig .tc := ⟨.hbm, 136, rfl⟩
abbrev main_while0b_call2_v4 : Ref sig .tc := ⟨.hbm, 137, rfl⟩
abbrev main_while0b_v91 : Ref sig .tc := ⟨.hbm, 138, rfl⟩
abbrev main_while0b_v92 : Ref sig .tc := ⟨.hbm, 139, rfl⟩
abbrev main_while0b_call3_c : Ref sig .tc := ⟨.hbm, 140, rfl⟩
abbrev main_while0b_call3_v0 : Ref sig .tc := ⟨.hbm, 141, rfl⟩
abbrev main_while0b_call3_v1 : Ref sig .tc := ⟨.hbm, 142, rfl⟩
abbrev main_while0b_call3_c_0 : Ref sig .tc := ⟨.hbm, 143, rfl⟩
abbrev main_while0b_call3_v2 : Ref sig .tc := ⟨.hbm, 144, rfl⟩
abbrev main_while0b_call3_v3 : Ref sig .tc := ⟨.hbm, 145, rfl⟩
abbrev main_while0b_call3_c_1 : Ref sig .tc := ⟨.hbm, 146, rfl⟩
abbrev main_while0b_call3_c_2 : Ref sig .tc := ⟨.hbm, 147, rfl⟩
abbrev main_while0b_call3_v4 : Ref sig .tc := ⟨.hbm, 148, rfl⟩
abbrev main_while0b_v93 : Ref sig .tc := ⟨.hbm, 149, rfl⟩
abbrev main_while0b_v94 : Ref sig .tc := ⟨.hbm, 150, rfl⟩
abbrev main_while0b_call4_v0 : Ref sig .tc := ⟨.hbm, 151, rfl⟩
abbrev main_while0b_call4_c : Ref sig .tc := ⟨.hbm, 152, rfl⟩
abbrev main_while0b_call4_v1 : Ref sig .tc := ⟨.hbm, 153, rfl⟩
abbrev main_while0b_call4_v2 : Ref sig .tc := ⟨.hbm, 154, rfl⟩
abbrev main_while0b_call4_c_0 : Ref sig .tc := ⟨.hbm, 155, rfl⟩
abbrev main_while0b_call4_v3 : Ref sig .tc := ⟨.hbm, 156, rfl⟩
abbrev main_while0b_call4_v4 : Ref sig .tc := ⟨.hbm, 157, rfl⟩
abbrev main_while0b_call4_c_1 : Ref sig .tc := ⟨.hbm, 158, rfl⟩
abbrev main_while0b_call4_c_2 : Ref sig .tc := ⟨.hbm, 159, rfl⟩
abbrev main_while0b_v95 : Ref sig .tc := ⟨.hbm, 160, rfl⟩
abbrev main_while0b_c_14 : Ref sig .tc := ⟨.hbm, 161, rfl⟩
abbrev main_while0b_v96 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩

abbrev nD : Nat := 1
abbrev τ : Topo := Topo.v7x

variable {F : FTy → Type} [FloatOps F]

abbrev main_while0_count : Scf.Loop 32 := ⟨0#32, 8192#32, 1#32⟩
-- ==== FfnCtx.lean ====
abbrev S4x256x1024 : Shape := ⟨3, ![4, 256, 1024]⟩
abbrev S4x1x9216 : Shape := ⟨3, ![4, 1, 9216]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S4x1x32x8192 : Shape := ⟨4, ![4, 1, 32, 8192]⟩
abbrev S1x256x1024 : Shape := ⟨3, ![1, 256, 1024]⟩
abbrev S1x1x9216 : Shape := ⟨3, ![1, 1, 9216]⟩
abbrev S1x1x32x8192 : Shape := ⟨4, ![1, 1, 32, 8192]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S32x1024 : Shape := ⟨2, ![32, 1024]⟩
abbrev S1x1x32x1024 : Shape := ⟨4, ![1, 1, 32, 1024]⟩

abbrev nBuf : Space → Nat
  | .hbm => 9
  | .vmem => 9
  | .smem => 0
  | _ => 0

abbrev bufTy : (tb : Table) → Fin (tcTables nBuf tb) → BufTy
  | .hbm, ⟨0, _⟩ => ⟨S4x256x1024, .f32⟩
  | .hbm, ⟨1, _⟩ => ⟨S4x1x9216, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S4x1x32x8192, .f32⟩
  | .local _ .vmem, ⟨0, _⟩ => ⟨S1x256x1024, .f32⟩
  | .local _ .vmem, ⟨1, _⟩ => ⟨S1x256x1024, .f32⟩
  | .local _ .vmem, ⟨2, _⟩ => ⟨S1x1x9216, .f32⟩
  | .local _ .vmem, ⟨3, _⟩ => ⟨S1x1x9216, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1x32x8192, .f32⟩
  | .local _ .vmem, ⟨8, _⟩ => ⟨S1x1x32x8192, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x9216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x32x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnCtxRefIdeal.lean ====
abbrev S4x256x1024 : Shape := ⟨3, ![4, 256, 1024]⟩
abbrev S4x1x9216 : Shape := ⟨3, ![4, 1, 9216]⟩
abbrev S1024 : Shape := ⟨1, ![1024]⟩
abbrev S1024x5632 : Shape := ⟨2, ![1024, 5632]⟩
abbrev S2816x1024 : Shape := ⟨2, ![2816, 1024]⟩
abbrev S4x1x1024 : Shape := ⟨3, ![4, 1, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x5632 : Shape := ⟨3, ![4, 256, 5632]⟩
abbrev S4x256x2816 : Shape := ⟨3, ![4, 256, 2816]⟩
abbrev S4x1x8x32x1024 : Shape := ⟨5, ![4, 1, 8, 32, 1024]⟩
abbrev S4x1x32x8x1024 : Shape := ⟨5, ![4, 1, 32, 8, 1024]⟩
abbrev S4x1x32x8192 : Shape := ⟨4, ![4, 1, 32, 8192]⟩

abbrev nBuf : Space → Nat
  | .hbm => 60
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x1x9216, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S_, .f32⟩
  | .hbm, ⟨15, _⟩ => ⟨S4x1x1024, .f32⟩
  | .hbm, ⟨16, _⟩ => ⟨S4x1x1024, .f32⟩
  | .hbm, ⟨17, _⟩ => ⟨S4x256x1024, .f32⟩
  | .hbm, ⟨18, _⟩ => ⟨S_, .f32⟩
  | .hbm, ⟨19, _⟩ => ⟨S4x256, .f32⟩
  | .hbm, ⟨20, _⟩ => ⟨S4x256x1, .f32⟩
  | .hbm, ⟨21, _⟩ => ⟨S_, .f32⟩
  | .hbm, ⟨22, _⟩ => ⟨S4x256x1, .f32⟩
  | .hbm, ⟨23, _⟩ => ⟨S4x256x1, .f32⟩
  | .hbm, ⟨24, _⟩ => ⟨S_, .f32⟩
  | .hbm, ⟨25, _⟩ => ⟨S4x256x1, .f32⟩
  | .hbm, ⟨26, _⟩ => ⟨S4x256x1, .f32⟩
  | .hbm, ⟨27, _⟩ => ⟨S4x256x1, .f32⟩
  | .hbm, ⟨28, _⟩ => ⟨S4x256x1024, .f32⟩
  | .hbm, ⟨29, _⟩ => ⟨S4x256x1024, .f32⟩
  | .hbm, ⟨30, _⟩ => ⟨S1x1x1024, .f32⟩
  | .hbm, ⟨31, _⟩ => ⟨S4x256x1024, .f32⟩
  | .hbm, ⟨32, _⟩ => ⟨S4x256x1024, .f32⟩
  | .hbm, ⟨33, _⟩ => ⟨S_, .f32⟩
  | .hbm, ⟨34, _⟩ => ⟨S4x1x1024, .f32⟩
  | .hbm, ⟨35, _⟩ => ⟨S4x1x1024, .f32⟩
  | .hbm, ⟨36, _⟩ => ⟨S4x256x1024, .f32⟩
  | .hbm, ⟨37, _⟩ => ⟨S4x256x1024, .f32⟩
  | .hbm, ⟨38, _⟩ => ⟨S4x256x1024, .f32⟩
  | .hbm, ⟨39, _⟩ => ⟨S4x256x1024, .f32⟩
  | .hbm, ⟨40, _⟩ => ⟨S4x256x5632, .f32⟩
  | .hbm, ⟨41, _⟩ => ⟨S4x256x2816, .f32⟩
  | .hbm, ⟨42, _⟩ => ⟨S4x256x2816, .f32⟩
  | .hbm, ⟨43, _⟩ => ⟨S4x256x2816, .f32⟩
  | .hbm, ⟨44, _⟩ => ⟨S4x256x2816, .f32⟩
  | .hbm, ⟨45, _⟩ => ⟨S_, .f32⟩
  | .hbm, ⟨46, _⟩ => ⟨S4x256x2816, .f32⟩
  | .hbm, ⟨47, _⟩ => ⟨S4x256x2816, .f32⟩
  | .hbm, ⟨48, _⟩ => ⟨S_, .f32⟩
  | .hbm, ⟨49, _⟩ => ⟨S4x256x2816, .f32⟩
  | .hbm, ⟨50, _⟩ => ⟨S4x256x2816, .f32⟩
  | .hbm, ⟨51, _⟩ => ⟨S4x256x2816, .f32⟩
  | .hbm, ⟨52, _⟩ => ⟨S4x256x2816, .f32⟩
  | .hbm, ⟨53, _⟩ => ⟨S4x256x1024, .f32⟩
  | .hbm, ⟨54, _⟩ => ⟨S4x256x1024, .f32⟩
  | .hbm, ⟨55, _⟩ => ⟨S4x256x1024, .f32⟩
  | .hbm, ⟨56, _⟩ => ⟨S4x256x1024, .f32⟩
  | .hbm, ⟨57, _⟩ => ⟨S4x1x8x32x1024, .f32⟩
  | .hbm, ⟨58, _⟩ => ⟨S4x1x32x8x1024, .f32⟩
  | .hbm, ⟨59, _⟩ => ⟨S4x1x32x8192, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== InprojCtx.lean ====
abbrev S4x256x1024 : Shape := ⟨3, ![4, 256, 1024]⟩
abbrev S4x1x9216 : Shape := ⟨3, ![4, 1, 9216]⟩
abbrev S1024 : Shape := ⟨1, ![1024]⟩
abbrev S1024x6656 : Shape := ⟨2, ![1024, 6656]⟩
abbrev S6656 : Shape := ⟨1, ![6656]⟩
abbrev S1024x1280 : Shape := ⟨2, ![1024, 1280]⟩
abbrev S1280 : Shape := ⟨1, ![1280]⟩
abbrev S1x1024 : Shape := ⟨2, ![1, 1024]⟩
abbrev S1x1280 : Shape := ⟨2, ![1, 1280]⟩
abbrev S4x256x1280 : Shape := ⟨3, ![4, 256, 1280]⟩
abbrev S1x256x1024 : Shape := ⟨3, ![1, 256, 1024]⟩
abbrev S1x1x9216 : Shape := ⟨3, ![1, 1, 9216]⟩
abbrev S1x256x1280 : Shape := ⟨3, ![1, 256, 1280]⟩
abbrev S1x1x1024 : Shape := ⟨3, ![1, 1, 1024]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S1x256 : Shape := ⟨2, ![1, 256]⟩
abbrev S1x256x256 : Shape := ⟨3, ![1, 256, 256]⟩

abbrev nBuf : Space → Nat
  | .hbm => 11
  | .vmem => 9
  | .smem => 0
  | _ => 0

abbrev bufTy : (tb : Table) → Fin (tcTables nBuf tb) → BufTy
  | .hbm, ⟨0, _⟩ => ⟨S4x256x1024, .f32⟩
  | .hbm, ⟨1, _⟩ => ⟨S4x1x9216, .f32⟩
  | .hbm, ⟨2, _⟩ => ⟨S1024, .f32⟩
  | .hbm, ⟨3, _⟩ => ⟨S1024x6656, .f32⟩
  | .hbm, ⟨4, _⟩ => ⟨S6656, .f32⟩
  | .hbm, ⟨5, _⟩ => ⟨S1024x6656, .bf16⟩
  | .hbm, ⟨6, _⟩ => ⟨S1024x1280, .bf16⟩
  | .hbm, ⟨7, _⟩ => ⟨S1280, .f32⟩
  | .hbm, ⟨8, _⟩ => ⟨S1x1024, .f32⟩
  | .hbm, ⟨9, _⟩ => ⟨S1x1280, .f32⟩
  | .hbm, ⟨10, _⟩ => ⟨S4x256x1280, .f32⟩
  | .local _ .vmem, ⟨0, _⟩ => ⟨S1x256x1024, .f32⟩
  | .local _ .vmem, ⟨1, _⟩ => ⟨S1x256x1024, .f32⟩
  | .local _ .vmem, ⟨2, _⟩ => ⟨S1x1x9216, .f32⟩
  | .local _ .vmem, ⟨3, _⟩ => ⟨S1x1x9216, .f32⟩
  | .local _ .vmem, ⟨4, _⟩ => ⟨S1x1024, .f32⟩
  | .local _ .vmem, ⟨5, _⟩ => ⟨S1024x1280, .bf16⟩
  | .local _ .vmem, ⟨6, _⟩ => ⟨S1x1280, .f32⟩
  | .local _ .vmem, ⟨7, _⟩ => ⟨S1x256x1280, .f32⟩
  | .local _ .vmem, ⟨8, _⟩ => ⟨S1x256x1280, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x9216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InprojCtxRefIdeal.lean ====
abbrev S4x256x1024 : Shape := ⟨3, ![4, 256, 1024]⟩
abbrev S4x1x9216 : Shape := ⟨3, ![4, 1, 9216]⟩
abbrev S1024 : Shape := ⟨1, ![1024]⟩
abbrev S1024x6656 : Shape := ⟨2, ![1024, 6656]⟩
abbrev S6656 : Shape := ⟨1, ![6656]⟩
abbrev S4x1x1024 : Shape := ⟨3, ![4, 1, 1024]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S1024x1280 : Shape := ⟨2, ![1024, 1280]⟩
abbrev S4x256x1280 : Shape := ⟨3, ![4, 256, 1280]⟩
abbrev S1280 : Shape := ⟨1, ![1280]⟩
abbrev S1x1x1280 : Shape := ⟨3, ![1, 1, 1280]⟩

abbrev nBuf : Space → Nat
  | .hbm => 43
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x1x9216, .f32⟩
  | .hbm, ⟨2, _⟩ => ⟨S1024, .f32⟩
  | .hbm, ⟨3, _⟩ => ⟨S1024x6656, .f32⟩
  | .hbm, ⟨4, _⟩ => ⟨S6656, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x256x1024, .f32⟩
  | .hbm, ⟨15, _⟩ => ⟨S_, .f32⟩
  | .hbm, ⟨16, _⟩ => ⟨S4x256, .f32⟩
  | .hbm, ⟨17, _⟩ => ⟨S4x256x1, .f32⟩
  | .hbm, ⟨18, _⟩ => ⟨S_, .f32⟩
  | .hbm, ⟨19, _⟩ => ⟨S4x256x1, .f32⟩
  | .hbm, ⟨20, _⟩ => ⟨S4x256x1, .f32⟩
  | .hbm, ⟨21, _⟩ => ⟨S_, .f32⟩
  | .hbm, ⟨22, _⟩ => ⟨S4x256x1, .f32⟩
  | .hbm, ⟨23, _⟩ => ⟨S4x256x1, .f32⟩
  | .hbm, ⟨24, _⟩ => ⟨S4x256x1, .f32⟩
  | .hbm, ⟨25, _⟩ => ⟨S4x256x1024, .f32⟩
  | .hbm, ⟨26, _⟩ => ⟨S4x256x1024, .f32⟩
  | .hbm, ⟨27, _⟩ => ⟨S1x1x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x256x1024, .f32⟩
  | .hbm, ⟨34, _⟩ => ⟨S4x256x1024, .f32⟩
  | .hbm, ⟨35, _⟩ => ⟨S4x256x1024, .f32⟩
  | .hbm, ⟨36, _⟩ => ⟨S4x256x1024, .f32⟩
  | .hbm, ⟨37, _⟩ => ⟨S1024x1280, .f32⟩
  | .hbm, ⟨38, _⟩ => ⟨S4x256x1280, .f32⟩
  | .hbm, ⟨39, _⟩ => ⟨S1280, .f32⟩
  | .hbm, ⟨40, _⟩ => ⟨S1x1x1280, .f32⟩
  | .hbm, ⟨41, _⟩ => ⟨S4x256x1280, .f32⟩
  | .hbm, ⟨42, _⟩ => ⟨S4x256x1280, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Modulation.lean ====
abbrev S8x1024 : Shape := ⟨2, ![8, 1024]⟩
abbrev S1024x9216 : Shape := ⟨2, ![1024, 9216]⟩
abbrev S9216 : Shape := ⟨1, ![9216]⟩
abbrev S1x9216 : Shape := ⟨2, ![1, 9216]⟩
abbrev S8x9216 : Shape := ⟨2, ![8, 9216]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x9216, .f32⟩
  | .hbm, ⟨2, _⟩ => ⟨S9216, .f32⟩
  | .hbm, ⟨3, _⟩ => ⟨S1x9216, .f32⟩
  | .hbm, ⟨4, _⟩ => ⟨S8x9216, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulationRefIdeal.lean ====
abbrev S8x1024 : Shape := ⟨2, ![8, 1024]⟩
abbrev S1024x9216 : Shape := ⟨2, ![1024, 9216]⟩
abbrev S9216 : Shape := ⟨1, ![9216]⟩
abbrev S_ : Shape := ⟨0, ![]⟩
abbrev S8x9216 : Shape := ⟨2, ![8, 9216]⟩
abbrev S1x9216 : Shape := ⟨2, ![1, 9216]⟩

abbrev nBuf : Space → Nat
  | .hbm => 16
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x9216, .f32⟩
  | .hbm, ⟨2, _⟩ => ⟨S9216, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x9216, .f32⟩
  | .hbm, ⟨13, _⟩ => ⟨S1x9216, .f32⟩
  | .hbm, ⟨14, _⟩ => ⟨S8x9216, .f32⟩
  | .hbm, ⟨15, _⟩ => ⟨S8x9216, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.Rows.lean ====
/- The scalar side of the certificate: what one row of the layer is as a function on extended reals, in the kernels'
   spelling and in the references', and when the two agree. Nothing here mentions a program. -/
module

public import Idealize.ShloMosaic.Lib.Pointwise
public import Idealize.ShloMosaic.Lib.IdealHost

@[expose] public section

noncomputable section

namespace Rows

open Idealize.ShloMosaic

/-- One half, as both programs write it. -/
def half : EReal := Ideal.ofBits .f32 0x3F000000#32
/-- The row length 1024 and the norm's small constant. -/
def len : EReal := Ideal.ofBits .f32 0x44800000#32
def eps : EReal := Ideal.ofBits .f32 0x358637BD#32

theorem half_eq : half = ((1 / 2 : ℝ) : EReal) := by
  unfold half
  simp [Ideal.ofBits, Ideal.ieee, -EReal.coe_mul]; norm_num

theorem len_eq : len = ((1024 : ℝ) : EReal) := by
  unfold len
  simp [Ideal.ofBits, Ideal.ieee, -EReal.coe_mul]; norm_num

theorem eps_pos : ∃ e : ℝ, 0 < e ∧ eps = (e : EReal) := by
  refine ⟨8796093 * 2 ^ (-43 : ℤ), by positivity, ?_⟩
  unfold eps
  simp [Ideal.ofBits, Ideal.ieee, -EReal.coe_mul]

/-- The reciprocal root mean square of a row. -/
def inv (x : Fin 1024 → EReal) : EReal := Ideal.rsqrt (Ideal.div (∑ k, x k * x k) len + eps)

/-- The root mean square norm of a row, weighted by `g`. -/
def nrm (x g : Fin 1024 → EReal) (i : Fin 1024) : EReal := x i * inv x * g i

/-- The norm, scaled and shifted. -/
def adj (x g sc sh : Fin 1024 → EReal) (i : Fin 1024) : EReal := nrm x g i * (1 + sc i) + sh i

/-- A row times a column of a matrix. -/
def dot (h w : Fin 1024 → EReal) : EReal := ∑ k, h k * w k

/-- The gated unit as the kernel writes it: half the gate times one plus the hyperbolic tangent of half the gate. -/
def gateT (g u : EReal) : EReal := (half * g + half * g * Ideal.tanh (half * g)) * u

/-- The gated unit as the reference writes it: the gate times its logistic function. -/
def gateL (g u : EReal) : EReal := g * Ideal.div 1 (1 + Ideal.exp (-g)) * u

/-- The hidden row of a gated unit `act` of two products with the halves of `wu`, times `wd`. -/
def hid (act : EReal → EReal → EReal) (h : Fin 1024 → EReal) (wu : Fin 1024 → Fin 5632 → EReal)
    (wd : Fin 2816 → Fin 1024 → EReal) (d : Fin 1024) : EReal :=
  ∑ q : Fin 2816, act (dot h fun k => wu k ⟨q, by omega⟩) (dot h fun k => wu k ⟨2816 + q, by omega⟩) * wd q d

/-- The feed-forward row: the row, and half of `gt` times the hidden row's product. -/
def ffn (act : EReal → EReal → EReal) (x g sc sh gt : Fin 1024 → EReal) (wu : Fin 1024 → Fin 5632 → EReal)
    (wd : Fin 2816 → Fin 1024 → EReal) (d : Fin 1024) : EReal :=
  x d + half * gt d * hid act (adj x g sc sh) wu wd d

/-- Where token `l` lies: in each tile of 512 tokens, token `64 s + j` is at place `8 j + s`. -/
def place (l : Fin 8192) : Fin 8192 := ⟨l / 512 * 512 + l % 64 * 8 + l % 512 / 64, by omega⟩

/-- The token array seen tile by tile, eight tokens to a line: the element at a line's column. -/
theorem tiled {α : Type} (x : (⟨3, ![4, 8192, 1024]⟩ : Shape).Idx → α)
    (h : (⟨3, ![4, 8192, 1024]⟩ : Shape).ShapeCasts ⟨4, ![4, 16, 64, 8192]⟩) (b : Fin 4) (t : Fin 16) (j : Fin 64) (k : Fin 8192) :
    shapeCast ⟨4, ![4, 16, 64, 8192]⟩ x h (ix4 b t j k) =
      x (ix3 b ⟨t * 512 + j * 8 + k / 1024, by omega⟩ ⟨k % 1024, by omega⟩) := by
  refine congrArg x (Shape.reshapeEquiv_eq_of_rowMajor h ?_)
  simp only [Shape.rowMajor_val_three, Shape.rowMajor_val_four]
  show (b.val * 8192 + (t.val * 512 + j.val * 8 + k.val / 1024)) * 1024 + k.val % 1024 = ((b.val * 16 + t.val) * 64 + j.val) * 8192 + k.val
  omega

/-- The token and the column which a tile's line holds at a place: column block `k / 1024` of line `j` is token `64 (k / 1024) + j`. -/
def token (t : Fin 16) (j : Fin 64) (k : Fin 8192) : Fin 8192 := ⟨t * 512 + k / 1024 * 64 + j, by omega⟩
def column (k : Fin 8192) : Fin 1024 := ⟨k % 1024, by omega⟩

/-- The 256 hidden columns from `o` on: their share of the second product. -/
def part (act : EReal → EReal → EReal) (h : Fin 1024 → EReal) (wu : Fin 1024 → Fin 5632 → EReal)
    (wd : Fin 2816 → Fin 1024 → EReal) (d : Fin 1024) (o : ℕ) (ho : o + 256 ≤ 2816) : EReal :=
  ∑ q : Fin 256, act (dot h fun k => wu k ⟨o + q, by omega⟩) (dot h fun k => wu k ⟨2816 + (o + q), by omega⟩) *
    wd ⟨o + q, by omega⟩ d

theorem sum_eleven (g : Fin 11 → EReal) :
    ∑ j, g j = g 0 + g 1 + g 2 + g 3 + g 4 + g 5 + g 6 + g 7 + g 8 + g 9 + g 10 := by
  simp only [Fin.sum_univ_castSucc, Finset.univ_eq_empty, Finset.sum_empty, zero_add]
  rfl

/-- The hidden columns in eleven parts, added from the left. -/
theorem sum_parts (act : EReal → EReal → EReal) (h : Fin 1024 → EReal) (wu : Fin 1024 → Fin 5632 → EReal)
    (wd : Fin 2816 → Fin 1024 → EReal) (d : Fin 1024) :
    hid act h wu wd d =
      part act h wu wd d 0 (by omega) + part act h wu wd d 256 (by omega) + part act h wu wd d 512 (by omega) +
      part act h wu wd d 768 (by omega) + part act h wu wd d 1024 (by omega) + part act h wu wd d 1280 (by omega) +
      part act h wu wd d 1536 (by omega) + part act h wu wd d 1792 (by omega) + part act h wu wd d 2048 (by omega) +
      part act h wu wd d 2304 (by omega) + part act h wu wd d 2560 (by omega) := by
  rw [hid, Fin.sum_univ_tiles 11 256 rfl]
  exact sum_eleven _

/-! ## Finite numbers -/

/-- The value is a real number. -/
def Fine (x : EReal) : Prop := ∃ r : ℝ, x = (r : EReal)

theorem Fine.mul {x y : EReal} (hx : Fine x) (hy : Fine y) : Fine (x * y) := by
  obtain ⟨a, rfl⟩ := hx; obtain ⟨b, rfl⟩ := hy; exact ⟨a * b, (EReal.coe_mul a b).symm⟩

theorem Fine.add {x y : EReal} (hx : Fine x) (hy : Fine y) : Fine (x + y) := by
  obtain ⟨a, rfl⟩ := hx; obtain ⟨b, rfl⟩ := hy; exact ⟨a + b, (EReal.coe_add a b).symm⟩

theorem Fine.one : Fine 1 := ⟨1, EReal.coe_one.symm⟩

theorem sum_coe {n : ℕ} (f : Fin n → ℝ) : (∑ k, ((f k : ℝ) : EReal)) = ((∑ k, f k : ℝ) : EReal) := by
  induction n with
  | zero => simp
  | succ n ih => rw [Fin.sum_univ_succ, Fin.sum_univ_succ, ih, EReal.coe_add]

theorem Fine.sum {n : ℕ} {f : Fin n → EReal} (h : ∀ k, Fine (f k)) : Fine (∑ k, f k) := by
  choose r hr using h
  exact ⟨∑ k, r k, by rw [← sum_coe]; exact Finset.sum_congr rfl fun k _ => hr k⟩

/-- The reciprocal root mean square of a row of real numbers is a real number. -/
theorem Fine.inv {x : Fin 1024 → EReal} (h : ∀ k, Fine (x k)) : Fine (inv x) := by
  choose r hr using h
  obtain ⟨e, he, hee⟩ := eps_pos
  have hs : (∑ k, x k * x k) = ((∑ k, r k * r k : ℝ) : EReal) := by
    rw [← sum_coe]; exact Finset.sum_congr rfl fun k _ => by rw [hr k, EReal.coe_mul]
  have hp : 0 < (∑ k, r k * r k) * (1 / 1024) + e := by
    have : 0 ≤ ∑ k, r k * r k := Finset.sum_nonneg fun k _ => mul_self_nonneg _
    positivity
  unfold Rows.inv
  rw [hs, len_eq, Ideal.div_coe (by norm_num), hee, ← EReal.coe_mul, ← EReal.coe_add]
  refine ⟨(Real.sqrt ((∑ k, r k * r k) * (1 / 1024) + e))⁻¹, ?_⟩
  show (if _ then _ else if _ then _ else _ : EReal) = _
  rw [if_neg (not_lt.2 hp.le), if_neg hp.ne']

theorem Fine.adj {x g sc sh : Fin 1024 → EReal} (hx : ∀ k, Fine (x k)) (hg : ∀ k, Fine (g k)) (hc : ∀ k, Fine (sc k))
    (hh : ∀ k, Fine (sh k)) (i : Fin 1024) : Fine (adj x g sc sh i) :=
  ((((hx i).mul (Fine.inv hx)).mul (hg i)).mul (Fine.one.add (hc i))).add (hh i)

theorem Fine.dot {h w : Fin 1024 → EReal} (hh : ∀ k, Fine (h k)) (hw : ∀ k, Fine (w k)) : Fine (dot h w) :=
  Fine.sum fun k => (hh k).mul (hw k)

/-- Quotients by a number that is not zero, powers of a real and the circular functions of a real are real. -/
theorem Fine.div {x : EReal} (hx : Fine x) {r : ℝ} (hr : r ≠ 0) : Fine (Ideal.div x r) := by
  obtain ⟨a, rfl⟩ := hx
  exact ⟨a * (1 / r), by rw [Ideal.div_coe hr, EReal.coe_mul]⟩

theorem Fine.sin {x : EReal} (hx : Fine x) : Fine (Ideal.sin x) := by
  obtain ⟨a, rfl⟩ := hx; exact ⟨Real.sin a, rfl⟩

theorem Fine.cos {x : EReal} (hx : Fine x) : Fine (Ideal.cos x) := by
  obtain ⟨a, rfl⟩ := hx; exact ⟨Real.cos a, rfl⟩

/-- The position table's lengths: a row number over ten thousand to a power. -/
theorem Fine.wave {x k : EReal} (hx : Fine x) (hk : Fine k) :
    Fine (x * Ideal.div 1 (Ideal.pow (Ideal.ofBits .f32 0x461C4000#32) (Ideal.div k (Ideal.ofBits .f32 0x43800000#32)))) := by
  have h1 : Ideal.ofBits .f32 0x461C4000#32 = ((10000 : ℝ) : EReal) := by
    simp [Ideal.ofBits, Ideal.ieee, -EReal.coe_mul]; norm_num
  have h2 : Ideal.ofBits .f32 0x43800000#32 = ((256 : ℝ) : EReal) := by
    simp [Ideal.ofBits, Ideal.ieee, -EReal.coe_mul]; norm_num
  obtain ⟨y, hy⟩ := hk.div (r := 256) (by norm_num)
  rw [h1, h2, hy]
  exact hx.mul (Fine.one.div (Real.rpow_pos_of_pos (by norm_num : (0 : ℝ) < 10000) y).ne')

/-- What a comparison of the absolute value with infinity says. -/
theorem Fine.of_lt {x : EReal} (h : Ideal.cmp .olt (max x (-x)) (Ideal.ofBits .f32 0x7F800000#32) = 1#1) : Fine x := by
  have h : max x (-x) < Ideal.ofBits .f32 0x7F800000#32 := by
    by_contra hn
    simp [Ideal.cmp, hn] at h
  have hi : Ideal.ofBits .f32 0x7F800000#32 = (⊤ : EReal) := by simp [Ideal.ofBits, Ideal.ieee]
  rw [hi, max_lt_iff] at h
  induction x with
  | bot => simp at h
  | top => simp at h
  | coe r => exact ⟨r, rfl⟩

/-! ## The gated units agree -/

/-- The hyperbolic tangent of half a real, through the exponential. -/
theorem tanh_half (r : ℝ) : Real.tanh (1 / 2 * r) = 2 * (1 + Real.exp (-r))⁻¹ - 1 := by
  have he : Real.exp (-r) = Real.exp (-(1 / 2 * r)) * Real.exp (-(1 / 2 * r)) := by
    rw [← Real.exp_add]; congr 1; ring
  have h1 : Real.exp (1 / 2 * r) * Real.exp (-(1 / 2 * r)) = 1 := by rw [← Real.exp_add]; simp
  have hp := Real.exp_pos (1 / 2 * r)
  have hn := Real.exp_pos (-(1 / 2 * r))
  rw [Real.tanh_eq_sinh_div_cosh, Real.sinh_eq, Real.cosh_eq, he]
  generalize Real.exp (1 / 2 * r) = a at *
  generalize Real.exp (-(1 / 2 * r)) = b at *
  have hs : a + b ≠ 0 := by positivity
  have hb : 1 + b * b ≠ 0 := by positivity
  field_simp
  linear_combination (2 * b) * h1

/-- On real gates the two spellings of the gated unit are one function. -/
theorem gateT_eq_gateL {g : EReal} (u : EReal) (hg : Fine g) : gateT g u = gateL g u := by
  obtain ⟨r, rfl⟩ := hg
  unfold gateT gateL
  congr 1
  rw [half_eq, ← EReal.coe_mul, ← Ideal.logistic, Ideal.logistic_coe]
  show (_ : EReal) + _ * ((Real.tanh _ : ℝ) : EReal) = _
  rw [← EReal.coe_mul, ← EReal.coe_add, ← EReal.coe_mul]
  congr 1
  rw [tanh_half]; ring

/-- So the feed-forward rows agree where the row, its weights and the first matrix are real. -/
theorem ffn_eq {x g sc sh gt : Fin 1024 → EReal} {wu : Fin 1024 → Fin 5632 → EReal} {wd : Fin 2816 → Fin 1024 → EReal}
    (hx : ∀ k, Fine (x k)) (hg : ∀ k, Fine (g k)) (hc : ∀ k, Fine (sc k)) (hh : ∀ k, Fine (sh k))
    (hw : ∀ k q, Fine (wu k q)) (d : Fin 1024) :
    ffn gateT x g sc sh gt wu wd d = ffn gateL x g sc sh gt wu wd d := by
  unfold ffn hid
  congr 2
  exact Finset.sum_congr rfl fun q _ => by
    rw [gateT_eq_gateL _ (Fine.dot (Fine.adj hx hg hc hh) fun k => hw k _)]

end Rows

end
-- ==== Proof.Finite2.lean ====
/- What the precondition says: every element of the arrays it names is a real number. -/
module

public import Idealize.ShloMosaic.Lib.Pointwise
public import proofs.«01_k».proof.Proof.Rows
public import proofs.«01_k».proof.Pre_ffn2_finite

@[expose] public section

noncomputable section

open Idealize.ShloMosaic

namespace Cert.Pre_ffn2_finite

/-- The broadcasts of a scalar hold of any shape. -/
theorem facts : Facts where
  bcast_S_S4x8192x1024 := by decide
  bcast_S_S4x1x9216 := by decide
  bcast_S_S1024 := by decide
  bcast_S_S1024x5632 := by decide

variable [Facts] (x0 : FVec Ideal S4x8192x1024 .f32) (x1 : FVec Ideal S4x1x9216 .f32) (x2 : FVec Ideal S1024 .f32)
  (x3 : FVec Ideal S1024x5632 .f32) (x4 : FVec Ideal S2816x1024 .f32) (x5 : FVec Ideal S1024 .f32)

theorem fine0 (h : (fn x0 x1 x2 x3 x4 x5).1 = fun _ => 1#1) (i : S4x8192x1024.Idx) : Rows.Fine (x0 i) := Rows.Fine.of_lt (congrFun h i)
theorem fine1 (h : (fn x0 x1 x2 x3 x4 x5).2.1 = fun _ => 1#1) (i : S4x1x9216.Idx) : Rows.Fine (x1 i) := Rows.Fine.of_lt (congrFun h i)
theorem fine2 (h : (fn x0 x1 x2 x3 x4 x5).2.2.1 = fun _ => 1#1) (i : S1024.Idx) : Rows.Fine (x2 i) := Rows.Fine.of_lt (congrFun h i)
theorem fine3 (h : (fn x0 x1 x2 x3 x4 x5).2.2.2 = fun _ => 1#1) (i : S1024x5632.Idx) : Rows.Fine (x3 i) := Rows.Fine.of_lt (congrFun h i)

end Cert.Pre_ffn2_finite

end
-- ==== Proof.Ffn2Kernel.lean ====
/- The kernel of the second feed-forward call: what it stores at a grid point, row by row, and the array it leaves. -/
module

public import Idealize.ShloMosaic.Lib.Pointwise
public import proofs.«01_k».proof.Proof.Rows
public import Idealize.ShloMosaic.Lib.Pipeline.ValueKit.Geometry
public import Idealize.ShloMosaic.Lib.Pipeline.ValueKit.Acc
public import proofs.«01_k».proof.Proof.Gen.Ffn2Ideal.Frame

@[expose] public section

set_option maxRecDepth 16384
noncomputable section
open Idealize.ShloMosaic Cert.Ffn2Ideal Cert.Ffn2Ideal.Gen
namespace Cert.Ffn2Ideal.Rowwise

/-- One chunk of the hidden columns: the gated unit of two products, times the chunk's rows of the second matrix. -/
def chunk (h : FVec Ideal S512x1024 .bf16) (wg wu : Vec Ideal S1024x256 .bf16) (wd : Vec Ideal S256x1024 .bf16)
    (r : Fin 512) (d : Fin 1024) : EReal :=
  ∑ q : Fin 256, Rows.gateT (∑ k, h (ix2 r k) * wg (ix2 k q)) (∑ k, h (ix2 r k) * wu (ix2 k q)) * wd (ix2 q d)

theorem pay5 (v16 : FVec Ideal S512x1024 .f32) (v18 : FVec Ideal S1x1024 .f32) (v19 : Vec Ideal S1x1x1024 .f32) (v23 : Vec Ideal S1x1024 .f32)
    (a b : Vec Ideal S1024x256 .bf16) (e : Vec Ideal S256x1024 .bf16) (r : Fin 512) (d : Fin 1024) :
    k0_pay5 v16 v18 v19 v23 a b e (ix2 r d) = chunk (k0_pay4 v16 v18 v19 v23) a b e r d := by
  pointwise [k0_pay5, k0_pay4, chunk, Rows.gateT, Rows.half]

theorem pay6 (h : FVec Ideal S512x1024 .bf16) (acc : FVec Ideal S512x1024 .f32)
    (a b : Vec Ideal S1024x256 .bf16) (e : Vec Ideal S256x1024 .bf16)
    (a' b' : Vec Ideal S1024x256 .bf16) (e' : Vec Ideal S256x1024 .bf16) (r : Fin 512) (d : Fin 1024) :
    k0_pay6 h acc a b e a' b' e' (ix2 r d) = acc (ix2 r d) + chunk h a b e r d + chunk h a' b' e' r d := by
  pointwise [k0_pay6, chunk, Rows.gateT, Rows.half]

theorem pay8 (h : FVec Ideal S512x1024 .bf16) (acc : FVec Ideal S512x1024 .f32)
    (a b : Vec Ideal S1024x256 .bf16) (e : Vec Ideal S256x1024 .bf16)
    (a' b' : Vec Ideal S1024x256 .bf16) (e' : Vec Ideal S256x1024 .bf16) (r : Fin 512) (d : Fin 1024) :
    k0_pay8 h acc (k0_pay7 h a) b e a' b' e' (ix2 r d) = acc (ix2 r d) + chunk h a b e r d + chunk h a' b' e' r d := by
  pointwise [k0_pay8, k0_pay7, chunk, Rows.gateT, Rows.half]

theorem pay11 (h : FVec Ideal S512x1024 .bf16) (acc : FVec Ideal S512x1024 .f32)
    (a b : Vec Ideal S1024x256 .bf16) (e : Vec Ideal S256x1024 .bf16)
    (a' b' : Vec Ideal S1024x256 .bf16) (e' : Vec Ideal S256x1024 .bf16) (r : Fin 512) (d : Fin 1024) :
    k0_pay11 h acc (k0_pay9 h a) (k0_pay10 h b) (Scalar.ofBits .f32 0x3F000000#32) e a' b' e' (ix2 r d) = acc (ix2 r d) + chunk h a b e r d + chunk h a' b' e' r d := by
  pointwise [k0_pay11, k0_pay9, k0_pay10, chunk, Rows.gateT, Rows.half]

theorem pay13 (h : FVec Ideal S512x1024 .bf16) (acc : FVec Ideal S512x1024 .f32)
    (a b : Vec Ideal S1024x256 .bf16) (e : Vec Ideal S256x1024 .bf16)
    (a' b' : Vec Ideal S1024x256 .bf16) (e' : Vec Ideal S256x1024 .bf16) (r : Fin 512) (d : Fin 1024) :
    k0_pay13 h acc (k0_pay12 h a b) e a' b' e' (ix2 r d) = acc (ix2 r d) + chunk h a b e r d + chunk h a' b' e' r d := by
  pointwise [k0_pay13, k0_pay12, chunk, Rows.gateT, Rows.half]

theorem pay16 (x : FVec Ideal S512x1024 .f32) (gt : FVec Ideal S1x1024 .f32) (h : FVec Ideal S512x1024 .bf16) (acc : FVec Ideal S512x1024 .f32)
    (a b : Vec Ideal S1024x256 .bf16) (e : Vec Ideal S256x1024 .bf16)
    (a' b' : Vec Ideal S1024x256 .bf16) (e' : Vec Ideal S256x1024 .bf16) (gf : Vec Ideal S1x1024 .f32) (r : Fin 512) (d : Fin 1024) :
    k0_pay16 x gt h acc (k0_pay14 h a b) (k0_pay15 e) (constant S512x1024 .f32 0x00000000#32) a' b' e' gf (ix3 0 r d) =
      Rows.nrm (fun d => x (ix2 r d) + Rows.half * gt (ix2 0 d) * (acc (ix2 r d) + chunk h a b e r d + chunk h a' b' e' r d)) (fun d => gf (ix2 0 d)) d := by
  pointwise [k0_pay16, k0_pay14, k0_pay15, chunk, Rows.gateT, Rows.half, Rows.nrm, Rows.inv, Rows.len, Rows.eps]

theorem pay4 (x : FVec Ideal S512x1024 .f32) (sh : FVec Ideal S1x1024 .f32) (sc : Vec Ideal S1x1x1024 .f32) (g : Vec Ideal S1x1024 .f32) (r : Fin 512) (d : Fin 1024) :
    k0_pay4 x sh sc g (ix2 r d) = Rows.adj (fun k => x (ix2 r k)) (fun k => g (ix2 0 k)) (fun k => sc (ix3 0 0 k)) (fun k => sh (ix2 0 k)) d := by
  pointwise [k0_pay4, Rows.adj, Rows.nrm, Rows.inv, Rows.len, Rows.eps]

theorem pay1 (a0 a1 a2 a3 a4 a5 a6 a7 : Vec Ideal S1x1x64x1024 .f32) (X : Fin 64 → Fin 8192 → EReal)
    (h0 : ∀ j d, a0 (ix4 0 0 j d) = X j ⟨d, by omega⟩) (h1 : ∀ j d, a1 (ix4 0 0 j d) = X j ⟨1024 + d, by omega⟩)
    (h2 : ∀ j d, a2 (ix4 0 0 j d) = X j ⟨2048 + d, by omega⟩) (h3 : ∀ j d, a3 (ix4 0 0 j d) = X j ⟨3072 + d, by omega⟩)
    (h4 : ∀ j d, a4 (ix4 0 0 j d) = X j ⟨4096 + d, by omega⟩) (h5 : ∀ j d, a5 (ix4 0 0 j d) = X j ⟨5120 + d, by omega⟩)
    (h6 : ∀ j d, a6 (ix4 0 0 j d) = X j ⟨6144 + d, by omega⟩) (h7 : ∀ j d, a7 (ix4 0 0 j d) = X j ⟨7168 + d, by omega⟩)
    (r : Fin 512) (d : Fin 1024) :
    k0_pay1 a0 a1 a2 a3 a4 a5 a6 a7 (ix2 r d) = X ⟨r % 64, by omega⟩ ⟨r / 64 * 1024 + d, by omega⟩ := by
  pointwise [k0_pay1]
  split_ifs <;> simp only [h0, h1, h2, h3, h4, h5, h6, h7] <;> congr 2 <;> omega

theorem pay2 (a : Vec Ideal S1x1x1024 .f32) (d : Fin 1024) : k0_pay2 a (ix2 0 d) = a (ix3 0 0 d) := by
  pointwise [k0_pay2]

theorem pay3 (a : Vec Ideal S1x1x1024 .f32) (d : Fin 1024) : k0_pay3 a (ix2 0 d) = a (ix3 0 0 d) := by
  pointwise [k0_pay3]

/-- A chunk over columns and rows at an offset is that part of the hidden columns. -/
theorem chunk_eq (h : FVec Ideal S512x1024 .bf16) (a b : Vec Ideal S1024x256 .bf16) (e : Vec Ideal S256x1024 .bf16)
    (r : Fin 512) (d : Fin 1024) {hr : Fin 1024 → EReal} {wu : Fin 1024 → Fin 5632 → EReal} {wd : Fin 2816 → Fin 1024 → EReal} {o : ℕ}
    {ho : o + 256 ≤ 2816} (hh : ∀ k, h (ix2 r k) = hr k) (ha : ∀ k q, a (ix2 k q) = wu k ⟨o + q, by omega⟩)
    (hb : ∀ k q, b (ix2 k q) = wu k ⟨2816 + (o + q), by omega⟩) (he : ∀ q, e (ix2 q d) = wd ⟨o + q, by omega⟩ d) :
    chunk h a b e r d = Rows.part Rows.gateT hr wu wd d o ho := by
  simp only [chunk, Rows.part, Rows.dot, hh, ha, hb, he]

theorem block (x0 : Vec Ideal S1x1x64x8192 .f32) (x1 : Vec Ideal S1x1x9216 .f32) (x2 : Vec Ideal S1x1024 .f32) (x3 : Vec Ideal S1024x5632 .bf16)
    (x4 : Vec Ideal S2816x1024 .bf16) (x5 : Vec Ideal S1x1024 .f32) (r : Fin 512) (d : Fin 1024) :
    out0_6 x0 x1 x2 x3 x4 x5 (ix3 0 r d) =
      Rows.nrm (Rows.ffn Rows.gateT (fun k => x0 (ix4 0 0 ⟨r % 64, by omega⟩ ⟨r / 64 * 1024 + k, by omega⟩)) (fun k => x2 (ix2 0 k))
        (fun k => x1 (ix3 0 0 ⟨7168 + k, by omega⟩)) (fun k => x1 (ix3 0 0 ⟨6144 + k, by omega⟩)) (fun k => x1 (ix3 0 0 ⟨8192 + k, by omega⟩))
        (fun k q => x3 (ix2 k q)) (fun q d => x4 (ix2 q d))) (fun d => x5 (ix2 0 d)) d := by
  unfold_out out0_6
  frame_out
  rw [pay16]
  have hx : ∀ d, k0_pay1 (View.ld x0 r0_0) (View.ld x0 r0_1) (View.ld x0 r0_2) (View.ld x0 r0_3) (View.ld x0 r0_4)
      (View.ld x0 r0_5) (View.ld x0 r0_6) (View.ld x0 r0_7) (ix2 r d) =
      x0 (ix4 0 0 ⟨r % 64, by omega⟩ ⟨r / 64 * 1024 + d, by omega⟩) := fun d =>
    pay1 _ _ _ _ _ _ _ _ (fun j k => x0 (ix4 0 0 j k)) (by intro j d; pointwise) (by intro j d; pointwise)
      (by intro j d; pointwise) (by intro j d; pointwise) (by intro j d; pointwise) (by intro j d; pointwise)
      (by intro j d; pointwise) (by intro j d; pointwise) r d
  have hh := fun k => (pay4 (k0_pay1 (View.ld x0 r0_0) (View.ld x0 r0_1) (View.ld x0 r0_2) (View.ld x0 r0_3) (View.ld x0 r0_4)
      (View.ld x0 r0_5) (View.ld x0 r0_6) (View.ld x0 r0_7)) (k0_pay2 (View.ld x1 r0_8)) (View.ld x1 r0_9) x2 r k).trans
    (by simp only [hx, pay2]; congr 1 <;> funext k <;> pointwise : _ =
      Rows.adj (fun k => x0 (ix4 0 0 ⟨r % 64, by omega⟩ ⟨r / 64 * 1024 + k, by omega⟩)) (fun k => x2 (ix2 0 k))
        (fun k => x1 (ix3 0 0 ⟨7168 + k, by omega⟩)) (fun k => x1 (ix3 0 0 ⟨6144 + k, by omega⟩)) k)
  congr 1
  funext d
  rw [hx, pay13, pay11, pay8, pay6, pay5, Rows.ffn, Rows.sum_parts, pay3]
  generalize k0_pay4 (F := Ideal) _ _ _ _ = h at hh ⊢
  congr 2
  · congr 1
    pointwise
  congr 1; congr 1; congr 1; congr 1; congr 1; congr 1; congr 1; congr 1; congr 1; congr 1
  all_goals
    refine chunk_eq _ _ _ _ _ _ hh ?_ ?_ ?_ <;> intros <;> pointwise <;>
      exact congrArg (fun n => x3 (ix2 _ n)) (Fin.mk.inj_iff.2 (by omega))

/-- The result, by the argument arrays: at token `l` the row at `place l`, fed forward and normed. -/
def G (act : EReal → EReal → EReal) (x : Vec Ideal S4x8192x1024 .f32) (m : Vec Ideal S4x1x9216 .f32) (g : Vec Ideal S1024 .f32)
    (wu : Vec Ideal S1024x5632 .f32) (wd : Vec Ideal S2816x1024 .f32) (gf : Vec Ideal S1024 .f32) : Vec Ideal S4x8192x1024 .f32 := fun i =>
  Rows.nrm (Rows.ffn act (fun k => x (ix3 (i 0) (Rows.place (i 1)) k)) (fun k => g (ix1 k))
    (fun k => m (ix3 (i 0) 0 ⟨7168 + k, by omega⟩)) (fun k => m (ix3 (i 0) 0 ⟨6144 + k, by omega⟩))
    (fun k => m (ix3 (i 0) 0 ⟨8192 + k, by omega⟩)) (fun k q => wu (ix2 k q)) (fun q d => wd (ix2 q d))) (fun d => gf (ix1 d)) (i 2)

section
open Idealize.ShloMosaic.TcCoe
variable (m : (ℓ : Loc nD τ sig) → Buf (Elt Ideal) ℓ) (c : Dev nD)

theorem V_v0 (k : Fin 1024) (q : Fin 5632) : V m c main_v0 (ix2 k q) = m ((c : Thread nD τ).loc main_arg3) (ix2 k q) := by
  have h : V m c main_v0 = (truncf .bf16 (m ((c : Thread nD τ).loc main_arg3) : FVec Ideal S1024x5632 .f32) bitsLt_bf16_f32 : FVec Ideal S1024x5632 .bf16) := rfl
  rw [h]; pointwise

theorem V_v1 (q : Fin 2816) (d : Fin 1024) : V m c main_v1 (ix2 q d) = m ((c : Thread nD τ).loc main_arg4) (ix2 q d) := by
  have h : V m c main_v1 = (truncf .bf16 (m ((c : Thread nD τ).loc main_arg4) : FVec Ideal S2816x1024 .f32) bitsLt_bf16_f32 : FVec Ideal S2816x1024 .bf16) := rfl
  rw [h]; pointwise

theorem V_v2 (b : Fin 4) (t : Fin 16) (j : Fin 64) (k : Fin 8192) : V m c main_v2 (ix4 b t j k) =
    m ((c : Thread nD τ).loc main_arg0) (ix3 b ⟨t * 512 + j * 8 + k / 1024, by omega⟩ ⟨k % 1024, by omega⟩) := by
  have h : V m c main_v2 = shapeCast S4x16x64x8192 (m ((c : Thread nD τ).loc main_arg0)) Facts₀.shapeCasts_S4x8192x1024_S4x16x64x8192 := rfl
  rw [h]; exact Rows.tiled _ _ b t j k

theorem V_v3 (k : Fin 1024) : V m c main_v3 (ix2 0 k) = m ((c : Thread nD τ).loc main_arg2) (ix1 k) := by
  have h : V m c main_v3 = shapeCast S1x1024 (m ((c : Thread nD τ).loc main_arg2)) Facts₀.shapeCasts_S1024_S1x1024 := rfl
  rw [h]; pointwise

theorem V_v4 (k : Fin 1024) : V m c main_v4 (ix2 0 k) = m ((c : Thread nD τ).loc main_arg5) (ix1 k) := by
  have h : V m c main_v4 = shapeCast S1x1024 (m ((c : Thread nD τ).loc main_arg5)) Facts₀.shapeCasts_S1024_S1x1024 := rfl
  rw [h]; pointwise

theorem e0 : ∀ t : Fin cfg0.N, win0_0.index t = ![t.val % 4, t.val / 4, 0, 0] := (by decide +kernel : ∀ t : Fin grid0.N, _)
theorem e1 : ∀ t : Fin cfg0.N, win0_1.index t = ![t.val % 4, 0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![t.val % 4, t.val / 4, 0] := (by decide +kernel : ∀ t : Fin grid0.N, _)

theorem lt64 (t : Fin cfg0.N) : t.val < 64 := lt_of_lt_of_eq t.isLt (by decide +kernel)

theorem in0 (t : Fin cfg0.N) (j : Fin 64) (k : Fin 8192) : iblk m c 0 t (ix4 0 0 j k) =
    m ((c : Thread nD τ).loc main_arg0) (ix3 ⟨t % 4, by have := lt64 t; omega⟩ ⟨t / 4 * 512 + j * 8 + k / 1024, by have := lt64 t; omega⟩ ⟨k % 1024, by omega⟩) := by
  have h : (win0_0.blk t).view.emb (ix4 0 0 j k) = ix4 ⟨t % 4, by have := lt64 t; omega⟩ ⟨t / 4, by have := lt64 t; omega⟩ j k := by blk_ext [e0]
  exact (congrArg (V m c main_v2) h).trans (V_v2 m c _ _ j k)

theorem in1 (t : Fin cfg0.N) (k : Fin 9216) : iblk m c 1 t (ix3 0 0 k) =
    m ((c : Thread nD τ).loc main_arg1) (ix3 ⟨t % 4, by have := lt64 t; omega⟩ 0 k) := by
  have h : (win0_1.blk t).view.emb (ix3 0 0 k) = ix3 ⟨t % 4, by have := lt64 t; omega⟩ 0 k := by blk_ext [e1]
  exact (congrArg (V m c main_arg1) h).trans (congrFun (V_main_arg1 m c) _)

theorem in2 (t : Fin cfg0.N) (k : Fin 1024) : iblk m c 2 t (ix2 0 k) = m ((c : Thread nD τ).loc main_arg2) (ix1 k) := by
  have h : (win0_2.blk t).view.emb (ix2 0 k) = ix2 0 k := by blk_ext [e2]
  exact (congrArg (V m c main_v3) h).trans (V_v3 m c k)

theorem in3 (t : Fin cfg0.N) (k : Fin 1024) (q : Fin 5632) : iblk m c 3 t (ix2 k q) = m ((c : Thread nD τ).loc main_arg3) (ix2 k q) := by
  have h : (win0_3.blk t).view.emb (ix2 k q) = ix2 k q := by blk_ext [e3]
  exact (congrArg (V m c main_v0) h).trans (V_v0 m c k q)

theorem in4 (t : Fin cfg0.N) (q : Fin 2816) (d : Fin 1024) : iblk m c 4 t (ix2 q d) = m ((c : Thread nD τ).loc main_arg4) (ix2 q d) := by
  have h : (win0_4.blk t).view.emb (ix2 q d) = ix2 q d := by blk_ext [e4]
  exact (congrArg (V m c main_v1) h).trans (V_v1 m c q d)

theorem in5 (t : Fin cfg0.N) (k : Fin 1024) : iblk m c 5 t (ix2 0 k) = m ((c : Thread nD τ).loc main_arg5) (ix1 k) := by
  have h : (win0_5.blk t).view.emb (ix2 0 k) = ix2 0 k := by blk_ext [e5]
  exact (congrArg (V m c main_v4) h).trans (V_v4 m c k)

/-- The result array after the run is `G` of the arguments. -/
theorem final : (dats m 0 c).arrAt 6 cfg0.N = G Rows.gateT (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) := by
  refine (dats m 0 c).arrAt_eq_of_covers 6 _ (by decide +kernel) fun t hf y => ?_
  blk_simp
  rw [after0_6]
  have ht := lt64 t
  obtain ⟨r, d, hy⟩ : ∃ (r : Fin 512) (d : Fin 1024), y = (ix3 0 r d : S1x512x1024.Idx) := ⟨y 1, y 2, by idx_ext⟩
  have hi : (win0_6.blk t).view.emb y = ix3 ⟨t % 4, by omega⟩ ⟨t / 4 * 512 + r, by omega⟩ d := by subst hy; blk_ext [e6]
  rw [hi, hy]
  refine (block _ _ _ _ _ _ r d).trans ?_
  simp only [in0, in1, in2, in3, in4, in5]
  have hp : ∀ k : Fin 1024, (ix3 (⟨t % 4, by omega⟩ : Fin 4) (⟨t / 4 * 512 + r % 64 * 8 + (r / 64 * 1024 + k) / 1024, by omega⟩ : Fin 8192) (⟨(r / 64 * 1024 + k) % 1024, by omega⟩ : Fin 1024) : S4x8192x1024.Idx)
      = ix3 ⟨t % 4, by omega⟩ (Rows.place ⟨t / 4 * 512 + r, by omega⟩) k := by
    intro k
    congr 1
    · ext; simp only [Rows.place]; omega
    · ext; simp only []; omega
  simp only [hp]
  rfl
end

end Cert.Ffn2Ideal.Rowwise

end
-- ==== Proof.Ffn2Ref.lean ====
/- The reference of the second feed-forward call, stage by stage, as the same function of its arguments. -/
module

public import Idealize.ShloMosaic.Lib.Pointwise
public import proofs.«01_k».proof.Proof.Rows
public import proofs.«01_k».proof.Proof.Gen.Ffn2RefIdeal.Read

@[expose] public section

set_option maxRecDepth 16384

noncomputable section

open Idealize.ShloMosaic Cert.Ffn2RefIdeal Cert.Ffn2RefIdeal.Gen Cert.Ffn2RefIdeal.Read

namespace Cert.Ffn2RefIdeal.Rowwise

variable (x0 : Vec Ideal S4x8192x1024 .f32) (x1 : Vec Ideal S4x1x9216 .f32) (x2 : Vec Ideal S1024 .f32)
  (x3 : Vec Ideal S1024x5632 .f32) (x4 : Vec Ideal S2816x1024 .f32) (x5 : Vec Ideal S1024 .f32)
  (b : Fin 4) (l : Fin 8192) (d : Fin 1024)

/-- The tokens in order of time. -/
theorem tokens : val_main_v2 x0 (ix3 b l d) = x0 (ix3 b (Rows.place l) d) := by
  pointwise [val_main_v2, val_main_v1, val_main_v0]
  exact congrArg (fun n => x0 (ix3 b n d)) (Fin.ext (by simp only [Rows.place]; omega))

/-- The normed row, scaled and shifted. -/
theorem normed : val_main_v32 x0 x1 x2 (ix3 b l d) =
    Rows.adj (fun k => val_main_v2 x0 (ix3 b l k)) (fun k => x2 (ix1 k)) (fun k => x1 (ix3 b 0 ⟨7168 + k, by omega⟩))
      (fun k => x1 (ix3 b 0 ⟨6144 + k, by omega⟩)) d := by
  pointwise [val_main_v32, val_main_v31, val_main_v30, val_main_v29, val_main_v28, val_main_v27, val_main_cst_3, val_main_v26, val_main_v25,
    val_main_v24, val_main_v23, val_main_v22, val_main_v21, val_main_v20, val_main_v19, val_main_cst_2, val_main_v18, val_main_v17,
    val_main_cst_1, val_main_v16, val_main_v15, val_main_cst_0, val_main_v14, val_main_v10, val_main_v9, Rows.adj, Rows.nrm, Rows.inv, Rows.len, Rows.eps]

/-- The gated unit and its product with the second matrix. -/
theorem hidden : val_main_v38 x0 x1 x2 x3 x4 (ix3 b l d) =
    Rows.hid Rows.gateL (fun k => val_main_v32 x0 x1 x2 (ix3 b l k)) (fun k q => x3 (ix2 k q)) (fun q d => x4 (ix2 q d)) d := by
  pointwise [val_main_v38, val_main_v37, val_main_v36, val_main_call0_v5, val_main_call0_v4, val_main_call0_cst_0, val_main_call0_v3,
    val_main_call0_v2, val_main_call0_cst, val_main_call0_v1, val_main_call0_v0, val_main_v35, val_main_v34, val_main_v33,
    Rows.hid, Rows.gateL, Rows.dot]

/-- The row with half the gated product added. -/
theorem fed : val_main_v41 x0 x1 x2 x3 x4 (ix3 b l d) =
    val_main_v2 x0 (ix3 b l d) + Rows.half * x1 (ix3 b 0 ⟨8192 + d, by omega⟩) * val_main_v38 x0 x1 x2 x3 x4 (ix3 b l d) := by
  pointwise [val_main_v41, val_main_v40, val_main_v39, val_main_v13, val_main_v12, val_main_cst, val_main_v11, Rows.half]

/-- The last norm. -/
theorem last : val_main_v54 x0 x1 x2 x3 x4 x5 (ix3 b l d) =
    Rows.nrm (fun k => val_main_v41 x0 x1 x2 x3 x4 (ix3 b l k)) (fun k => x5 (ix1 k)) d := by
  pointwise [val_main_v54, val_main_v53, val_main_v52, val_main_v51, val_main_v50, val_main_v49, val_main_v48, val_main_v47, val_main_cst_6,
    val_main_v46, val_main_v45, val_main_cst_5, val_main_v44, val_main_v43, val_main_cst_4, val_main_v42, Rows.nrm, Rows.inv, Rows.len, Rows.eps]

/-- The result at a token and a column. -/
theorem result : val_main_v54 x0 x1 x2 x3 x4 x5 (ix3 b l d) =
    Rows.nrm (Rows.ffn Rows.gateL (fun k => x0 (ix3 b (Rows.place l) k)) (fun k => x2 (ix1 k))
      (fun k => x1 (ix3 b 0 ⟨7168 + k, by omega⟩)) (fun k => x1 (ix3 b 0 ⟨6144 + k, by omega⟩))
      (fun k => x1 (ix3 b 0 ⟨8192 + k, by omega⟩)) (fun k q => x3 (ix2 k q)) (fun q d => x4 (ix2 q d))) (fun d => x5 (ix1 d)) d := by
  rw [last]
  congr 1
  funext k
  rw [fed, hidden, Rows.ffn]
  simp only [normed, tokens]

end Cert.Ffn2RefIdeal.Rowwise

end
-- ==== Proof.Ffn2.lean ====
/- The claims on the second feed-forward call. -/
module

public import proofs.«01_k».proof.Defs
public import proofs.«01_k».proof.Proof.Rows
public import proofs.«01_k».proof.Proof.Finite2
public import proofs.«01_k».proof.Proof.Ffn2Kernel
public import proofs.«01_k».proof.Proof.Ffn2Ref
public import proofs.«01_k».proof.Proof.Gen.Ffn2.Frame
public import proofs.«01_k».proof.Proof.Gen.Ffn2Ideal.Value
public import proofs.«01_k».proof.Proof.Gen.Ffn2RefIdeal.Run
public import Idealize.ShloMosaic.Lib.Quiescent

@[expose] public section

noncomputable section

open Idealize.ShloMosaic Idealize.ShloMosaic.TcCoe Idealize.SL.Sem

namespace Cert.Ffn2Claims

instance : Cert.Ffn2.Facts := Cert.Ffn2.Gen.facts
instance : Cert.Ffn2Ideal.Facts := Cert.Ffn2Ideal.Gen.facts
instance : Cert.Ffn2RefIdeal.Facts := Cert.Ffn2RefIdeal.Gen.facts
instance : Cert.Pre_ffn2_finite.Facts := Cert.Pre_ffn2_finite.facts

theorem frame_p : Cert.quiescent_Ffn2 := fun m ρ _ => Cert.Ffn2.Gen.frame m ρ
theorem frame_pi : Cert.quiescent_Ffn2Ideal := fun m ρ _ => Cert.Ffn2Ideal.Gen.frame m ρ
theorem frame_pi' : Cert.quiescent_Ffn2Ideal_pre_ffn2_finite := fun m ρ _ => Cert.Ffn2Ideal.Gen.frame m ρ
theorem frame_ri : Cert.quiescent_Ffn2RefIdeal := fun m ρ _ =>
  (θ_run Cert.Ffn2RefIdeal.defs _ _).mono (fun r h => ⟨fun c => (h c).2, sem_eq_zero_of_no_sems (by decide) r.2⟩)
    (Cert.Ffn2RefIdeal.Value.run (F := Ideal) m ρ)
theorem frame_ri' : Cert.quiescent_Ffn2RefIdeal_pre_ffn2_finite := fun m ρ _ => frame_ri m ρ trivial

section
open Cert.Ffn2RefIdeal Cert.Ffn2RefIdeal.Read

/-- On arguments that are real numbers the reference's array is the kernel's. -/
theorem same (x0 : Vec Ideal S4x8192x1024 .f32) (x1 : Vec Ideal S4x1x9216 .f32) (x2 : Vec Ideal S1024 .f32)
    (x3 : Vec Ideal S1024x5632 .f32) (x4 : Vec Ideal S2816x1024 .f32) (x5 : Vec Ideal S1024 .f32)
    (h0 : ∀ i, Rows.Fine (x0 i)) (h1 : ∀ i, Rows.Fine (x1 i)) (h2 : ∀ i, Rows.Fine (x2 i)) (h3 : ∀ i, Rows.Fine (x3 i)) :
    val_main_v54 x0 x1 x2 x3 x4 x5 = Cert.Ffn2Ideal.Rowwise.G Rows.gateT x0 x1 x2 x3 x4 x5 := by
  funext i
  obtain ⟨b, l, d, rfl⟩ : ∃ (b : Fin 4) (l : Fin 8192) (d : Fin 1024), i = ix3 b l d := ⟨i 0, i 1, i 2, by idx_ext⟩
  rw [Cert.Ffn2RefIdeal.Rowwise.result]
  unfold Cert.Ffn2Ideal.Rowwise.G
  refine congrArg (fun f => Rows.nrm f _ d) (funext fun k => (Rows.ffn_eq ?_ ?_ ?_ ?_ ?_ k).symm) <;> intros
  · exact h0 _
  · exact h2 _
  · exact h1 _
  · exact h1 _
  · exact h3 _
end

theorem algebraic : Cert.algebraic_Ffn2Ideal_Ffn2RefIdeal_pre_ffn2_finite := by
  intro m ρ m' ρ' hpre hagree
  refine ⟨_, Cert.Ffn2Ideal.Value.run_blocks (F := Ideal) m ρ, ?_⟩
  refine (θ_run Cert.Ffn2RefIdeal.defs _ _).mono (fun r h c => ⟨?_, (h c).2⟩) (Cert.Ffn2RefIdeal.Value.run (F := Ideal) m' ρ')
  obtain ⟨p0, p1, p2, p3⟩ := hpre c
  obtain ⟨a0, a1, a2, a3, a4, a5⟩ := hagree c
  refine (h c).1.trans ((Cert.Ffn2RefIdeal.Read.val_main_v54_eq m' c).trans ?_)
  rw [a0, a1, a2, a3, a4, a5]
  exact (same _ _ _ _ _ _ (Cert.Pre_ffn2_finite.fine0 _ _ _ _ _ _ p0) (Cert.Pre_ffn2_finite.fine1 _ _ _ _ _ _ p1)
    (Cert.Pre_ffn2_finite.fine2 _ _ _ _ _ _ p2) (Cert.Pre_ffn2_finite.fine3 _ _ _ _ _ _ p3)).trans
    (Cert.Ffn2Ideal.Rowwise.final m c).symm

end Cert.Ffn2Claims

end
-- ==== Proof.Finite1.lean ====
/- What the precondition says: every element of the arrays it names is a real number. -/
module

public import Idealize.ShloMosaic.Lib.Pointwise
public import proofs.«01_k».proof.Proof.Rows
public import proofs.«01_k».proof.Pre_ffn1_finite

@[expose] public section

noncomputable section

open Idealize.ShloMosaic

namespace Cert.Pre_ffn1_finite

/-- The broadcasts of a scalar hold of any shape. -/
theorem facts : Facts where
  bcast_S_S4x8192x1024 := by decide
  bcast_S_S4x1x9216 := by decide
  bcast_S_S1024 := by decide
  bcast_S_S1024x5632 := by decide

variable [Facts] (x0 : FVec Ideal S4x8192x1024 .f32) (x1 : FVec Ideal S4x1x9216 .f32) (x2 : FVec Ideal S1024 .f32)
  (x3 : FVec Ideal S1024x5632 .f32) (x4 : FVec Ideal S2816x1024 .f32)

theorem fine0 (h : (fn x0 x1 x2 x3 x4).1 = fun _ => 1#1) (i : S4x8192x1024.Idx) : Rows.Fine (x0 i) := Rows.Fine.of_lt (congrFun h i)
theorem fine1 (h : (fn x0 x1 x2 x3 x4).2.1 = fun _ => 1#1) (i : S4x1x9216.Idx) : Rows.Fine (x1 i) := Rows.Fine.of_lt (congrFun h i)
theorem fine2 (h : (fn x0 x1 x2 x3 x4).2.2.1 = fun _ => 1#1) (i : S1024.Idx) : Rows.Fine (x2 i) := Rows.Fine.of_lt (congrFun h i)
theorem fine3 (h : (fn x0 x1 x2 x3 x4).2.2.2 = fun _ => 1#1) (i : S1024x5632.Idx) : Rows.Fine (x3 i) := Rows.Fine.of_lt (congrFun h i)

end Cert.Pre_ffn1_finite

end
-- ==== Proof.Ffn1Kernel.lean ====
/- The kernel of the first feed-forward call: what it stores at a grid point, row by row, and the array it leaves. -/
module

public import Idealize.ShloMosaic.Lib.Pointwise
public import proofs.«01_k».proof.Proof.Rows
public import Idealize.ShloMosaic.Lib.Pipeline.ValueKit.Geometry
public import Idealize.ShloMosaic.Lib.Pipeline.ValueKit.Acc
public import Idealize.ShloMosaic.Lib.Pipeline.ValueKit.Tiles
public import proofs.«01_k».proof.Proof.Gen.Ffn1Ideal.Frame

@[expose] public section

set_option maxRecDepth 16384
noncomputable section
open Idealize.ShloMosaic Cert.Ffn1Ideal Cert.Ffn1Ideal.Gen
namespace Cert.Ffn1Ideal.Rowwise

/-- One chunk of the hidden columns: the gated unit of two products, times the chunk's rows of the second matrix. -/
def chunk (h : FVec Ideal S512x1024 .bf16) (wg wu : Vec Ideal S1024x256 .bf16) (wd : Vec Ideal S256x1024 .bf16)
    (r : Fin 512) (d : Fin 1024) : EReal :=
  ∑ q : Fin 256, Rows.gateT (∑ k, h (ix2 r k) * wg (ix2 k q)) (∑ k, h (ix2 r k) * wu (ix2 k q)) * wd (ix2 q d)

theorem pay2 (x : Vec Ideal S1x512x1024 .f32) (p : Vec Ideal S512x1024 .f32) (r : Fin 512) (d : Fin 1024) :
    k0_pay2 x p (ix2 r d) = x (ix3 0 r d) + p (ix2 r d) := by
  pointwise [k0_pay2]

theorem pay3 (a : Vec Ideal S1x1x1024 .f32) (d : Fin 1024) : k0_pay3 a (ix2 0 d) = a (ix3 0 0 d) := by
  pointwise [k0_pay3]

theorem pay4 (x : Vec Ideal S1x512x1024 .f32) (p : Vec Ideal S512x1024 .f32) (sh sc : Vec Ideal S1x1x1024 .f32) (g : Vec Ideal S1x1024 .f32) (r : Fin 512) (d : Fin 1024) :
    k0_pay4 x p sh sc g (ix2 r d) = Rows.adj (fun k => x (ix3 0 r k) + p (ix2 r k)) (fun k => g (ix2 0 k)) (fun k => sc (ix3 0 0 k)) (fun k => sh (ix3 0 0 k)) d := by
  pointwise [k0_pay4, k0_pay2, Rows.adj, Rows.nrm, Rows.inv, Rows.len, Rows.eps]

theorem pay5 (x : Vec Ideal S1x512x1024 .f32) (p : Vec Ideal S512x1024 .f32) (sh sc : Vec Ideal S1x1x1024 .f32) (g : Vec Ideal S1x1024 .f32)
    (a : Vec Ideal S1024x256 .bf16) (r : Fin 512) (q : Fin 256) :
    k0_pay5 x p sh sc g a (ix2 r q) = ∑ k, k0_pay4 x p sh sc g (ix2 r k) * a (ix2 k q) := by
  pointwise [k0_pay5, k0_pay4]

theorem pay6 (h : FVec Ideal S512x1024 .bf16) (f : FVec Ideal S512x256 .f32)
    (a b : Vec Ideal S1024x256 .bf16) (e : Vec Ideal S256x1024 .bf16)
    (a' b' : Vec Ideal S1024x256 .bf16) (e' : Vec Ideal S256x1024 .bf16) (hf : ∀ r q, f (ix2 r q) = ∑ k, h (ix2 r k) * a (ix2 k q)) (r : Fin 512) (d : Fin 1024) :
    k0_pay6 h f b e a' b' e' (ix2 r d) = chunk h a b e r d + chunk h a' b' e' r d := by
  pointwise [k0_pay6, chunk, Rows.gateT, Rows.half]
  simp only [hf]

theorem pay9 (h : FVec Ideal S512x1024 .bf16) (acc : FVec Ideal S512x1024 .f32)
    (a b : Vec Ideal S1024x256 .bf16) (e : Vec Ideal S256x1024 .bf16)
    (a' b' : Vec Ideal S1024x256 .bf16) (e' : Vec Ideal S256x1024 .bf16) (r : Fin 512) (d : Fin 1024) :
    k0_pay9 h acc (k0_pay7 h a) (k0_pay8 h b) (Scalar.ofBits .f32 0x3F000000#32) e a' b' e' (ix2 r d) = acc (ix2 r d) + chunk h a b e r d + chunk h a' b' e' r d := by
  pointwise [k0_pay9, k0_pay7, k0_pay8, chunk, Rows.gateT, Rows.half]

theorem pay11 (h : FVec Ideal S512x1024 .bf16) (acc : FVec Ideal S512x1024 .f32)
    (a b : Vec Ideal S1024x256 .bf16) (e : Vec Ideal S256x1024 .bf16)
    (a' b' : Vec Ideal S1024x256 .bf16) (e' : Vec Ideal S256x1024 .bf16) (r : Fin 512) (d : Fin 1024) :
    k0_pay11 h acc (k0_pay10 h a b) e a' b' e' (ix2 r d) = acc (ix2 r d) + chunk h a b e r d + chunk h a' b' e' r d := by
  pointwise [k0_pay11, k0_pay10, chunk, Rows.gateT, Rows.half]

theorem pay14 (h : FVec Ideal S512x1024 .bf16) (acc : FVec Ideal S512x1024 .f32)
    (a b : Vec Ideal S1024x256 .bf16) (e : Vec Ideal S256x1024 .bf16)
    (a' b' : Vec Ideal S1024x256 .bf16) (e' : Vec Ideal S256x1024 .bf16) (a2 b2 : Vec Ideal S1024x256 .bf16) (e2 : Vec Ideal S256x1024 .bf16)
    (r : Fin 512) (d : Fin 1024) :
    k0_pay14 h acc (k0_pay12 h a b) (k0_pay13 e) (constant S512x1024 .f32 0x00000000#32) a' b' e' a2 b2 e2 (ix2 r d) =
      acc (ix2 r d) + chunk h a b e r d + chunk h a' b' e' r d + chunk h a2 b2 e2 r d := by
  pointwise [k0_pay14, k0_pay12, k0_pay13, chunk, Rows.gateT, Rows.half]

theorem pay16 (x : FVec Ideal S512x1024 .f32) (gt : FVec Ideal S1x1024 .f32) (h : FVec Ideal S512x1024 .bf16) (acc : FVec Ideal S512x1024 .f32)
    (a b : Vec Ideal S1024x256 .bf16) (e : Vec Ideal S256x1024 .bf16)
    (a' b' : Vec Ideal S1024x256 .bf16) (e' : Vec Ideal S256x1024 .bf16) (r : Fin 512) (d : Fin 1024) :
    k0_pay16 x gt h acc (k0_pay15 a) b e a' b' e' (ix2 r d) =
      x (ix2 r d) + Rows.half * gt (ix2 0 d) * (acc (ix2 r d) + chunk h a b e r d + chunk h a' b' e' r d) := by
  pointwise [k0_pay16, k0_pay15, chunk, Rows.gateT, Rows.half]

theorem pay19 (v : FVec Ideal S512x1024 .f32) (j : Fin 64) (d : Fin 1024) : k0_pay19 v (ix4 0 0 j d) = v (ix2 ⟨64 + j, by omega⟩ d) := by
  pointwise [k0_pay19]

theorem pay20 (v : FVec Ideal S512x1024 .f32) (j : Fin 64) (d : Fin 1024) : k0_pay20 v (ix4 0 0 j d) = v (ix2 ⟨128 + j, by omega⟩ d) := by
  pointwise [k0_pay20]

theorem pay21 (v : FVec Ideal S512x1024 .f32) (j : Fin 64) (d : Fin 1024) : k0_pay21 v (ix4 0 0 j d) = v (ix2 ⟨192 + j, by omega⟩ d) := by
  pointwise [k0_pay21]

theorem pay22 (v : FVec Ideal S512x1024 .f32) (j : Fin 64) (d : Fin 1024) : k0_pay22 v (ix4 0 0 j d) = v (ix2 ⟨256 + j, by omega⟩ d) := by
  pointwise [k0_pay22]

theorem pay23 (v : FVec Ideal S512x1024 .f32) (j : Fin 64) (d : Fin 1024) : k0_pay23 v (ix4 0 0 j d) = v (ix2 ⟨320 + j, by omega⟩ d) := by
  pointwise [k0_pay23]

theorem pay24 (v : FVec Ideal S512x1024 .f32) (j : Fin 64) (d : Fin 1024) : k0_pay24 v (ix4 0 0 j d) = v (ix2 ⟨384 + j, by omega⟩ d) := by
  pointwise [k0_pay24]

theorem pay25 (v : FVec Ideal S512x1024 .f32) (j : Fin 64) (d : Fin 1024) : k0_pay1 (k0_pay25 v) (ix4 0 0 j d) = v (ix2 ⟨448 + j, by omega⟩ d) := by
  pointwise [k0_pay1, k0_pay25]

theorem pay17 (x : FVec Ideal S512x1024 .f32) (gt : FVec Ideal S1x1024 .f32) (h : FVec Ideal S512x1024 .bf16) (acc : FVec Ideal S512x1024 .f32)
    (b : Vec Ideal S1024x256 .bf16) (e : Vec Ideal S256x1024 .bf16)
    (a' b' : Vec Ideal S1024x256 .bf16) (e' : Vec Ideal S256x1024 .bf16) (z : FVec Ideal S1024x256 .bf16) (j : Fin 64) (d : Fin 1024) :
    k0_pay18 (k0_pay17 x gt h acc z b e a' b' e') (ix4 0 0 j d) = k0_pay16 x gt h acc z b e a' b' e' (ix2 ⟨j, by omega⟩ d) := by
  have hs : k0_pay17 x gt h acc z b e a' b' e' = extractStridedSlice S64x1024 ![0, 0] (k0_pay16 x gt h acc z b e a' b' e') slices_S512x1024_o0_0_S64x1024 := rfl
  rw [hs]
  generalize k0_pay16 x gt h acc z b e a' b' e' = v
  pointwise [k0_pay18]

/-- A chunk over columns and rows at an offset is that part of the hidden columns. -/
theorem chunk_eq (h : FVec Ideal S512x1024 .bf16) (a b : Vec Ideal S1024x256 .bf16) (e : Vec Ideal S256x1024 .bf16)
    (r : Fin 512) (d : Fin 1024) {hr : Fin 1024 → EReal} {wu : Fin 1024 → Fin 5632 → EReal} {wd : Fin 2816 → Fin 1024 → EReal} {o : ℕ}
    {ho : o + 256 ≤ 2816} (hh : ∀ k, h (ix2 r k) = hr k) (ha : ∀ k q, a (ix2 k q) = wu k ⟨o + q, by omega⟩)
    (hb : ∀ k q, b (ix2 k q) = wu k ⟨2816 + (o + q), by omega⟩) (he : ∀ q, e (ix2 q d) = wd ⟨o + q, by omega⟩ d) :
    chunk h a b e r d = Rows.part Rows.gateT hr wu wd d o ho := by
  simp only [chunk, Rows.part, Rows.dot, hh, ha, hb, he]

/-- The rows a grid point computes. -/
theorem rows (x0 : Vec Ideal S1x512x1024 .f32) (x1 : Vec Ideal S512x1024 .f32) (x2 : Vec Ideal S1x1x9216 .f32) (x3 : Vec Ideal S1x1024 .f32)
    (x4 : Vec Ideal S1024x5632 .bf16) (x5 : Vec Ideal S2816x1024 .bf16) (r : Fin 512) (d : Fin 1024) :
    k0_pay31 x0 x1 x2 x3 x4 x5 (ix2 r d) =
      Rows.ffn Rows.gateT (fun k => x0 (ix3 0 r k) + x1 (ix2 r k)) (fun k => x3 (ix2 0 k))
        (fun k => x2 (ix3 0 0 ⟨1024 + k, by omega⟩)) (fun k => x2 (ix3 0 0 ⟨k, by omega⟩)) (fun k => x2 (ix3 0 0 ⟨2048 + k, by omega⟩))
        (fun k q => x4 (ix2 k q)) (fun q d => x5 (ix2 q d)) d := by
  unfold k0_pay31 k0_pay30 k0_pay29 k0_pay27 k0_pay26
  have hh : ∀ k, k0_pay28 x0 x1 x2 x3 x4 x5 (ix2 r k) = Rows.adj (fun k => x0 (ix3 0 r k) + x1 (ix2 r k)) (fun k => x3 (ix2 0 k))
        (fun k => x2 (ix3 0 0 ⟨1024 + k, by omega⟩)) (fun k => x2 (ix3 0 0 ⟨k, by omega⟩)) k := fun k => by
    unfold k0_pay28
    rw [pay4]
    congr 1 <;> funext k <;> pointwise
  have hf : ∀ r q, k0_pay5 (View.ld x0 r0_0) (View.ld x1 r0_1) (View.ld x2 r0_2) (View.ld x2 r0_3) (View.ld x3 r0_5) (View.ld x4 r0_6) (ix2 r q) =
      ∑ k, k0_pay28 x0 x1 x2 x3 x4 x5 (ix2 r k) * View.ld x4 r0_6 (ix2 k q) := fun r q => pay5 _ _ _ _ _ _ r q
  rw [pay16, pay14, pay11, pay9, pay6 _ _ _ _ _ _ _ _ hf, Rows.ffn, Rows.sum_parts, pay2, pay3]
  generalize k0_pay28 (F := Ideal) _ _ _ _ _ _ = h at hh ⊢
  congr 1
  · pointwise
  congr 1
  · congr 1
    pointwise
  congr 1; congr 1; congr 1; congr 1; congr 1; congr 1; congr 1; congr 1; congr 1; congr 1
  all_goals
    refine chunk_eq _ _ _ _ _ _ hh ?_ ?_ ?_ <;> intros <;> pointwise <;>
      exact congrArg (fun n => x4 (ix2 _ n)) (Fin.mk.inj_iff.2 (by omega))

theorem block (x0 : Vec Ideal S1x512x1024 .f32) (x1 : Vec Ideal S512x1024 .f32) (x2 : Vec Ideal S1x1x9216 .f32) (x3 : Vec Ideal S1x1024 .f32)
    (x4 : Vec Ideal S1024x5632 .bf16) (x5 : Vec Ideal S2816x1024 .bf16) (j : Fin 64) (k : Fin 8192) :
    out0_6 x0 x1 x2 x3 x4 x5 (ix4 0 0 j k) = k0_pay31 x0 x1 x2 x3 x4 x5 (ix2 ⟨k / 1024 * 64 + j, by omega⟩ ⟨k % 1024, by omega⟩) := by
  unfold out0_6
  canon_tiles z e
  all_goals
    obtain ⟨j', d, rfl⟩ : ∃ (j' : Fin 64) (d : Fin 1024), z = (ix4 0 0 j' d : S1x1x64x1024.Idx) := ⟨z 2, z 3, by idx_ext⟩
    have f2 : (j : ℕ) = j' := e2
    first | (have f3 : (k : ℕ) = _ + (d : ℕ) := e3) | (have f3 : (k : ℕ) = d := e3)
    first | rw [pay25] | rw [pay19] | rw [pay20] | rw [pay21] | rw [pay22] | rw [pay23] | rw [pay24] | rw [pay17]
    refine congrArg₂ (fun a b => k0_pay31 x0 x1 x2 x3 x4 x5 (ix2 a b)) (Fin.ext ?_) (Fin.ext ?_) <;> simp only [] <;> omega

/-- The result, by the argument arrays and the position table: line `j` of tile `t` holds eight tokens side by side. -/
def G (act : EReal → EReal → EReal) (p : Vec Ideal S8192x1024 .f32) (x : Vec Ideal S4x8192x1024 .f32) (m : Vec Ideal S4x1x9216 .f32)
    (g : Vec Ideal S1024 .f32) (wu : Vec Ideal S1024x5632 .f32) (wd : Vec Ideal S2816x1024 .f32) : Vec Ideal S4x16x64x8192 .f32 := fun i =>
  Rows.ffn act (fun k => x (ix3 (i 0) (Rows.token (i 1) (i 2) (i 3)) k) + p (ix2 (Rows.token (i 1) (i 2) (i 3)) k)) (fun k => g (ix1 k))
    (fun k => m (ix3 (i 0) 0 ⟨1024 + k, by omega⟩)) (fun k => m (ix3 (i 0) 0 ⟨k, by omega⟩))
    (fun k => m (ix3 (i 0) 0 ⟨2048 + k, by omega⟩)) (fun k q => wu (ix2 k q)) (fun q d => wd (ix2 q d)) (Rows.column (i 3))

section
open Idealize.ShloMosaic.TcCoe
variable (m : (ℓ : Loc nD τ sig) → Buf (Elt Ideal) ℓ) (c : Dev nD)

set_option maxHeartbeats 1000000 in
theorem V_v0 (k : Fin 1024) (q : Fin 5632) : V m c main_v0 (ix2 k q) = m ((c : Thread nD τ).loc main_arg3) (ix2 k q) := by
  have h : V m c main_v0 = (truncf .bf16 (m ((c : Thread nD τ).loc main_arg3) : FVec Ideal S1024x5632 .f32) bitsLt_bf16_f32 : FVec Ideal S1024x5632 .bf16) := rfl
  rw [h]; pointwise

set_option maxHeartbeats 1000000 in
theorem V_v1 (q : Fin 2816) (d : Fin 1024) : V m c main_v1 (ix2 q d) = m ((c : Thread nD τ).loc main_arg4) (ix2 q d) := by
  have h : V m c main_v1 = (truncf .bf16 (m ((c : Thread nD τ).loc main_arg4) : FVec Ideal S2816x1024 .f32) bitsLt_bf16_f32 : FVec Ideal S2816x1024 .bf16) := rfl
  rw [h]; pointwise

set_option maxHeartbeats 1000000 in
theorem V_v29 (k : Fin 1024) : V m c main_v29 (ix2 0 k) = m ((c : Thread nD τ).loc main_arg2) (ix1 k) := by
  have h : V m c main_v29 = shapeCast S1x1024 (m ((c : Thread nD τ).loc main_arg2)) Facts₀.shapeCasts_S1024_S1x1024 := rfl
  rw [h]; pointwise

theorem e0 : ∀ t : Fin cfg0.N, win0_0.index t = ![t.val % 4, t.val / 4, 0] := (by decide +kernel : ∀ t : Fin grid0.N, _)
theorem e1 : ∀ t : Fin cfg0.N, win0_1.index t = ![t.val / 4, 0] := (by decide +kernel : ∀ t : Fin grid0.N, _)
theorem e2 : ∀ t : Fin cfg0.N, win0_2.index t = ![t.val % 4, 0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![t.val % 4, t.val / 4, 0, 0] := (by decide +kernel : ∀ t : Fin grid0.N, _)

theorem lt64 (t : Fin cfg0.N) : t.val < 64 := lt_of_lt_of_eq t.isLt (by decide +kernel)

theorem in0 (t : Fin cfg0.N) (r : Fin 512) (k : Fin 1024) : iblk m c 0 t (ix3 0 r k) =
    m ((c : Thread nD τ).loc main_arg0) (ix3 ⟨t % 4, by have := lt64 t; omega⟩ ⟨t / 4 * 512 + r, by have := lt64 t; omega⟩ k) := by
  have h : (win0_0.blk t).view.emb (ix3 0 r k) = ix3 ⟨t % 4, by have := lt64 t; omega⟩ ⟨t / 4 * 512 + r, by have := lt64 t; omega⟩ k := by blk_ext [e0]
  exact (congrArg (V m c main_arg0) h).trans (congrFun (V_main_arg0 m c) _)

theorem in1 (t : Fin cfg0.N) (r : Fin 512) (k : Fin 1024) : iblk m c 1 t (ix2 r k) =
    V m c main_v28 (ix2 ⟨t / 4 * 512 + r, by have := lt64 t; omega⟩ k) := by
  have h : (win0_1.blk t).view.emb (ix2 r k) = ix2 ⟨t / 4 * 512 + r, by have := lt64 t; omega⟩ k := by blk_ext [e1]
  exact congrArg (V m c main_v28) h

theorem in2 (t : Fin cfg0.N) (k : Fin 9216) : iblk m c 2 t (ix3 0 0 k) =
    m ((c : Thread nD τ).loc main_arg1) (ix3 ⟨t % 4, by have := lt64 t; omega⟩ 0 k) := by
  have h : (win0_2.blk t).view.emb (ix3 0 0 k) = ix3 ⟨t % 4, by have := lt64 t; omega⟩ 0 k := by blk_ext [e2]
  exact (congrArg (V m c main_arg1) h).trans (congrFun (V_main_arg1 m c) _)

theorem in3 (t : Fin cfg0.N) (k : Fin 1024) : iblk m c 3 t (ix2 0 k) = m ((c : Thread nD τ).loc main_arg2) (ix1 k) := by
  have h : (win0_3.blk t).view.emb (ix2 0 k) = ix2 0 k := by blk_ext [e3]
  exact (congrArg (V m c main_v29) h).trans (V_v29 m c k)

theorem in4 (t : Fin cfg0.N) (k : Fin 1024) (q : Fin 5632) : iblk m c 4 t (ix2 k q) = m ((c : Thread nD τ).loc main_arg3) (ix2 k q) := by
  have h : (win0_4.blk t).view.emb (ix2 k q) = ix2 k q := by blk_ext [e4]
  exact (congrArg (V m c main_v0) h).trans (V_v0 m c k q)

theorem in5 (t : Fin cfg0.N) (q : Fin 2816) (d : Fin 1024) : iblk m c 5 t (ix2 q d) = m ((c : Thread nD τ).loc main_arg4) (ix2 q d) := by
  have h : (win0_5.blk t).view.emb (ix2 q d) = ix2 q d := by blk_ext [e5]
  exact (congrArg (V m c main_v1) h).trans (V_v1 m c q d)

/-- The result array after the run is `G` of the arguments and the position table. -/
theorem final : (dats m 0 c).arrAt 6 cfg0.N = G Rows.gateT (V m c main_v28) (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have ht := lt64 t
  obtain ⟨j, k, hy⟩ : ∃ (j : Fin 64) (k : Fin 8192), y = (ix4 0 0 j k : S1x1x64x8192.Idx) := ⟨y 2, y 3, by idx_ext⟩
  have hi : (win0_6.blk t).view.emb y = ix4 ⟨t % 4, by omega⟩ ⟨t / 4, by omega⟩ j k := by subst hy; blk_ext [e6]
  rw [hi, hy]
  refine ((block _ _ _ _ _ _ j k).trans (rows _ _ _ _ _ _ _ _)).trans ?_
  simp only [in0, in1, in2, in3, in4, in5]
  have hp : (⟨t / 4 * 512 + (k / 1024 * 64 + j), by omega⟩ : Fin 8192) = Rows.token ⟨t / 4, by omega⟩ j k :=
    Fin.ext (by simp only [Rows.token]; omega)
  simp only [hp]
  rfl
end

end Cert.Ffn1Ideal.Rowwise

end
-- ==== Proof.Ffn1Pos.lean ====
/- The position table the first feed-forward call adds: the host lines of kernel and reference compute one array. -/
module

public import Idealize.ShloMosaic.Lib.Pointwise
public import Idealize.ShloMosaic.Lib.Pipeline.ValueKit.Geometry
public import Idealize.ShloMosaic.Lib.Pipeline.ValueKit.Acc
public import proofs.«01_k».proof.Proof.Gen.Ffn1Ideal.Frame
public import proofs.«01_k».proof.Proof.Gen.Ffn1RefIdeal.Read

@[expose] public section

set_option maxRecDepth 16384
noncomputable section
open Idealize.ShloMosaic Cert.Ffn1Ideal Cert.Ffn1Ideal.Gen
namespace Cert.Ffn1Ideal.Rowwise
open Idealize.ShloMosaic.TcCoe
variable (m : (ℓ : Loc nD τ sig) → Buf (Elt Ideal) ℓ) (c : Dev nD)

set_option maxHeartbeats 2000000 in
/-- The position table of the kernel is the table of the reference: both are the same chain of operations on no argument. -/
theorem V_v28 : V m c main_v28 = Cert.Ffn1RefIdeal.Read.val_main_v26 (F := Ideal) := by
  rfl

end Cert.Ffn1Ideal.Rowwise
end
-- ==== Proof.Ffn1Ref.lean ====
/- The reference of the first feed-forward call, stage by stage, as the same function of its arguments. -/
module

public import Idealize.ShloMosaic.Lib.Pointwise
public import proofs.«01_k».proof.Proof.Rows
public import proofs.«01_k».proof.Proof.Gen.Ffn1RefIdeal.Read

@[expose] public section

set_option maxRecDepth 16384

noncomputable section

open Idealize.ShloMosaic Cert.Ffn1RefIdeal Cert.Ffn1RefIdeal.Gen Cert.Ffn1RefIdeal.Read

namespace Cert.Ffn1RefIdeal.Rowwise

/-! ## The position table is real -/

theorem row (l : Fin 8192) (k : Fin 256) : Rows.Fine (val_main_v16 (F := Ideal) (ix2 l k)) := by
  have h : val_main_v16 (F := Ideal) (ix2 l k) = val_main_v2 (F := Ideal) (ix1 l) * Ideal.div 1
      (Ideal.pow (Ideal.ofBits .f32 0x461C4000#32) (Ideal.div (val_main_v5 (F := Ideal) (ix1 k)) (Ideal.ofBits .f32 0x43800000#32))) := by
    pointwise [val_main_v16, val_main_v15, val_main_v14, val_main_v13, val_main_v12, val_main_v11, val_main_v10, val_main_cst_2, val_main_v9,
      val_main_v8, val_main_cst_1, val_main_v7, val_main_v6, val_main_cst]
  rw [h]
  exact Rows.Fine.wave ⟨_, rfl⟩ ⟨_, rfl⟩

theorem col (l : Fin 8192) (k : Fin 256) : Rows.Fine (val_main_v21 (F := Ideal) (ix2 l k)) := by
  have h : val_main_v21 (F := Ideal) (ix2 l k) = val_main_v4 (F := Ideal) (ix1 l) * Ideal.div 1
      (Ideal.pow (Ideal.ofBits .f32 0x461C4000#32) (Ideal.div (val_main_v5 (F := Ideal) (ix1 k)) (Ideal.ofBits .f32 0x43800000#32))) := by
    pointwise [val_main_v21, val_main_v20, val_main_v19, val_main_v18, val_main_v17, val_main_v11, val_main_v10, val_main_cst_2, val_main_v9,
      val_main_v8, val_main_cst_1, val_main_v7, val_main_v6, val_main_cst]
  rw [h]
  exact Rows.Fine.wave ⟨_, rfl⟩ ⟨_, rfl⟩

theorem table (l : Fin 8192) (d : Fin 1024) : Rows.Fine (val_main_v26 (F := Ideal) (ix2 l d)) := by
  have h22 : ∀ k, Rows.Fine (val_main_v22 (F := Ideal) (ix2 l k)) := fun k => (row l k).sin
  have h23 : ∀ k, Rows.Fine (val_main_v23 (F := Ideal) (ix2 l k)) := fun k => (row l k).cos
  have h24 : ∀ k, Rows.Fine (val_main_v24 (F := Ideal) (ix2 l k)) := fun k => (col l k).sin
  have h25 : ∀ k, Rows.Fine (val_main_v25 (F := Ideal) (ix2 l k)) := fun k => (col l k).cos
  unfold val_main_v26
  generalize val_main_v22 (F := Ideal) = a at *
  generalize val_main_v23 (F := Ideal) = b at *
  generalize val_main_v24 (F := Ideal) = c at *
  generalize val_main_v25 (F := Ideal) = e at *
  pointwise
  split_ifs <;> first | exact h22 _ | exact h23 _ | exact h24 _ | exact h25 _

variable (x0 : Vec Ideal S4x8192x1024 .f32) (x1 : Vec Ideal S4x1x9216 .f32) (x2 : Vec Ideal S1024 .f32)
  (x3 : Vec Ideal S1024x5632 .f32) (x4 : Vec Ideal S2816x1024 .f32)
  (b : Fin 4) (l : Fin 8192) (d : Fin 1024)

/-- The tokens with their positions added. -/
theorem tokens : val_main_v29 x0 (ix3 b l d) = x0 (ix3 b l d) + val_main_v26 (F := Ideal) (ix2 l d) := by
  pointwise [val_main_v29, val_main_v28, val_main_v27]

/-- The normed row, scaled and shifted. -/
theorem normed : val_main_v59 x0 x1 x2 (ix3 b l d) =
    Rows.adj (fun k => val_main_v29 x0 (ix3 b l k)) (fun k => x2 (ix1 k)) (fun k => x1 (ix3 b 0 ⟨1024 + k, by omega⟩))
      (fun k => x1 (ix3 b 0 ⟨k, by omega⟩)) d := by
  pointwise [val_main_v59, val_main_v58, val_main_v57, val_main_v56, val_main_v55, val_main_v54, val_main_cst_7, val_main_v53, val_main_v52,
    val_main_v51, val_main_v50, val_main_v49, val_main_v48, val_main_v47, val_main_v46, val_main_cst_6, val_main_v45, val_main_v44,
    val_main_cst_5, val_main_v43, val_main_v42, val_main_cst_4, val_main_v41, val_main_v31, val_main_v30, Rows.adj, Rows.nrm, Rows.inv, Rows.len, Rows.eps]

/-- The gated unit and its product with the second matrix. -/
theorem hidden : val_main_v65 x0 x1 x2 x3 x4 (ix3 b l d) =
    Rows.hid Rows.gateL (fun k => val_main_v59 x0 x1 x2 (ix3 b l k)) (fun k q => x3 (ix2 k q)) (fun q d => x4 (ix2 q d)) d := by
  pointwise [val_main_v65, val_main_v64, val_main_v63, val_main_call2_v5, val_main_call2_v4, val_main_call2_cst_0, val_main_call2_v3,
    val_main_call2_v2, val_main_call2_cst, val_main_call2_v1, val_main_call2_v0, val_main_v62, val_main_v61, val_main_v60,
    Rows.hid, Rows.gateL, Rows.dot]

/-- The row with half the gated product added. -/
theorem fed : val_main_v68 x0 x1 x2 x3 x4 (ix3 b l d) =
    val_main_v29 x0 (ix3 b l d) + Rows.half * x1 (ix3 b 0 ⟨2048 + d, by omega⟩) * val_main_v65 x0 x1 x2 x3 x4 (ix3 b l d) := by
  pointwise [val_main_v68, val_main_v67, val_main_v66, val_main_v40, val_main_v39, val_main_cst_3, val_main_v32, Rows.half]

/-- The token array split into tiles, column blocks and lines. -/
theorem split (x : Vec Ideal S4x8192x1024 .f32) (h : S4x8192x1024.ShapeCasts S4x16x8x64x1024) (t : Fin 16) (s : Fin 8) (j : Fin 64) :
    shapeCast S4x16x8x64x1024 x h (ix5 b t s j d) = x (ix3 b ⟨t * 512 + s * 64 + j, by omega⟩ d) := by
  refine congrArg x (Shape.reshapeEquiv_eq_of_rowMajor h ?_)
  simp only [Shape.rowMajor_val_three, Shape.rowMajor_val_five]
  show (b.val * 8192 + (t.val * 512 + s.val * 64 + j.val)) * 1024 + d.val = (((b.val * 16 + t.val) * 8 + s.val) * 64 + j.val) * 1024 + d.val
  omega

/-- A line's column blocks side by side. -/
theorem join (x : Vec Ideal S4x16x64x8x1024 .f32) (h : S4x16x64x8x1024.ShapeCasts S4x16x64x8192) (t : Fin 16) (j : Fin 64) (k : Fin 8192) :
    shapeCast S4x16x64x8192 x h (ix4 b t j k) = x (ix5 b t j ⟨k / 1024, by omega⟩ (Rows.column k)) := by
  refine congrArg x (Shape.reshapeEquiv_eq_of_rowMajor h ?_)
  simp only [Shape.rowMajor_val_five, Shape.rowMajor_val_four]
  show (((b.val * 16 + t.val) * 64 + j.val) * 8 + k.val / 1024) * 1024 + k.val % 1024 = ((b.val * 16 + t.val) * 64 + j.val) * 8192 + k.val
  omega

/-- The rows laid out tile by tile. -/
theorem laid (t : Fin 16) (j : Fin 64) (k : Fin 8192) : val_main_v71 x0 x1 x2 x3 x4 (ix4 b t j k) =
    val_main_v68 x0 x1 x2 x3 x4 (ix3 b (Rows.token t j k) (Rows.column k)) := by
  unfold val_main_v71 val_main_v70 val_main_v69
  generalize val_main_v68 x0 x1 x2 x3 x4 = y
  refine (join b _ _ t j k).trans ?_
  have h := split b (Rows.column k) y Facts₀.shapeCasts_S4x8192x1024_S4x16x8x64x1024 t ⟨k / 1024, by omega⟩ j
  refine Eq.trans ?_ h
  generalize shapeCast S4x16x8x64x1024 y _ = z
  pointwise

/-- The result at a place. -/
theorem result (t : Fin 16) (j : Fin 64) (k : Fin 8192) : val_main_v71 x0 x1 x2 x3 x4 (ix4 b t j k) =
    Rows.ffn Rows.gateL (fun k' => x0 (ix3 b (Rows.token t j k) k') + val_main_v26 (F := Ideal) (ix2 (Rows.token t j k) k')) (fun k => x2 (ix1 k))
      (fun k => x1 (ix3 b 0 ⟨1024 + k, by omega⟩)) (fun k => x1 (ix3 b 0 ⟨k, by omega⟩))
      (fun k => x1 (ix3 b 0 ⟨2048 + k, by omega⟩)) (fun k q => x3 (ix2 k q)) (fun q d => x4 (ix2 q d)) (Rows.column k) := by
  rw [laid, fed, hidden, Rows.ffn]
  simp only [normed, tokens]

end Cert.Ffn1RefIdeal.Rowwise

end
-- ==== Proof.Ffn1.lean ====
/- The claims on the first feed-forward call. -/
module

public import proofs.«01_k».proof.Defs
public import proofs.«01_k».proof.Proof.Rows
public import proofs.«01_k».proof.Proof.Finite1
public import proofs.«01_k».proof.Proof.Ffn1Kernel
public import proofs.«01_k».proof.Proof.Ffn1Pos
public import proofs.«01_k».proof.Proof.Ffn1Ref
public import proofs.«01_k».proof.Proof.Gen.Ffn1.Frame
public import proofs.«01_k».proof.Proof.Gen.Ffn1Ideal.Value
public import proofs.«01_k».proof.Proof.Gen.Ffn1RefIdeal.Run
public import Idealize.ShloMosaic.Lib.Quiescent

@[expose] public section

noncomputable section

open Idealize.ShloMosaic Idealize.ShloMosaic.TcCoe Idealize.SL.Sem

namespace Cert.Ffn1Claims

instance : Cert.Ffn1.Facts := Cert.Ffn1.Gen.facts
instance : Cert.Ffn1Ideal.Facts := Cert.Ffn1Ideal.Gen.facts
instance : Cert.Ffn1RefIdeal.Facts := Cert.Ffn1RefIdeal.Gen.facts
instance : Cert.Pre_ffn1_finite.Facts := Cert.Pre_ffn1_finite.facts

theorem frame_p : Cert.quiescent_Ffn1 := fun m ρ _ => Cert.Ffn1.Gen.frame m ρ
theorem frame_pi : Cert.quiescent_Ffn1Ideal := fun m ρ _ => Cert.Ffn1Ideal.Gen.frame m ρ
theorem frame_pi' : Cert.quiescent_Ffn1Ideal_pre_ffn1_finite := fun m ρ _ => Cert.Ffn1Ideal.Gen.frame m ρ
theorem frame_ri : Cert.quiescent_Ffn1RefIdeal := fun m ρ _ =>
  (θ_run Cert.Ffn1RefIdeal.defs _ _).mono (fun r h => ⟨fun c => (h c).2, sem_eq_zero_of_no_sems (by decide) r.2⟩)
    (Cert.Ffn1RefIdeal.Value.run (F := Ideal) m ρ)
theorem frame_ri' : Cert.quiescent_Ffn1RefIdeal_pre_ffn1_finite := fun m ρ _ => frame_ri m ρ trivial

section
open Cert.Ffn1RefIdeal Cert.Ffn1RefIdeal.Read

/-- On arguments that are real numbers the reference's array is the kernel's. -/
theorem same (x0 : Vec Ideal S4x8192x1024 .f32) (x1 : Vec Ideal S4x1x9216 .f32) (x2 : Vec Ideal S1024 .f32)
    (x3 : Vec Ideal S1024x5632 .f32) (x4 : Vec Ideal S2816x1024 .f32)
    (h0 : ∀ i, Rows.Fine (x0 i)) (h1 : ∀ i, Rows.Fine (x1 i)) (h2 : ∀ i, Rows.Fine (x2 i)) (h3 : ∀ i, Rows.Fine (x3 i)) :
    val_main_v71 x0 x1 x2 x3 x4 = Cert.Ffn1Ideal.Rowwise.G Rows.gateT (val_main_v26 (F := Ideal)) x0 x1 x2 x3 x4 := by
  funext i
  obtain ⟨b, t, j, k, rfl⟩ : ∃ (b : Fin 4) (t : Fin 16) (j : Fin 64) (k : Fin 8192), i = ix4 b t j k := ⟨i 0, i 1, i 2, i 3, by idx_ext⟩
  rw [Cert.Ffn1RefIdeal.Rowwise.result]
  unfold Cert.Ffn1Ideal.Rowwise.G
  refine (Rows.ffn_eq ?_ ?_ ?_ ?_ ?_ _).symm <;> intros
  · exact (h0 _).add (Cert.Ffn1RefIdeal.Rowwise.table _ _)
  · exact h2 _
  · exact h1 _
  · exact h1 _
  · exact h3 _
end

theorem algebraic : Cert.algebraic_Ffn1Ideal_Ffn1RefIdeal_pre_ffn1_finite := by
  intro m ρ m' ρ' hpre hagree
  refine ⟨_, Cert.Ffn1Ideal.Value.run_blocks (F := Ideal) m ρ, ?_⟩
  refine (θ_run Cert.Ffn1RefIdeal.defs _ _).mono (fun r h c => ⟨?_, (h c).2⟩) (Cert.Ffn1RefIdeal.Value.run (F := Ideal) m' ρ')
  obtain ⟨p0, p1, p2, p3⟩ := hpre c
  obtain ⟨a0, a1, a2, a3, a4⟩ := hagree c
  refine (h c).1.trans ((Cert.Ffn1RefIdeal.Read.val_main_v71_eq m' c).trans ?_)
  rw [a0, a1, a2, a3, a4]
  refine (same _ _ _ _ _ (Cert.Pre_ffn1_finite.fine0 _ _ _ _ _ p0) (Cert.Pre_ffn1_finite.fine1 _ _ _ _ _ p1)
    (Cert.Pre_ffn1_finite.fine2 _ _ _ _ _ p2) (Cert.Pre_ffn1_finite.fine3 _ _ _ _ _ p3)).trans ?_
  rw [← Cert.Ffn1Ideal.Rowwise.V_v28 m c]
  exact (Cert.Ffn1Ideal.Rowwise.final m c).symm

end Cert.Ffn1Claims

end
-- ==== Proof.Gates.lean ====
/- The scalar side of the input projection: the logistic function and the smooth rectifier in the kernel's spelling and in
   the reference's, and why they agree. -/
module

public import proofs.«01_k».proof.Proof.Rows

@[expose] public section

noncomputable section

namespace Rows

open Idealize.ShloMosaic

/-- The logistic function through the hyperbolic tangent, as the kernel writes it. -/
def sigT (g : EReal) : EReal := half * Ideal.tanh (half * g) + half

/-- The logistic function through the exponential, as the reference writes it. -/
def sigL (g : EReal) : EReal := Ideal.div 1 (1 + Ideal.exp (-g))

/-- The argument of the rectifier's hyperbolic tangent. -/
def bend (p : EReal) : EReal := Ideal.ofBits .f32 0x3F4C422A#32 * (p + Ideal.ofBits .f32 0x3D372713#32 * (p * p * p))

/-- The smooth rectifier, as the kernel multiplies it out and as the reference does. -/
def geluK (p : EReal) : EReal := half * p * (1 + Ideal.tanh (bend p))
def geluR (p : EReal) : EReal := p * (half * (1 + Ideal.tanh (bend p)))

theorem geluK_eq (p : EReal) : geluK p = geluR p := by
  unfold geluK geluR
  rw [mul_comm half p, mul_assoc]

/-- The two spellings of the logistic function are one function, at the infinities too. -/
theorem sigT_eq (g : EReal) : sigT g = sigL g := by
  have hh : half + half = 1 := by
    rw [half_eq, ← EReal.coe_add, ← EReal.coe_one]; norm_num
  have hp : (0 : EReal) < half := by rw [half_eq]; exact_mod_cast (by norm_num : (0 : ℝ) < 1 / 2)
  unfold sigT sigL
  induction g with
  | bot =>
    rw [← Ideal.logistic, Ideal.logistic_bot, EReal.mul_bot_of_pos hp]
    show half * (-1) + half = 0
    rw [half_eq, ← EReal.coe_one, ← EReal.coe_neg, ← EReal.coe_mul, ← EReal.coe_add, ← EReal.coe_zero]
    norm_num
  | top =>
    rw [← Ideal.logistic, Ideal.logistic_top, EReal.mul_top_of_pos hp]
    show half * 1 + half = 1
    rw [mul_one, hh]
  | coe r =>
    rw [half_eq, ← EReal.coe_mul, ← Ideal.logistic, Ideal.logistic_coe]
    show _ * ((Real.tanh _ : ℝ) : EReal) + _ = _
    rw [← EReal.coe_mul, ← EReal.coe_add]
    congr 1
    rw [tanh_half]
    ring

/-- One column of the projection: a row times a column of the matrix, and the column's bias. -/
def proj (h : Fin 1024 → EReal) (w : Fin 1024 → Fin 6656 → EReal) (b : Fin 6656 → EReal) (n : Fin 6656) : EReal :=
  dot h (fun k => w k n) + b n

end Rows

end
-- ==== Proof.InprojKernel.lean ====
/- The kernel of the input projection: what it stores at a grid point, row by row, and the four arrays it leaves. -/
module

public import Idealize.ShloMosaic.Lib.Pointwise
public import proofs.«01_k».proof.Proof.Gates
public import Idealize.ShloMosaic.Lib.Pipeline.ValueKit.Geometry
public import Idealize.ShloMosaic.Lib.Pipeline.ValueKit.Acc
public import Idealize.ShloMosaic.Lib.Pipeline.ValueKit.Tiles
public import proofs.«01_k».proof.Proof.Gen.InprojIdeal.Frame

@[expose] public section

set_option maxRecDepth 16384
noncomputable section
open Idealize.ShloMosaic Cert.InprojIdeal Cert.InprojIdeal.Gen
namespace Cert.InprojIdeal.Rowwise

/-! ## One chunk of 256 columns -/

/-- A chunk's column: the row times the chunk's column, and its bias. -/
def lin (h : FVec Ideal S512x1024 .bf16) (a : Vec Ideal S1024x256 .bf16) (b : Vec Ideal S1x256 .f32) (r : Fin 512) (q : Fin 256) : EReal :=
  (∑ k, h (ix2 r k) * a (ix2 k q)) + b (ix2 0 q)

theorem pay2 (sh sc : Vec Ideal S1x1x1024 .f32) (x : Vec Ideal S1x512x1024 .f32) (g : Vec Ideal S1x1024 .f32) (r : Fin 512) (d : Fin 1024) :
    k0_pay2 sh sc x g (ix2 r d) = Rows.adj (fun k => x (ix3 0 r k)) (fun k => g (ix2 0 k)) (fun k => sc (ix3 0 0 k)) (fun k => sh (ix3 0 0 k)) d := by
  pointwise [k0_pay2, Rows.adj, Rows.nrm, Rows.inv, Rows.len, Rows.eps]

theorem pay3 (sh sc : Vec Ideal S1x1x1024 .f32) (x : Vec Ideal S1x512x1024 .f32) (g : Vec Ideal S1x1024 .f32) (a : Vec Ideal S1024x256 .bf16)
    (b : Vec Ideal S1x256 .f32) (r : Fin 512) (q : Fin 256) :
    k0_pay3 sh sc x g a b (ix2 r q) = lin (k0_pay2 sh sc x g) a b r q := by
  pointwise [k0_pay3, k0_pay2, lin]

variable (h : FVec Ideal S512x1024 .bf16) (a a' : Vec Ideal S1024x256 .bf16) (b b' : Vec Ideal S1x256 .f32) (r : Fin 512) (q : Fin 256)

theorem pay5 (f : FVec Ideal S512x256 .f32) : k0_pay5 h f (k0_pay4 a) b (ix3 0 r q) = f (ix2 r q) * Rows.sigT (lin h a b r q) := by
  pointwise [k0_pay5, k0_pay4, lin, Rows.sigT, Rows.half]

theorem pay9 : k0_pay9 (k0_pay6 h a b) (k0_pay7 h a' b') (k0_pay8 (F := Ideal)) (ix3 0 r q) = lin h a b r q * Rows.sigT (lin h a' b' r q) := by
  pointwise [k0_pay9, k0_pay6, k0_pay7, k0_pay8, lin, Rows.sigT, Rows.half]

theorem pay10 : k0_pay10 h a b a' b' (ix3 0 r q) = lin h a b r q * Rows.sigT (lin h a' b' r q) := by
  pointwise [k0_pay10, lin, Rows.sigT, Rows.half]

theorem pay12 : k0_pay12 h (k0_pay11 h a) b a' b' (ix3 0 r q) = lin h a b r q * Rows.sigT (lin h a' b' r q) := by
  pointwise [k0_pay12, k0_pay11, lin, Rows.sigT, Rows.half]

theorem pay13 : k0_pay13 h a b (ix3 0 r q) = lin h a b r q := by
  pointwise [k0_pay13, lin]

theorem pay16 : k0_pay16 h a b (ix3 0 r q) = lin h a b r q := by
  pointwise [k0_pay16, lin]

theorem pay19 : k0_pay19 h a b (ix3 0 r q) = lin h a b r q := by
  pointwise [k0_pay19, lin]

theorem pay22 : k0_pay22 h a b (ix3 0 r q) = lin h a b r q := by
  pointwise [k0_pay22, lin]

theorem pay27 : k0_pay27 h a b (ix3 0 r q) = lin h a b r q := by
  pointwise [k0_pay27, lin]

theorem pay15 : k0_pay15 h (k0_pay14 a) (constant S512x256 .f32 0x00000000#32) b (ix3 0 r q) = Rows.geluK (lin h a b r q) := by
  pointwise [k0_pay15, k0_pay14, lin, Rows.geluK, Rows.bend, Rows.half]

theorem pay18 : k0_pay18 (k0_pay17 h a) b (ix3 0 r q) = Rows.geluK (lin h a b r q) := by
  pointwise [k0_pay18, k0_pay17, lin, Rows.geluK, Rows.bend, Rows.half]

theorem pay21 : k0_pay21 (k0_pay20 h a b) (Scalar.ofBits .f32 0x3F000000#32) (ix3 0 r q) = Rows.geluK (lin h a b r q) := by
  pointwise [k0_pay21, k0_pay20, lin, Rows.geluK, Rows.bend, Rows.half]

theorem pay26 : k0_pay26 (k0_pay23 h a b) (k0_pay24 h a b) (k0_pay25 h a b) (ix3 0 r q) = Rows.geluK (lin h a b r q) := by
  pointwise [k0_pay26, k0_pay23, k0_pay24, k0_pay25, lin, Rows.geluK, Rows.bend, Rows.half]

theorem pay31 : k0_pay31 (k0_pay29 h a b) (k0_pay30 h a b) (ix3 0 r q) = Rows.geluK (lin h a b r q) := by
  pointwise [k0_pay31, k0_pay28, k0_pay29, k0_pay30, lin, Rows.geluK, Rows.bend, Rows.half]

theorem pay32 : k0_pay32 h a b (ix3 0 r q) = Rows.sigT (lin h a b r q) := by
  pointwise [k0_pay32, lin, Rows.sigT, Rows.half]

theorem pay36 : k0_pay36 h a b (ix3 0 r q) = Rows.sigT (lin h a b r q) := by
  pointwise [k0_pay36, lin, Rows.sigT, Rows.half]

theorem pay40 : k0_pay40 h a b (ix3 0 r q) = Rows.sigT (lin h a b r q) := by
  pointwise [k0_pay40, lin, Rows.sigT, Rows.half]

theorem pay44 : k0_pay44 h a b (ix3 0 r q) = Rows.sigT (lin h a b r q) := by
  pointwise [k0_pay44, lin, Rows.sigT, Rows.half]

theorem pay35 : k0_pay35 (k0_pay33 h a b) (k0_pay34 (F := Ideal)) (ix3 0 r q) = Rows.sigT (lin h a b r q) := by
  pointwise [k0_pay35, k0_pay33, k0_pay34, lin, Rows.sigT, Rows.half]

theorem pay39 : k0_pay39 (k0_pay37 h a b) (k0_pay38 (F := Ideal)) (ix3 0 r q) = Rows.sigT (lin h a b r q) := by
  pointwise [k0_pay39, k0_pay37, k0_pay38, lin, Rows.sigT, Rows.half]

theorem pay43 : k0_pay43 (k0_pay41 h a b) (k0_pay42 (F := Ideal)) (ix3 0 r q) = Rows.sigT (lin h a b r q) := by
  pointwise [k0_pay43, k0_pay41, k0_pay42, lin, Rows.sigT, Rows.half]

theorem pay1 : k0_pay1 (k0_pay45 h a b) (k0_pay46 (F := Ideal)) (ix3 0 r q) = Rows.sigT (lin h a b r q) := by
  pointwise [k0_pay1, k0_pay45, k0_pay46, lin, Rows.sigT, Rows.half]

/-! ## A grid point's four blocks -/

section
variable (x0 : Vec Ideal S1x512x1024 .f32) (x1 : Vec Ideal S1x1x9216 .f32) (x2 : Vec Ideal S1x1024 .f32) (x3 : Vec Ideal S1024x6656 .bf16)
  (x4 : Vec Ideal S1x6656 .f32)

/-- The row's projection onto column `n`. -/
def P (r : Fin 512) (n : Fin 6656) : EReal :=
  Rows.proj (Rows.adj (fun k => x0 (ix3 0 r k)) (fun k => x2 (ix2 0 k)) (fun k => x1 (ix3 0 0 ⟨4096 + k, by omega⟩))
    (fun k => x1 (ix3 0 0 ⟨3072 + k, by omega⟩))) (fun k n => x3 (ix2 k n)) (fun n => x4 (ix2 0 n)) n

theorem row (d : Fin 1024) : k0_pay47 x0 x1 x2 x3 x4 (ix2 r d) = Rows.adj (fun k => x0 (ix3 0 r k)) (fun k => x2 (ix2 0 k))
    (fun k => x1 (ix3 0 0 ⟨4096 + k, by omega⟩)) (fun k => x1 (ix3 0 0 ⟨3072 + k, by omega⟩)) d := by
  unfold k0_pay47
  rw [pay2]
  congr 1 <;> funext k <;> pointwise

/-- A chunk at its columns is the projection there. -/
theorem lin_eq {n : Fin 6656} (ha : ∀ k, a (ix2 k q) = x3 (ix2 k n)) (hb : b (ix2 0 q) = x4 (ix2 0 n)) :
    lin (k0_pay47 x0 x1 x2 x3 x4) a b r q = P x0 x1 x2 x3 x4 r n := by
  simp only [lin, P, Rows.proj, Rows.dot, ha, hb, row]

theorem first (n : Fin 1024) : out0_5 x0 x1 x2 x3 x4 (ix3 0 r n) =
    P x0 x1 x2 x3 x4 r ⟨n, by omega⟩ * Rows.sigT (P x0 x1 x2 x3 x4 r ⟨1024 + n, by omega⟩) := by
  unfold out0_5
  canon_tiles z e
  all_goals
    obtain ⟨r', q, rfl⟩ : ∃ (r' : Fin 512) (q : Fin 256), z = (ix3 0 r' q : S1x512x256.Idx) := ⟨z 1, z 2, by idx_ext⟩
    have f1 : (r : ℕ) = r' := e1
    obtain rfl := Fin.ext f1
    first | (have f2 : (n : ℕ) = _ + (q : ℕ) := e2) | (have f2 : (n : ℕ) = q := e2)
  · rw [pay12]
    congr 1
    · refine lin_eq _ _ _ _ _ _ _ _ _ (fun k => ?_) ?_ <;> pointwise <;> congr 2 <;> exact Fin.ext (by simp only []; omega)
    · refine congrArg Rows.sigT (lin_eq _ _ _ _ _ _ _ _ _ (fun k => ?_) ?_) <;> pointwise <;> congr 2 <;> exact Fin.ext (by simp only []; omega)
  · rw [pay10]
    congr 1
    · refine lin_eq _ _ _ _ _ _ _ _ _ (fun k => ?_) ?_ <;> pointwise <;> congr 2 <;> exact Fin.ext (by simp only []; omega)
    · refine congrArg Rows.sigT (lin_eq _ _ _ _ _ _ _ _ _ (fun k => ?_) ?_) <;> pointwise <;> congr 2 <;> exact Fin.ext (by simp only []; omega)
  · rw [pay9]
    congr 1
    · refine lin_eq _ _ _ _ _ _ _ _ _ (fun k => ?_) ?_ <;> pointwise <;> congr 2 <;> exact Fin.ext (by simp only []; omega)
    · refine congrArg Rows.sigT (lin_eq _ _ _ _ _ _ _ _ _ (fun k => ?_) ?_) <;> pointwise <;> congr 2 <;> exact Fin.ext (by simp only []; omega)
  · rw [pay5, pay3]
    congr 1
    · refine lin_eq _ _ _ _ _ _ _ _ _ (fun k => ?_) ?_ <;> pointwise <;> congr 2 <;> exact Fin.ext (by simp only []; omega)
    · refine congrArg Rows.sigT (lin_eq _ _ _ _ _ _ _ _ _ (fun k => ?_) ?_) <;> pointwise <;> congr 2 <;> exact Fin.ext (by simp only []; omega)

theorem second (n : Fin 1280) : out0_6 x0 x1 x2 x3 x4 (ix3 0 r n) = P x0 x1 x2 x3 x4 r ⟨2048 + n, by omega⟩ := by
  unfold out0_6
  canon_tiles z e
  all_goals
    obtain ⟨r', q, rfl⟩ : ∃ (r' : Fin 512) (q : Fin 256), z = (ix3 0 r' q : S1x512x256.Idx) := ⟨z 1, z 2, by idx_ext⟩
    have f1 : (r : ℕ) = r' := e1
    obtain rfl := Fin.ext f1
    first | (have f2 : (n : ℕ) = _ + (q : ℕ) := e2) | (have f2 : (n : ℕ) = q := e2)
    first | rw [pay27] | rw [pay22] | rw [pay19] | rw [pay16] | rw [pay13]
    refine lin_eq _ _ _ _ _ _ _ _ _ (fun k => ?_) ?_ <;> pointwise <;> congr 2 <;> exact Fin.ext (by simp only []; omega)

theorem third (n : Fin 1280) : out0_7 x0 x1 x2 x3 x4 (ix3 0 r n) = Rows.geluK (P x0 x1 x2 x3 x4 r ⟨3328 + n, by omega⟩) := by
  unfold out0_7
  canon_tiles z e
  all_goals
    obtain ⟨r', q, rfl⟩ : ∃ (r' : Fin 512) (q : Fin 256), z = (ix3 0 r' q : S1x512x256.Idx) := ⟨z 1, z 2, by idx_ext⟩
    have f1 : (r : ℕ) = r' := e1
    obtain rfl := Fin.ext f1
    first | (have f2 : (n : ℕ) = _ + (q : ℕ) := e2) | (have f2 : (n : ℕ) = q := e2)
    first | rw [pay31] | rw [pay26] | rw [pay21] | rw [pay18] | rw [pay15]
    refine congrArg Rows.geluK (lin_eq _ _ _ _ _ _ _ _ _ (fun k => ?_) ?_) <;> pointwise <;> congr 2 <;> exact Fin.ext (by simp only []; omega)

theorem fourth (n : Fin 2048) : out0_8 x0 x1 x2 x3 x4 (ix3 0 r n) = Rows.sigT (P x0 x1 x2 x3 x4 r ⟨4608 + n, by omega⟩) := by
  unfold out0_8
  canon_tiles z e
  all_goals
    obtain ⟨r', q, rfl⟩ : ∃ (r' : Fin 512) (q : Fin 256), z = (ix3 0 r' q : S1x512x256.Idx) := ⟨z 1, z 2, by idx_ext⟩
    have f1 : (r : ℕ) = r' := e1
    obtain rfl := Fin.ext f1
    first | (have f2 : (n : ℕ) = _ + (q : ℕ) := e2) | (have f2 : (n : ℕ) = q := e2)
    first | rw [pay1] | rw [pay44] | rw [pay43] | rw [pay40] | rw [pay39] | rw [pay36] | rw [pay35] | rw [pay32]
    refine congrArg Rows.sigT (lin_eq _ _ _ _ _ _ _ _ _ (fun k => ?_) ?_) <;> pointwise <;> congr 2 <;> exact Fin.ext (by simp only []; omega)

end

/-! ## The arrays -/

/-- The projection of token `l` of batch `b` onto column `n`, by the argument arrays. -/
def proj (x : Vec Ideal S4x8192x1024 .f32) (m : Vec Ideal S4x1x9216 .f32) (g : Vec Ideal S1024 .f32)
    (w : Vec Ideal S1024x6656 .f32) (b : Vec Ideal S6656 .f32) (i : Fin 4) (l : Fin 8192) (n : Fin 6656) : EReal :=
  Rows.proj (Rows.adj (fun k => x (ix3 i l k)) (fun k => g (ix1 k)) (fun k => m (ix3 i 0 ⟨4096 + k, by omega⟩))
    (fun k => m (ix3 i 0 ⟨3072 + k, by omega⟩))) (fun k n => w (ix2 k n)) (fun n => b (ix1 n)) n

section
variable (x : Vec Ideal S4x8192x1024 .f32) (m : Vec Ideal S4x1x9216 .f32) (g : Vec Ideal S1024 .f32)
  (w : Vec Ideal S1024x6656 .f32) (b : Vec Ideal S6656 .f32)

/-- The four results: the gated values, the plain columns, the rectified columns and the gates. -/
def G5 (sig : EReal → EReal) : Vec Ideal S4x8192x1024 .bf16 := fun i =>
  proj x m g w b (i 0) (i 1) ⟨(i 2).val, by have := (i 2).isLt; simp at this; omega⟩ *
    sig (proj x m g w b (i 0) (i 1) ⟨1024 + (i 2).val, by have := (i 2).isLt; simp at this; omega⟩)
def G6 : Vec Ideal S4x8192x1280 .f32 := fun i =>
  proj x m g w b (i 0) (i 1) ⟨2048 + (i 2).val, by have := (i 2).isLt; simp at this; omega⟩
def G7 (gelu : EReal → EReal) : Vec Ideal S4x8192x1280 .bf16 := fun i =>
  gelu (proj x m g w b (i 0) (i 1) ⟨3328 + (i 2).val, by have := (i 2).isLt; simp at this; omega⟩)
def G8 (sig : EReal → EReal) : Vec Ideal S4x8192x2048 .bf16 := fun i =>
  sig (proj x m g w b (i 0) (i 1) ⟨4608 + (i 2).val, by have := (i 2).isLt; simp at this; omega⟩)
end

section
open Idealize.ShloMosaic.TcCoe
variable (m : (ℓ : Loc nD τ sig) → Buf (Elt Ideal) ℓ) (c : Dev nD)

theorem V_v0 (k : Fin 1024) (q : Fin 6656) : V m c main_v0 (ix2 k q) = m ((c : Thread nD τ).loc main_arg3) (ix2 k q) := by
  have h : V m c main_v0 = (truncf .bf16 (m ((c : Thread nD τ).loc main_arg3) : FVec Ideal S1024x6656 .f32) bitsLt_bf16_f32 : FVec Ideal S1024x6656 .bf16) := rfl
  rw [h]; pointwise

theorem V_v1 (k : Fin 1024) : V m c main_v1 (ix2 0 k) = m ((c : Thread nD τ).loc main_arg2) (ix1 k) := by
  have h : V m c main_v1 = shapeCast S1x1024 (m ((c : Thread nD τ).loc main_arg2)) Facts₀.shapeCasts_S1024_S1x1024 := rfl
  rw [h]; pointwise

theorem V_v2 (n : Fin 6656) : V m c main_v2 (ix2 0 n) = m ((c : Thread nD τ).loc main_arg4) (ix1 n) := by
  have h : V m c main_v2 = shapeCast S1x6656 (m ((c : Thread nD τ).loc main_arg4)) Facts₀.shapeCasts_S6656_S1x6656 := rfl
  rw [h]
  refine congrArg (m ((c : Thread nD τ).loc main_arg4)) (Shape.reshapeEquiv_eq_of_rowMajor Facts₀.shapeCasts_S6656_S1x6656 ?_)
  simp only [Shape.rowMajor_val_one, Shape.rowMajor_val_two]
  show n.val = 0 * 6656 + n.val
  omega

theorem e0 : ∀ t : Fin cfg0.N, win0_0.index t = ![t.val / 16, t.val % 16, 0] := (by decide +kernel : ∀ t : Fin grid0.N, _)
theorem e1 : ∀ t : Fin cfg0.N, win0_1.index t = ![t.val / 16, 0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val / 16, t.val % 16, 0] := (by decide +kernel : ∀ t : Fin grid0.N, _)
theorem e6 : ∀ t : Fin cfg0.N, win0_6.index t = ![t.val / 16, t.val % 16, 0] := (by decide +kernel : ∀ t : Fin grid0.N, _)
theorem e7 : ∀ t : Fin cfg0.N, win0_7.index t = ![t.val / 16, t.val % 16, 0] := (by decide +kernel : ∀ t : Fin grid0.N, _)
theorem e8 : ∀ t : Fin cfg0.N, win0_8.index t = ![t.val / 16, t.val % 16, 0] := (by decide +kernel : ∀ t : Fin grid0.N, _)

theorem lt64 (t : Fin cfg0.N) : t.val < 64 := lt_of_lt_of_eq t.isLt (by decide +kernel)

theorem in0 (t : Fin cfg0.N) (r : Fin 512) (k : Fin 1024) : iblk m c 0 t (ix3 0 r k) =
    m ((c : Thread nD τ).loc main_arg0) (ix3 ⟨t / 16, by have := lt64 t; omega⟩ ⟨t % 16 * 512 + r, by omega⟩ k) := by
  have h : (win0_0.blk t).view.emb (ix3 0 r k) = ix3 ⟨t / 16, by have := lt64 t; omega⟩ ⟨t % 16 * 512 + r, by omega⟩ k := by blk_ext [e0]
  exact (congrArg (V m c main_arg0) h).trans (congrFun (V_main_arg0 m c) _)

theorem in1 (t : Fin cfg0.N) (k : Fin 9216) : iblk m c 1 t (ix3 0 0 k) =
    m ((c : Thread nD τ).loc main_arg1) (ix3 ⟨t / 16, by have := lt64 t; omega⟩ 0 k) := by
  have h : (win0_1.blk t).view.emb (ix3 0 0 k) = ix3 ⟨t / 16, by have := lt64 t; omega⟩ 0 k := by blk_ext [e1]
  exact (congrArg (V m c main_arg1) h).trans (congrFun (V_main_arg1 m c) _)

theorem in2 (t : Fin cfg0.N) (k : Fin 1024) : iblk m c 2 t (ix2 0 k) = m ((c : Thread nD τ).loc main_arg2) (ix1 k) := by
  have h : (win0_2.blk t).view.emb (ix2 0 k) = ix2 0 k := by blk_ext [e2]
  exact (congrArg (V m c main_v1) h).trans (V_v1 m c k)

theorem in3 (t : Fin cfg0.N) (k : Fin 1024) (n : Fin 6656) : iblk m c 3 t (ix2 k n) = m ((c : Thread nD τ).loc main_arg3) (ix2 k n) := by
  have h : (win0_3.blk t).view.emb (ix2 k n) = ix2 k n := by blk_ext [e3]
  exact (congrArg (V m c main_v0) h).trans (V_v0 m c k n)

theorem in4 (t : Fin cfg0.N) (n : Fin 6656) : iblk m c 4 t (ix2 0 n) = m ((c : Thread nD τ).loc main_arg4) (ix1 n) := by
  have h : (win0_4.blk t).view.emb (ix2 0 n) = ix2 0 n := by blk_ext [e4]
  exact (congrArg (V m c main_v2) h).trans (V_v2 m c n)

/-- The projection at a grid point is the projection of the point's tokens. -/
theorem P_eq (t : Fin cfg0.N) (r : Fin 512) (n : Fin 6656) :
    P (iblk m c 0 t) (iblk m c 1 t) (iblk m c 2 t) (iblk m c 3 t) (iblk m c 4 t) r n =
      proj (m ((c : Thread nD τ).loc main_arg0)) (m ((c : Thread nD τ).loc main_arg1)) (m ((c : Thread nD τ).loc main_arg2))
        (m ((c : Thread nD τ).loc main_arg3)) (m ((c : Thread nD τ).loc main_arg4)) ⟨t / 16, by have := lt64 t; omega⟩ ⟨t % 16 * 512 + r, by omega⟩ n := by
  simp only [P, proj, in0, in1, in2, in3, in4]

theorem final5 : (dats m 0 c).arrAt 5 cfg0.N = G5 (m ((c : Thread nD τ).loc main_arg0)) (m ((c : Thread nD τ).loc main_arg1))
    (m ((c : Thread nD τ).loc main_arg2)) (m ((c : Thread nD τ).loc main_arg3)) (m ((c : Thread nD τ).loc main_arg4)) Rows.sigT := by
  refine (dats m 0 c).arrAt_eq_of_covers 5 _ (by decide +kernel) fun t hf y => ?_
  blk_simp
  rw [after0_5]
  have ht := lt64 t
  obtain ⟨r, n, hy⟩ : ∃ (r : Fin 512) (n : Fin 1024), y = (ix3 0 r n : S1x512x1024.Idx) := ⟨y 1, y 2, by idx_ext⟩
  have hi : (win0_5.blk t).view.emb y = ix3 ⟨t / 16, by omega⟩ ⟨t % 16 * 512 + r, by omega⟩ n := by subst hy; blk_ext [e5]
  rw [hi, hy]
  refine (first r _ _ _ _ _ n).trans ?_
  simp only [P_eq]
  rfl

theorem final6 : (dats m 0 c).arrAt 6 cfg0.N = G6 (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have ht := lt64 t
  obtain ⟨r, n, hy⟩ : ∃ (r : Fin 512) (n : Fin 1280), y = (ix3 0 r n : S1x512x1280.Idx) := ⟨y 1, y 2, by idx_ext⟩
  have hi : (win0_6.blk t).view.emb y = ix3 ⟨t / 16, by omega⟩ ⟨t % 16 * 512 + r, by omega⟩ n := by subst hy; blk_ext [e6]
  rw [hi, hy]
  refine (second r _ _ _ _ _ n).trans ?_
  simp only [P_eq]
  rfl

theorem final7 : (dats m 0 c).arrAt 7 cfg0.N = G7 (m ((c : Thread nD τ).loc main_arg0)) (m ((c : Thread nD τ).loc main_arg1))
    (m ((c : Thread nD τ).loc main_arg2)) (m ((c : Thread nD τ).loc main_arg3)) (m ((c : Thread nD τ).loc main_arg4)) Rows.geluK := by
  refine (dats m 0 c).arrAt_eq_of_covers 7 _ (by decide +kernel) fun t hf y => ?_
  blk_simp
  rw [after0_7]
  have ht := lt64 t
  obtain ⟨r, n, hy⟩ : ∃ (r : Fin 512) (n : Fin 1280), y = (ix3 0 r n : S1x512x1280.Idx) := ⟨y 1, y 2, by idx_ext⟩
  have hi : (win0_7.blk t).view.emb y = ix3 ⟨t / 16, by omega⟩ ⟨t % 16 * 512 + r, by omega⟩ n := by subst hy; blk_ext [e7]
  rw [hi, hy]
  refine (third r _ _ _ _ _ n).trans ?_
  simp only [P_eq]
  rfl

theorem final8 : (dats m 0 c).arrAt 8 cfg0.N = G8 (m ((c : Thread nD τ).loc main_arg0)) (m ((c : Thread nD τ).loc main_arg1))
    (m ((c : Thread nD τ).loc main_arg2)) (m ((c : Thread nD τ).loc main_arg3)) (m ((c : Thread nD τ).loc main_arg4)) Rows.sigT := by
  refine (dats m 0 c).arrAt_eq_of_covers 8 _ (by decide +kernel) fun t hf y => ?_
  blk_simp
  rw [after0_8]
  have ht := lt64 t
  obtain ⟨r, n, hy⟩ : ∃ (r : Fin 512) (n : Fin 2048), y = (ix3 0 r n : S1x512x2048.Idx) := ⟨y 1, y 2, by idx_ext⟩
  have hi : (win0_8.blk t).view.emb y = ix3 ⟨t / 16, by omega⟩ ⟨t % 16 * 512 + r, by omega⟩ n := by subst hy; blk_ext [e8]
  rw [hi, hy]
  refine (fourth r _ _ _ _ _ n).trans ?_
  simp only [P_eq]
  rfl

end

end Cert.InprojIdeal.Rowwise

end
-- ==== Proof.InprojRef.lean ====
/- The reference of the input projection, stage by stage, as the same functions of its arguments. -/
module

public import Idealize.ShloMosaic.Lib.Pointwise
public import proofs.«01_k».proof.Proof.Gates
public import proofs.«01_k».proof.Proof.Gen.InprojRefIdeal.Read

@[expose] public section

set_option maxRecDepth 100000

noncomputable section

open Idealize.ShloMosaic Cert.InprojRefIdeal Cert.InprojRefIdeal.Gen Cert.InprojRefIdeal.Read

namespace Cert.InprojRefIdeal.Rowwise

variable (x0 : Vec Ideal S4x8192x1024 .f32) (x1 : Vec Ideal S4x1x9216 .f32) (x2 : Vec Ideal S1024 .f32)
  (x3 : Vec Ideal S1024x6656 .f32) (x4 : Vec Ideal S6656 .f32) (b : Fin 4) (l : Fin 8192)

/-- The normed row, scaled and shifted. -/
theorem normed (d : Fin 1024) : val_main_v27 x0 x1 x2 (ix3 b l d) =
    Rows.adj (fun k => x0 (ix3 b l k)) (fun k => x2 (ix1 k)) (fun k => x1 (ix3 b 0 ⟨4096 + k, by omega⟩))
      (fun k => x1 (ix3 b 0 ⟨3072 + k, by omega⟩)) d := by
  pointwise [val_main_v27, val_main_v26, val_main_v25, val_main_v24, val_main_v23, val_main_v22, val_main_cst_2, val_main_v21, val_main_v20,
    val_main_v19, val_main_v18, val_main_v17, val_main_v16, val_main_v15, val_main_v14, val_main_cst_1, val_main_v13, val_main_v12,
    val_main_cst_0, val_main_v11, val_main_v10, val_main_cst, val_main_v9, val_main_v4, val_main_v3, Rows.adj, Rows.nrm, Rows.inv, Rows.len, Rows.eps]

/-- The row times the matrix, and the bias. -/
theorem projected (n : Fin 6656) : val_main_v31 x0 x1 x2 x3 x4 (ix3 b l n) =
    Rows.proj (fun k => val_main_v27 x0 x1 x2 (ix3 b l k)) (fun k n => x3 (ix2 k n)) (fun n => x4 (ix1 n)) n := by
  pointwise [val_main_v31, val_main_v30, val_main_v29, val_main_v28, Rows.proj, Rows.dot]

/-- The first result: a column gated by the column 1024 further on. -/
theorem first (n : Fin 1024) : val_main_v42 x0 x1 x2 x3 x4 (ix3 b l n) =
    val_main_v31 x0 x1 x2 x3 x4 (ix3 b l ⟨n, by omega⟩) * Rows.sigL (val_main_v31 x0 x1 x2 x3 x4 (ix3 b l ⟨1024 + n, by omega⟩)) := by
  pointwise [val_main_v42, val_main_v41, val_main_v40, val_main_v39, val_main_cst_4, val_main_v38, val_main_v37, val_main_cst_3, val_main_v36,
    val_main_v35, val_main_v34, val_main_v33, val_main_v32, Rows.sigL]

/-- The second result: plain columns. -/
theorem second (n : Fin 1280) : val_main_v43 x0 x1 x2 x3 x4 (ix3 b l n) = val_main_v31 x0 x1 x2 x3 x4 (ix3 b l ⟨2048 + n, by omega⟩) := by
  pointwise [val_main_v43]

/-- The third result: columns through the smooth rectifier. -/
theorem third (n : Fin 1280) : val_main_v58 x0 x1 x2 x3 x4 (ix3 b l n) = Rows.geluR (val_main_v31 x0 x1 x2 x3 x4 (ix3 b l ⟨3328 + n, by omega⟩)) := by
  pointwise [val_main_v58, val_main_v57, val_main_v56, val_main_v55, val_main_cst_8, val_main_v54, val_main_v53, val_main_cst_7, val_main_v52, val_main_v51,
    val_main_v50, val_main_cst_6, val_main_v49, val_main_v48, val_main_v47, val_main_cst_5, val_main_v46, val_main_v45, val_main_v44,
    Rows.geluR, Rows.bend, Rows.half]

/-- The fourth result: gates. -/
theorem fourth (n : Fin 2048) : val_main_v66 x0 x1 x2 x3 x4 (ix3 b l n) = Rows.sigL (val_main_v31 x0 x1 x2 x3 x4 (ix3 b l ⟨4608 + n, by omega⟩)) := by
  pointwise [val_main_v66, val_main_v65, val_main_v64, val_main_cst_10, val_main_v63, val_main_v62, val_main_cst_9, val_main_v61, val_main_v60,
    val_main_v59, Rows.sigL]

end Cert.InprojRefIdeal.Rowwise

end
-- ==== Proof.Inproj.lean ====
/- The claims on the input projection. -/
module

public import proofs.«01_k».proof.Defs
public import proofs.«01_k».proof.Proof.Gates
public import proofs.«01_k».proof.Proof.InprojKernel
public import proofs.«01_k».proof.Proof.InprojRef
public import proofs.«01_k».proof.Proof.Gen.Inproj.Frame
public import proofs.«01_k».proof.Proof.Gen.InprojIdeal.Value
public import proofs.«01_k».proof.Proof.Gen.InprojRefIdeal.Run
public import Idealize.ShloMosaic.Lib.Quiescent

@[expose] public section

noncomputable section

open Idealize.ShloMosaic Idealize.ShloMosaic.TcCoe Idealize.SL.Sem

namespace Cert.InprojClaims

instance : Cert.Inproj.Facts := Cert.Inproj.Gen.facts
instance : Cert.InprojIdeal.Facts := Cert.InprojIdeal.Gen.facts
instance : Cert.InprojRefIdeal.Facts := Cert.InprojRefIdeal.Gen.facts

theorem frame_p : Cert.quiescent_Inproj := fun m ρ _ => Cert.Inproj.Gen.frame m ρ
theorem frame_pi : Cert.quiescent_InprojIdeal := fun m ρ _ => Cert.InprojIdeal.Gen.frame m ρ
theorem frame_ri : Cert.quiescent_InprojRefIdeal := fun m ρ _ =>
  (θ_run Cert.InprojRefIdeal.defs _ _).mono (fun r h => ⟨fun c => (h c).2.2.2.2, sem_eq_zero_of_no_sems (by decide) r.2⟩)
    (Cert.InprojRefIdeal.Value.run (F := Ideal) m ρ)

section
open Cert.InprojRefIdeal Cert.InprojRefIdeal.Read
variable (x0 : Vec Ideal S4x8192x1024 .f32) (x1 : Vec Ideal S4x1x9216 .f32) (x2 : Vec Ideal S1024 .f32)
  (x3 : Vec Ideal S1024x6656 .f32) (x4 : Vec Ideal S6656 .f32)

/-- The reference's projection is the kernel's. -/
theorem proj_eq (b : Fin 4) (l : Fin 8192) (n : Fin 6656) :
    val_main_v31 x0 x1 x2 x3 x4 (ix3 b l n) = Cert.InprojIdeal.Rowwise.proj x0 x1 x2 x3 x4 b l n := by
  rw [Cert.InprojRefIdeal.Rowwise.projected]
  simp only [Cert.InprojRefIdeal.Rowwise.normed]
  rfl

theorem same5 : val_main_v42 x0 x1 x2 x3 x4 = Cert.InprojIdeal.Rowwise.G5 x0 x1 x2 x3 x4 Rows.sigT := by
  funext i
  obtain ⟨b, l, n, rfl⟩ : ∃ (b : Fin 4) (l : Fin 8192) (n : Fin 1024), i = ix3 b l n := ⟨i 0, i 1, i 2, by idx_ext⟩
  rw [Cert.InprojRefIdeal.Rowwise.first, proj_eq, proj_eq, ← Rows.sigT_eq]
  rfl

theorem same6 : val_main_v43 x0 x1 x2 x3 x4 = Cert.InprojIdeal.Rowwise.G6 x0 x1 x2 x3 x4 := by
  funext i
  obtain ⟨b, l, n, rfl⟩ : ∃ (b : Fin 4) (l : Fin 8192) (n : Fin 1280), i = ix3 b l n := ⟨i 0, i 1, i 2, by idx_ext⟩
  rw [Cert.InprojRefIdeal.Rowwise.second, proj_eq]
  rfl

theorem same7 : val_main_v58 x0 x1 x2 x3 x4 = Cert.InprojIdeal.Rowwise.G7 x0 x1 x2 x3 x4 Rows.geluK := by
  funext i
  obtain ⟨b, l, n, rfl⟩ : ∃ (b : Fin 4) (l : Fin 8192) (n : Fin 1280), i = ix3 b l n := ⟨i 0, i 1, i 2, by idx_ext⟩
  rw [Cert.InprojRefIdeal.Rowwise.third, proj_eq, ← Rows.geluK_eq]
  rfl

theorem same8 : val_main_v66 x0 x1 x2 x3 x4 = Cert.InprojIdeal.Rowwise.G8 x0 x1 x2 x3 x4 Rows.sigT := by
  funext i
  obtain ⟨b, l, n, rfl⟩ : ∃ (b : Fin 4) (l : Fin 8192) (n : Fin 2048), i = ix3 b l n := ⟨i 0, i 1, i 2, by idx_ext⟩
  rw [Cert.InprojRefIdeal.Rowwise.fourth, proj_eq, ← Rows.sigT_eq]
  rfl
end

theorem algebraic : Cert.algebraic_InprojIdeal_InprojRefIdeal := by
  intro m ρ m' ρ' _ hagree
  refine ⟨_, _, _, _, Cert.InprojIdeal.Value.run_blocks (F := Ideal) m ρ, ?_⟩
  refine (θ_run Cert.InprojRefIdeal.defs _ _).mono (fun r h c => ⟨?_, ?_, ?_, ?_, (h c).2.2.2.2⟩) (Cert.InprojRefIdeal.Value.run (F := Ideal) m' ρ')
  all_goals obtain ⟨a0, a1, a2, a3, a4⟩ := hagree c
  · refine (h c).1.trans ((Cert.InprojRefIdeal.Read.val_main_v42_eq (F := Ideal) _ _ _ _ _).trans ?_)
    rw [a0, a1, a2, a3, a4]
    exact (same5 _ _ _ _ _).trans (Cert.InprojIdeal.Rowwise.final5 m c).symm
  · refine (h c).2.1.trans ((Cert.InprojRefIdeal.Read.val_main_v43_eq (F := Ideal) _ _ _ _ _).trans ?_)
    rw [a0, a1, a2, a3, a4]
    exact (same6 _ _ _ _ _).trans (Cert.InprojIdeal.Rowwise.final6 m c).symm
  · refine (h c).2.2.1.trans ((Cert.InprojRefIdeal.Read.val_main_v58_eq (F := Ideal) m' c).trans ?_)
    rw [a0, a1, a2, a3, a4]
    exact (same7 _ _ _ _ _).trans (Cert.InprojIdeal.Rowwise.final7 m c).symm
  · refine (h c).2.2.2.1.trans ((Cert.InprojRefIdeal.Read.val_main_v66_eq (F := Ideal) _ _ _ _ _).trans ?_)
    rw [a0, a1, a2, a3, a4]
    exact (same8 _ _ _ _ _).trans (Cert.InprojIdeal.Rowwise.final8 m c).symm

end Cert.InprojClaims

end
-- ==== Proof.LruBlock.lean ====
module

public import proofs.«01_k».proof.Proof.Gen.LruFwdIdeal.Value
public import Idealize.ShloMosaic.Lib.Pipeline.ValueKit.Tiles

@[expose] public section

set_option maxRecDepth 100000

noncomputable section

/-! The recurrence kernel works on ten groups of 128 channels. Every group does the same work on its own
loads; this module states that work once and shows that the pieces a grid point stores are its ten
instances. -/

namespace LruBlock

open Cert.LruFwdIdeal Cert.LruFwdIdeal.Gen Idealize.ShloMosaic Idealize.ShloMosaic.TcCoe Idealize.ShloMosaic.Tactic
open Idealize.SL.Sem

variable {F : FTy → Type} [FloatOps F]

/-! ## One group of channels -/

section
variable (a b : Vec F S512x128 .f32) (hc : Vec F S8x128 .f32)

theorem cut_ok (n : ℕ) : S512x128.Slices ![8 * (n % 64), 0] S8x128 :=
  (by decide : ∀ k : Fin 64, S512x128.Slices ![8 * k.val, 0] S8x128) ⟨n % 64, Nat.mod_lt _ (by decide)⟩

/-- The eight rows of step `n`. -/
def cut (v : Vec F S512x128 .f32) (n : ℕ) : FVec F S8x128 .f32 :=
  extractStridedSlice S8x128 ![8 * (n % 64), 0] v (cut_ok n)

/-- The state after step `n`, from zero. -/
def hs (n : ℕ) : FVec F S8x128 .f32 :=
  Nat.rec (addf (mulf (cut a 0) (broadcast S8x128 (Scalar.ofBits .f32 0x00000000#32))) (cut b 0))
    (fun n h => addf (mulf (cut a (n + 1)) h) (cut b (n + 1))) n

/-- The product of the decays up to step `n`. -/
def ps (n : ℕ) : FVec F S8x128 .f32 :=
  Nat.rec (mulf (cut a 0) (broadcast S8x128 (Scalar.ofBits .f32 0x3F800000#32)))
    (fun n p => mulf (cut a (n + 1)) p) n

/-- The states the eight pieces start from, after `n` rounds of passing them on. -/
def heads (n : ℕ) : FVec F S8x128 .f32 :=
  Nat.rec hc (fun n g => select (cmpi .eq (iota .tc S8x128 32 [0] iota_S8x128_d0_w32) (broadcast S8x128 (BitVec.ofNat 32 (n + 1))))
    (dynamicRotate 0 1#32 none (addf (mulf (ps a 63) g) (hs a b 63)) rotates_S8x128_d0) g) n

/-- The state after the whole tile, moved to the first row. -/
def carried : FVec F S8x128 .f32 :=
  shapeCast S8x128 (dynamicRotate 0 1#32 none (addf (mulf (ps a 63) (heads a b hc 7)) (hs a b 63)) rotates_S8x128_d0) shapeCasts_S8x128_S8x128

/-- What the group stores. -/
def stored : FVec F S1x512x128 .f32 :=
  shapeCast S1x512x128 (concatenate S512x128 0 (List.ofFn fun k : Fin 64 =>
    (⟨S8x128, addf (hs a b k) (mulf (ps a k) (heads a b hc 7))⟩ : (s : Shape) × (s.Idx → F .f32)))
    concatenates_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S8x128_S512x128_d0) shapeCasts_S512x128_S1x512x128

end

section
variable (e0 e1 e2 e3 : Vec F S512x128 .f32) (c0 c1 c2 c3 cb lam : Vec F S1x128 .f32) (wg : Vec F S1x128x256 .bf16) (bg : Vec F S1x1x256 .f32)

def decay : FVec F S512x128 .f32 := k0_pay12 (k0_pay10 (k0_pay7 cb c0 e0) c1 e1 c2 e2 c3 e3 wg bg) lam

def input : FVec F S512x128 .f32 := k0_pay13 (k0_pay8 (k0_pay7 cb c0 e0) c1 e1 c2 e2 c3 e3)
  (k0_pay10 (k0_pay7 cb c0 e0) c1 e1 c2 e2 c3 e3 wg bg) (k0_pay11 (k0_pay7 cb c0 e0) c1 e1 c2 e2 c3 e3 wg bg) lam

end

/-! ## The loads -/

theorem in_e (j : Fin 4) (k : Fin 10) : ∀ a : Fin 2, (![8 * j.val, 128 * k.val] : Fin 2 → ℕ) a + S512x128.size a ≤ S536x1280.size a := by
  revert j k; decide
theorem in_c (j : Fin 4) (k : Fin 10) : ∀ a : Fin 2, (![j.val, 128 * k.val] : Fin 2 → ℕ) a + S1x128.size a ≤ S4x1280.size a := by
  revert j k; decide
theorem in_r (k : Fin 10) : ∀ a : Fin 2, (![0, 128 * k.val] : Fin 2 → ℕ) a + S1x128.size a ≤ S1x1280.size a := by
  revert k; decide
theorem in_w (k : Fin 10) : ∀ a : Fin 3, (![k.val, 0, 0] : Fin 3 → ℕ) a + S1x128x256.size a ≤ S10x128x256.size a := by
  revert k; decide
theorem in_b (k : Fin 10) : ∀ a : Fin 3, (![k.val, 0, 0] : Fin 3 → ℕ) a + S1x1x256.size a ≤ S10x1x256.size a := by
  revert k; decide
theorem in_h (k : Fin 10) : ∀ a : Fin 2, (![0, 128 * k.val] : Fin 2 → ℕ) a + S8x128.size a ≤ S8x1280.size a := by
  revert k; decide
theorem in_o (k : Fin 10) : ∀ a : Fin 3, (![0, 0, 128 * (9 - k.val)] : Fin 3 → ℕ) a + S1x512x128.size a ≤ S1x512x1280.size a := by
  revert k; decide
theorem in_s (k : Fin 10) : ∀ a : Fin 2, (![0, 128 * (9 - k.val)] : Fin 2 → ℕ) a + S8x128.size a ≤ S8x1280.size a := by
  revert k; decide
theorem in_0 : ∀ a : Fin 3, (![0, 0, 0] : Fin 3 → ℕ) a + S1x512x1280.size a ≤ S1x512x1280.size a := by decide
theorem in_1 : ∀ a : Fin 3, (![0, 0, 0] : Fin 3 → ℕ) a + S1x16x1280.size a ≤ S1x16x1280.size a := by decide
theorem in_2 : ∀ a : Fin 3, (![0, 0, 0] : Fin 3 → ℕ) a + S1x8x1280.size a ≤ S1x8x1280.size a := by decide
theorem in_3 : ∀ a : Fin 3, (![0, 496, 0] : Fin 3 → ℕ) a + S1x16x1280.size a ≤ S1x512x1280.size a := by decide
theorem in_4 : ∀ a : Fin 2, (![0, 0] : Fin 2 → ℕ) a + S16x1280.size a ≤ S536x1280.size a := by decide
theorem in_5 : ∀ a : Fin 2, (![16, 0] : Fin 2 → ℕ) a + S512x1280.size a ≤ S536x1280.size a := by decide
theorem in_6 : ∀ a : Fin 2, (![528, 0] : Fin 2 → ℕ) a + S8x1280.size a ≤ S536x1280.size a := by decide
theorem in_7 : ∀ a : Fin 3, (![0, 0, 0] : Fin 3 → ℕ) a + S1x8x1280.size a ≤ S1x512x1280.size a := by decide

section
variable (c : Dev nD) (i : grid0.Coords) (arg2 : Memref sig .tc .vmem S1x512x1280 .f32) (harg2 : arg2.IsWhole) (arg3 : Memref sig .tc .vmem S1x16x1280 .f32) (harg3 : arg3.IsWhole) (arg4 : Memref sig .tc .vmem S1x8x1280 .f32) (harg4 : arg4.IsWhole) (arg5 : Memref sig .tc .vmem S4x1280 .f32) (harg5 : arg5.IsWhole) (arg6 : Memref sig .tc .vmem S1x1280 .f32) (harg6 : arg6.IsWhole) (arg7 : Memref sig .tc .vmem S10x128x256 .bf16) (harg7 : arg7.IsWhole) (arg8 : Memref sig .tc .vmem S10x1x256 .f32) (harg8 : arg8.IsWhole) (arg9 : Memref sig .tc .vmem S1x1280 .f32) (harg9 : arg9.IsWhole) (arg10 : Memref sig .tc .vmem S1x1x1280 .f32) (harg10 : arg10.IsWhole) (arg11 : Memref sig .tc .vmem S1x512x1280 .f32) (harg11 : arg11.IsWhole) (arg12 : Memref sig .tc .vmem S1x8x1280 .f32) (harg12 : arg12.IsWhole) (arg13 : Memref sig .tc .vmem S536x1280 .f32) (harg13 : arg13.IsWhole) (arg14 : Memref sig .tc .vmem S8x1280 .f32) (harg14 : arg14.IsWhole)
variable (x0 : Vec F S1x512x1280 .f32) (x1 : Vec F S1x16x1280 .f32) (x2 : Vec F S1x8x1280 .f32) (x3 : Vec F S4x1280 .f32) (x4 : Vec F S1x1280 .f32) (x5 : Vec F S10x128x256 .bf16) (x6 : Vec F S10x1x256 .f32) (x7 : Vec F S1x1280 .f32) (x8 : Vec F S1x1x1280 .f32)  (xs1 : Vec F S8x1280 .f32)

/-- The rows with their two halos, as stored before the groups begin. -/
def rows : List (View.Piece (Elt F) S536x1280 .f32) :=
  [⟨Rect.unit (s := S536x1280) ![528, 0] S8x1280.size in_6, k0_pay6 (BitVec.ofNat 32 (i 1).val)
      (View.readAt (Elt F) arg4.view (Rect.unit (s := S1x8x1280) ![0, 0, 0] S1x8x1280.size in_2).toLoadRect (harg4.unread x2))
      (View.readAt (Elt F) arg2.view (Rect.unit (s := S1x512x1280) ![0, 0, 0] S1x8x1280.size in_7).toLoadRect (harg2.unread x0))⟩,
   ⟨Rect.unit (s := S536x1280) ![16, 0] S512x1280.size in_5, k0_pay5
      (View.readAt (Elt F) arg2.view (Rect.unit (s := S1x512x1280) ![0, 0, 0] S1x512x1280.size in_0).toLoadRect (harg2.unread x0))⟩,
   ⟨Rect.unit (s := S536x1280) ![0, 0] S16x1280.size in_4, k0_pay4 i
      (View.readAt (Elt F) arg3.view (Rect.unit (s := S1x16x1280) ![0, 0, 0] S1x16x1280.size in_1).toLoadRect (harg3.unread x1))
      (View.readAt (Elt F) arg2.view (Rect.unit (s := S1x512x1280) ![0, 496, 0] S1x16x1280.size in_3).toLoadRect (harg2.unread x0))⟩]

def eLd (j : Fin 4) (k : Fin 10) : Vec F S512x128 .f32 :=
  View.readCov (Val := Elt F) arg13.view (rows i arg2 harg2 arg3 harg3 arg4 harg4 x0 x1 x2) (Rect.unit (s := S536x1280) ![8 * j.val, 128 * k.val] S512x128.size (in_e j k)).toLoadRect
def cLd (j : Fin 4) (k : Fin 10) : Vec F S1x128 .f32 :=
  View.readAt (Elt F) arg5.view (Rect.unit (s := S4x1280) ![j.val, 128 * k.val] S1x128.size (in_c j k)).toLoadRect (harg5.unread x3)
def rLd (arg : Memref sig .tc .vmem S1x1280 .f32) (harg : arg.IsWhole) (x : Vec F S1x1280 .f32) (k : Fin 10) : Vec F S1x128 .f32 :=
  View.readAt (Elt F) arg.view (Rect.unit (s := S1x1280) ![0, 128 * k.val] S1x128.size (in_r k)).toLoadRect (harg.unread x)
def wLd (k : Fin 10) : Vec F S1x128x256 .bf16 :=
  View.readAt (Elt F) arg7.view (Rect.unit (s := S10x128x256) ![k.val, 0, 0] S1x128x256.size (in_w k)).toLoadRect (harg7.unread x5)
def bLd (k : Fin 10) : Vec F S1x1x256 .f32 :=
  View.readAt (Elt F) arg8.view (Rect.unit (s := S10x1x256) ![k.val, 0, 0] S1x1x256.size (in_b k)).toLoadRect (harg8.unread x6)
def hLd (k : Fin 10) : Vec F S8x128 .f32 :=
  View.readAt (Elt F) arg14.view (Rect.unit (s := S8x1280) ![0, 128 * k.val] S8x128.size (in_h k)).toLoadRect (harg14.unread xs1)

def A (k : Fin 10) : FVec F S512x128 .f32 :=
  decay (eLd i arg2 harg2 arg3 harg3 arg4 harg4 arg13 x0 x1 x2 0 k) (eLd i arg2 harg2 arg3 harg3 arg4 harg4 arg13 x0 x1 x2 1 k)
    (eLd i arg2 harg2 arg3 harg3 arg4 harg4 arg13 x0 x1 x2 2 k) (eLd i arg2 harg2 arg3 harg3 arg4 harg4 arg13 x0 x1 x2 3 k)
    (cLd arg5 harg5 x3 0 k) (cLd arg5 harg5 x3 1 k) (cLd arg5 harg5 x3 2 k) (cLd arg5 harg5 x3 3 k) (rLd arg6 harg6 x4 k)
    (rLd arg9 harg9 x7 k) (wLd arg7 harg7 x5 k) (bLd arg8 harg8 x6 k)

def B (k : Fin 10) : FVec F S512x128 .f32 :=
  input (eLd i arg2 harg2 arg3 harg3 arg4 harg4 arg13 x0 x1 x2 0 k) (eLd i arg2 harg2 arg3 harg3 arg4 harg4 arg13 x0 x1 x2 1 k)
    (eLd i arg2 harg2 arg3 harg3 arg4 harg4 arg13 x0 x1 x2 2 k) (eLd i arg2 harg2 arg3 harg3 arg4 harg4 arg13 x0 x1 x2 3 k)
    (cLd arg5 harg5 x3 0 k) (cLd arg5 harg5 x3 1 k) (cLd arg5 harg5 x3 2 k) (cLd arg5 harg5 x3 3 k) (rLd arg6 harg6 x4 k)
    (rLd arg9 harg9 x7 k) (wLd arg7 harg7 x5 k) (bLd arg8 harg8 x6 k)

theorem out_B (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs1).1 =
      List.ofFn fun k : Fin 10 => (⟨Rect.unit (s := S1x512x1280) ![0, 0, 128 * (9 - k.val)] S1x512x128.size (in_o k),
        stored (A i arg2 harg2 arg3 harg3 arg4 harg4 arg5 harg5 arg6 harg6 arg7 harg7 arg8 harg8 arg9 harg9 arg13 x0 x1 x2 x3 x4 x5 x6 x7 ⟨9 - k.val, by omega⟩) (B i arg2 harg2 arg3 harg3 arg4 harg4 arg5 harg5 arg6 harg6 arg7 harg7 arg8 harg8 arg9 harg9 arg13 x0 x1 x2 x3 x4 x5 x6 x7 ⟨9 - k.val, by omega⟩) (hLd arg14 harg14 xs1 ⟨9 - k.val, by omega⟩)⟩ :
        View.Piece (Elt F) S1x512x1280 .f32) := by
  sl_kernel_rfl

theorem car_B (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs1).2.2.1 =
      List.ofFn fun k : Fin 10 => (⟨Rect.unit (s := S8x1280) ![0, 128 * (9 - k.val)] S8x128.size (in_s k),
        carried (A i arg2 harg2 arg3 harg3 arg4 harg4 arg5 harg5 arg6 harg6 arg7 harg7 arg8 harg8 arg9 harg9 arg13 x0 x1 x2 x3 x4 x5 x6 x7 ⟨9 - k.val, by omega⟩) (B i arg2 harg2 arg3 harg3 arg4 harg4 arg5 harg5 arg6 harg6 arg7 harg7 arg8 harg8 arg9 harg9 arg13 x0 x1 x2 x3 x4 x5 x6 x7 ⟨9 - k.val, by omega⟩) (hLd arg14 harg14 xs1 ⟨9 - k.val, by omega⟩)⟩ :
        View.Piece (Elt F) S8x1280 .f32) := by
  sl_kernel_rfl

theorem in_m (n : ℕ) : ∀ a : Fin 2, (![0, 128 * (n % 10)] : Fin 2 → ℕ) a + S8x128.size a ≤ S8x1280.size a :=
  in_h ⟨n % 10, Nat.mod_lt _ (by decide)⟩
theorem in_8 : ∀ a : Fin 2, (![0, 0] : Fin 2 → ℕ) a + S8x1280.size a ≤ S8x1280.size a := by decide
theorem in_9 : ∀ a : Fin 3, (![0, 0, 0] : Fin 3 → ℕ) a + S1x1x1280.size a ≤ S1x1x1280.size a := by decide

/-- The carried rows at a sequence's first tile, after `n` groups. -/
def carL (n : ℕ) : List (View.Piece (Elt F) S8x1280 .f32) :=
  Nat.rec [⟨Rect.unit (s := S8x1280) ![0, 0] S8x1280.size in_8,
      k0_pay3 (View.readAt (Elt F) arg10.view (Rect.unit (s := S1x1x1280) ![0, 0, 0] S1x1x1280.size in_9).toLoadRect (harg10.unread x8))⟩]
    (fun n L => ⟨Rect.unit (s := S8x1280) ![0, 128 * (n % 10)] S8x128.size (in_m n),
      carried (A i arg2 harg2 arg3 harg3 arg4 harg4 arg5 harg5 arg6 harg6 arg7 harg7 arg8 harg8 arg9 harg9 arg13 x0 x1 x2 x3 x4 x5 x6 x7 ⟨n % 10, Nat.mod_lt _ (by decide)⟩) (B i arg2 harg2 arg3 harg3 arg4 harg4 arg5 harg5 arg6 harg6 arg7 harg7 arg8 harg8 arg9 harg9 arg13 x0 x1 x2 x3 x4 x5 x6 x7 ⟨n % 10, Nat.mod_lt _ (by decide)⟩)
        (View.readCov (Val := Elt F) arg14.view L (Rect.unit (s := S8x1280) ![0, 128 * (n % 10)] S8x128.size (in_m n)).toLoadRect)⟩ :: L) n

/-- The states a group starts from at a sequence's first tile. -/
def hLdA (k : Fin 10) : Vec F S8x128 .f32 :=
  View.readCov (Val := Elt F) arg14.view (carL i arg2 harg2 arg3 harg3 arg4 harg4 arg5 harg5 arg6 harg6 arg7 harg7 arg8 harg8 arg9 harg9 arg10 harg10 arg13 arg14 x0 x1 x2 x3 x4 x5 x6 x7 x8 k)
    (Rect.unit (s := S8x1280) ![0, 128 * k.val] S8x128.size (in_h k)).toLoadRect

theorem out_A (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).1 =
      List.ofFn fun k : Fin 10 => (⟨Rect.unit (s := S1x512x1280) ![0, 0, 128 * (9 - k.val)] S1x512x128.size (in_o k),
        stored (A i arg2 harg2 arg3 harg3 arg4 harg4 arg5 harg5 arg6 harg6 arg7 harg7 arg8 harg8 arg9 harg9 arg13 x0 x1 x2 x3 x4 x5 x6 x7 ⟨9 - k.val, by omega⟩) (B i arg2 harg2 arg3 harg3 arg4 harg4 arg5 harg5 arg6 harg6 arg7 harg7 arg8 harg8 arg9 harg9 arg13 x0 x1 x2 x3 x4 x5 x6 x7 ⟨9 - k.val, by omega⟩)
          (hLdA i arg2 harg2 arg3 harg3 arg4 harg4 arg5 harg5 arg6 harg6 arg7 harg7 arg8 harg8 arg9 harg9 arg10 harg10 arg13 arg14 x0 x1 x2 x3 x4 x5 x6 x7 x8 ⟨9 - k.val, by omega⟩)⟩ :
        View.Piece (Elt F) S1x512x1280 .f32) := by
  sl_kernel_rfl

theorem car_A (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).2.2.1 =
      carL i arg2 harg2 arg3 harg3 arg4 harg4 arg5 harg5 arg6 harg6 arg7 harg7 arg8 harg8 arg9 harg9 arg10 harg10 arg13 arg14 x0 x1 x2 x3 x4 x5 x6 x7 x8 10 := by
  sl_kernel_rfl

end

end LruBlock
-- ==== Proof.Decay.lean ====
/- The recurrence h' = a h + b over the extended reals, its decay and its gain: the run cut into pieces, as the kernel
   takes it, against the run in time order, and the two spellings of the decay and of the gain. -/
module

public import proofs.«01_k».proof.Proof.Gates

@[expose] public section

noncomputable section

namespace Rows

open Idealize.ShloMosaic

/-- The state after `n` steps of `h' = a h + b` from `h`. -/
def run (a b : ℕ → EReal) (h : EReal) : ℕ → EReal
  | 0 => h
  | n + 1 => a n * run a b h n + b n

/-- The product of the first `n` decays. -/
def fade (a : ℕ → EReal) : ℕ → EReal
  | 0 => 1
  | n + 1 => a n * fade a n

/-- A decay: a real number that is not negative. -/
def Damp (x : EReal) : Prop := 0 ≤ x ∧ x ≠ ⊤

/-- A run is the run from zero plus the faded start. -/
theorem run_eq_fade {a : ℕ → EReal} (b : ℕ → EReal) (h : EReal) (ha : ∀ n, Damp (a n)) (n : ℕ) :
    run a b 0 n + fade a n * h = run a b h n := by
  induction n with
  | zero => show 0 + 1 * h = h; rw [zero_add, one_mul]
  | succ n ih =>
    show a n * run a b 0 n + b n + a n * fade a n * h = a n * run a b h n + b n
    rw [← ih, EReal.left_distrib_of_nonneg_of_ne_top (ha n).1 (ha n).2, mul_assoc]
    exact add_right_comm _ _ _

/-- A run of `m + n` steps is a run of `n` steps from the state after `m`. -/
theorem run_add (a b : ℕ → EReal) (h : EReal) (m n : ℕ) :
    run a b h (m + n) = run (fun k => a (m + k)) (fun k => b (m + k)) (run a b h m) n := by
  induction n with
  | zero => rfl
  | succ n ih =>
    show a (m + n) * run a b h (m + n) + b (m + n) = _
    rw [ih]; rfl

/-- Eight runs of 64 steps, each from zero, chained through their last states: the state before run `s`. -/
def chain (a b : ℕ → EReal) (h : EReal) : ℕ → EReal
  | 0 => h
  | s + 1 => fade (fun k => a (64 * s + k)) 64 * chain a b h s + run (fun k => a (64 * s + k)) (fun k => b (64 * s + k)) 0 64

theorem chain_eq {a : ℕ → EReal} (b : ℕ → EReal) (h : EReal) (ha : ∀ n, Damp (a n)) (s : ℕ) :
    chain a b h s = run a b h (64 * s) := by
  induction s with
  | zero => rfl
  | succ s ih =>
    show fade _ 64 * chain a b h s + run _ _ 0 64 = _
    rw [add_comm, run_eq_fade _ _ fun k => ha _, ih, Nat.mul_succ, run_add a b h (64 * s) 64]

/-- Run `s` from zero, faded in from the state before it, is the run in time order. -/
theorem run_piece {a : ℕ → EReal} (b : ℕ → EReal) (h : EReal) (ha : ∀ n, Damp (a n)) (s n : ℕ) :
    run (fun k => a (64 * s + k)) (fun k => b (64 * s + k)) 0 n + fade (fun k => a (64 * s + k)) n * chain a b h s = run a b h (64 * s + n) := by
  rw [run_eq_fade _ _ fun k => ha _, chain_eq b h ha, run_add a b h (64 * s) n]

theorem run_congr {a a' b b' : ℕ → EReal} (h : EReal) {n : ℕ} (ha : ∀ k < n, a k = a' k) (hb : ∀ k < n, b k = b' k) : run a b h n = run a' b' h n := by
  induction n with
  | zero => rfl
  | succ n ih =>
    show a n * _ + b n = a' n * _ + b' n
    rw [ha n (Nat.lt_succ_self n), hb n (Nat.lt_succ_self n), ih (fun k hk => ha k (Nat.lt_succ_of_lt hk)) fun k hk => hb k (Nat.lt_succ_of_lt hk)]

theorem fade_congr {a a' : ℕ → EReal} {n : ℕ} (ha : ∀ k < n, a k = a' k) : fade a n = fade a' n := by
  induction n with
  | zero => rfl
  | succ n ih =>
    show a n * _ = a' n * _
    rw [ha n (Nat.lt_succ_self n), ih fun k hk => ha k (Nat.lt_succ_of_lt hk)]

/-- The softened rectifier of `y`. -/
def soft (y : EReal) : EReal := max y 0 + Ideal.log1p (Ideal.exp (-max y (-y)))

/-- Eight, with the sign the decay gives it. -/
def rate : EReal := Ideal.ofBits .f32 0xC1000000#32

theorem rate_eq : rate = ((-8 : ℝ) : EReal) := by
  unfold rate
  simp [Ideal.ofBits, Ideal.ieee, -EReal.coe_mul]; norm_num

/-- The decay's exponent. -/
def slope (r lam : EReal) : EReal := r * (rate * soft (-lam))

theorem exp_nonneg (x : EReal) : 0 ≤ Ideal.exp x := by
  induction x with
  | bot => exact le_refl _
  | top => exact le_top
  | coe r => rw [Ideal.exp_coe]; exact_mod_cast (Real.exp_pos r).le

theorem log1p_nonneg {x : EReal} (h : 0 ≤ x) : 0 ≤ Ideal.log1p x := by
  unfold Ideal.log1p
  induction x with
  | bot => exact absurd h (by decide)
  | top => rw [EReal.add_top_of_ne_bot (show (1 : EReal) ≠ ⊥ from EReal.coe_ne_bot 1)]; exact le_top
  | coe r =>
    have hr : (0 : ℝ) ≤ r := by exact_mod_cast h
    rw [← EReal.coe_one, ← EReal.coe_add]
    show (0 : EReal) ≤ if 1 + r ≤ 0 then ⊥ else ((Real.log (1 + r) : ℝ) : EReal)
    rw [if_neg (by linarith)]
    exact_mod_cast Real.log_nonneg (by linarith)

theorem soft_nonneg (y : EReal) : 0 ≤ soft y := add_nonneg (le_max_right _ _) (log1p_nonneg (exp_nonneg _))

theorem sigL_nonneg (g : EReal) : 0 ≤ sigL g := by
  unfold sigL
  rw [← Ideal.logistic]
  induction g with
  | bot => rw [Ideal.logistic_bot]
  | top => rw [Ideal.logistic_top]; exact zero_le_one
  | coe r => rw [Ideal.logistic_coe]; exact_mod_cast (inv_pos.mpr (by positivity)).le

theorem slope_nonpos {r : EReal} (hr : 0 ≤ r) (lam : EReal) : slope r lam ≤ 0 := by
  unfold slope
  have h8 : rate ≤ 0 := by rw [rate_eq]; exact_mod_cast (by norm_num : (-8 : ℝ) ≤ 0)
  have := EReal.mul_nonpos_iff (a := rate) (b := soft (-lam)) |>.mpr (.inr ⟨h8, soft_nonneg _⟩)
  exact EReal.mul_nonpos_iff.mpr (.inl ⟨hr, this⟩)

theorem damp_exp {x : EReal} (h : x ≤ 0) : Damp (Ideal.exp x) := by
  refine ⟨exp_nonneg x, ?_⟩
  induction x with
  | bot => exact EReal.zero_ne_top
  | top => exact absurd h (by decide)
  | coe r => exact EReal.coe_ne_top _

/-- The gain as the kernel takes it from the decay, and as the reference does from the exponent. -/
theorem gain_eq {x : EReal} (h : x ≤ 0) :
    1 - Ideal.exp x * Ideal.exp x = -(Ideal.exp (Ideal.ofBits .f32 0x40000000#32 * x) - 1) := by
  have h2 : Ideal.ofBits .f32 0x40000000#32 = ((2 : ℝ) : EReal) := by
    simp [Ideal.ofBits, Ideal.ieee, -EReal.coe_mul]; norm_num
  rw [h2]
  induction x with
  | bot =>
    rw [EReal.coe_mul_bot_of_pos (by norm_num)]
    show (1 : EReal) - 0 * 0 = -(0 - 1)
    simp
  | top => exact absurd h (by decide)
  | coe r =>
    rw [← EReal.coe_mul]
    show (1 : EReal) - ((Real.exp r : ℝ) : EReal) * ((Real.exp r : ℝ) : EReal) = -(((Real.exp (2 * r) : ℝ) : EReal) - 1)
    rw [← EReal.coe_mul, ← EReal.coe_one, ← EReal.coe_sub, ← EReal.coe_sub, ← EReal.coe_neg, ← Real.exp_add]
    congr 1
    ring_nf

end Rows

end
-- ==== Proof.LruTile.lean ====
/- One group of channels on one tile: the eight interleaved pieces of the recurrence, the passing on of their end
   states, and the states stored, as the plain recurrence in time order. -/
module

public import proofs.«01_k».proof.Proof.LruBlock
public import proofs.«01_k».proof.Proof.Decay
public import Idealize.ShloMosaic.Lib.Pointwise
public import Idealize.ShloMosaic.Lib.KernelVsHost
public import Idealize.ShloMosaic.Lib.IdealHost

@[expose] public section

set_option maxRecDepth 100000

noncomputable section

namespace LruBlock

open Cert.LruFwdIdeal Cert.LruFwdIdeal.Gen Idealize.ShloMosaic Idealize.ShloMosaic.TcCoe Idealize.ShloMosaic.Tactic
open Idealize.SL.Sem Rows

/-- Entry `n` of piece `s` of a tile's column. -/
def lane (v : Vec Ideal S512x128 .f32) (s : Fin 8) (l : Fin 128) (n : ℕ) : EReal :=
  v (ix2 ⟨8 * (n % 64) + s, by omega⟩ l)

/-- A tile's column in time order. -/
def time (v : Vec Ideal S512x128 .f32) (l : Fin 128) (t : ℕ) : EReal :=
  v (ix2 ⟨8 * (t % 64) + t / 64 % 8, by omega⟩ l)

variable (a b : Vec Ideal S512x128 .f32) (hc : Vec Ideal S8x128 .f32)

theorem cut_apply (v : Vec Ideal S512x128 .f32) (n : ℕ) (s : Fin 8) (l : Fin 128) : cut v n (ix2 s l) = lane v s l n := by
  unfold cut lane
  refine extractStridedSlice_apply _ _ _ _ _ fun a => ?_
  match a with
  | 0 => rfl
  | 1 => show (l : ℕ) = 0 + l; omega

theorem hs_apply (n : ℕ) (s : Fin 8) (l : Fin 128) : hs a b n (ix2 s l) = run (lane a s l) (lane b s l) 0 (n + 1) := by
  induction n with
  | zero =>
    show cut a 0 (ix2 s l) * Ideal.ofBits .f32 0x00000000#32 + cut b 0 (ix2 s l) = lane a s l 0 * 0 + lane b s l 0
    rw [cut_apply, cut_apply, Ideal.ofBits_zero]
  | succ n ih =>
    show cut a (n + 1) (ix2 s l) * hs a b n (ix2 s l) + cut b (n + 1) (ix2 s l) = lane a s l (n + 1) * run _ _ 0 (n + 1) + lane b s l (n + 1)
    rw [cut_apply, cut_apply, ih]

theorem ps_apply (n : ℕ) (s : Fin 8) (l : Fin 128) : ps a n (ix2 s l) = fade (lane a s l) (n + 1) := by
  induction n with
  | zero =>
    show cut a 0 (ix2 s l) * Ideal.ofBits .f32 0x3F800000#32 = lane a s l 0 * 1
    rw [cut_apply, Ideal.ofBits_one_f32]
  | succ n ih =>
    show cut a (n + 1) (ix2 s l) * ps a n (ix2 s l) = lane a s l (n + 1) * fade _ (n + 1)
    rw [cut_apply, ih]

theorem roll_apply (v : Vec Ideal S8x128 .f32) (s : Fin 8) (l : Fin 128) :
    dynamicRotate 0 1#32 none v rotates_S8x128_d0 (ix2 s l) = v (ix2 ⟨(s + 7) % 8, by omega⟩ l) := by
  refine dynamicRotate_apply _ _ _ _ _ _ fun b => ?_
  match b with
  | 0 => rfl
  | 1 => rfl

theorem lane_eq (v : Vec Ideal S512x128 .f32) (s : Fin 8) (l : Fin 128) (k : ℕ) (hk : k < 64) : lane v s l k = time v l (64 * s + k) := by
  unfold lane time
  refine congrArg v (congrArg (fun r => ix2 r l) (Fin.ext ?_))
  show 8 * (k % 64) + (s : ℕ) = 8 * ((64 * s + k) % 64) + (64 * s + k) / 64 % 8
  omega

theorem heads_apply (n : ℕ) (hn : n ≤ 7) (s : Fin 8) (hs' : s.val ≤ n) (l : Fin 128) :
    heads a b hc n (ix2 s l) = chain (time a l) (time b l) (hc (ix2 0 l)) s := by
  induction n generalizing s with
  | zero =>
    obtain rfl : s = 0 := Fin.ext (by simpa using hs')
    rfl
  | succ n ih =>
    have step : heads a b hc (n + 1) (ix2 s l) = Scalar.select (cmpi .eq (iota .tc S8x128 32 [0] iota_S8x128_d0_w32) (broadcast S8x128 (BitVec.ofNat 32 (n + 1))) (ix2 s l))
      (dynamicRotate 0 1#32 none (addf (mulf (ps a 63) (heads a b hc n)) (hs a b 63)) rotates_S8x128_d0 (ix2 s l)) (heads a b hc n (ix2 s l)) := rfl
    have word : iota .tc S8x128 32 [0] iota_S8x128_d0_w32 (ix2 s l) = BitVec.ofNat 32 s.val := by
      rw [iota_apply]; show BitVec.ofNat 32 (0 * 8 + s.val) = _; rw [Nat.zero_mul, Nat.zero_add]
    rw [step, cmpi_apply, word]
    show Scalar.select (Scalar.cmpi .eq (BitVec.ofNat 32 s.val) (BitVec.ofNat 32 (n + 1))) _ _ = _
    by_cases h : s.val = n + 1
    · have e : Scalar.cmpi .eq (BitVec.ofNat 32 s.val) (BitVec.ofNat 32 (n + 1)) = 1#1 := by rw [h]; simp [Scalar.cmpi, IntOp.cmpi]
      rw [e, roll_apply]
      obtain ⟨p, hp⟩ : ∃ p : Fin 8, p = ⟨((s : ℕ) + 7) % 8, by omega⟩ := ⟨_, rfl⟩
      have hpn : (p : ℕ) = n := by rw [hp]; show ((s : ℕ) + 7) % 8 = n; omega
      rw [← hp]
      show ps a 63 (ix2 p l) * heads a b hc n (ix2 p l) + hs a b 63 (ix2 p l) = _
      rw [ps_apply, hs_apply, ih (by omega) p (by omega), h, ← hpn]
      show _ = fade (fun k => time a l (64 * p + k)) 64 * chain _ _ _ p + run (fun k => time a l (64 * p + k)) (fun k => time b l (64 * p + k)) 0 64
      congr 1
      · congr 1
        exact fade_congr fun k hk => lane_eq _ _ _ _ hk
      · exact run_congr _ (fun k hk => lane_eq _ _ _ _ hk) fun k hk => lane_eq _ _ _ _ hk
    · have e : Scalar.cmpi .eq (BitVec.ofNat 32 s.val) (BitVec.ofNat 32 (n + 1)) = 0#1 := by
        have : ¬ BitVec.ofNat 32 s.val = BitVec.ofNat 32 (n + 1) := by
          intro h'; have := congrArg BitVec.toNat h'; simp at this; omega
        simp only [Scalar.cmpi, IntOp.cmpi]; rw [beq_false_of_ne this]; rfl
      rw [e]
      exact ih (by omega) s (by omega)

theorem lift (v : Vec Ideal S512x128 .f32) (r : Fin 512) (l : Fin 128) :
    shapeCast S1x512x128 v shapeCasts_S512x128_S1x512x128 (ix3 0 r l) = v (ix2 r l) := by
  pointwise

variable (ha : ∀ r l, Damp (a (ix2 r l)))
include ha

/-- Piece `s` after step `k` of its own, from the state it starts from. -/
theorem piece (s : Fin 8) (l : Fin 128) (k : Fin 64) :
    hs a b k (ix2 s l) + ps a k (ix2 s l) * heads a b hc 7 (ix2 s l) = run (time a l) (time b l) (hc (ix2 0 l)) (64 * s + (k + 1)) := by
  rw [hs_apply, ps_apply, heads_apply a b hc 7 (le_refl _) s (by omega), ← run_piece (a := time a l) _ _ (fun n => ha _ _)]
  congr 1
  · exact run_congr _ (fun j hj => lane_eq _ _ _ _ (by omega)) fun j hj => lane_eq _ _ _ _ (by omega)
  · congr 1
    exact fade_congr fun j hj => lane_eq _ _ _ _ (by omega)

theorem carried_apply (l : Fin 128) : carried a b hc (ix2 0 l) = run (time a l) (time b l) (hc (ix2 0 l)) 512 := by
  unfold carried
  rw [shapeCast_self, roll_apply]
  show ps a 63 (ix2 (7 : Fin 8) l) * heads a b hc 7 (ix2 (7 : Fin 8) l) + hs a b 63 (ix2 (7 : Fin 8) l) = _
  rw [add_comm]
  exact piece a b hc ha 7 l 63

theorem stored_apply (k : Fin 64) (s : Fin 8) (l : Fin 128) :
    stored a b hc (ix3 0 ⟨8 * k + s, by omega⟩ l) = run (time a l) (time b l) (hc (ix2 0 l)) (64 * s + (k + 1)) := by
  rw [← piece a b hc ha s l k]
  unfold stored
  rw [lift]
  exact concatenate_ofFn_apply (t := S512x128) (s₁ := S8x128) 0 (fun k : Fin 64 => addf (hs a b k) (mulf (ps a k) (heads a b hc 7))) _ rfl 8 rfl (ix2 (⟨8 * (k : ℕ) + s, by omega⟩ : Fin 512) l) k
    (by show (8 * (k : ℕ) + s) / 8 = k; omega) (ix2 s l) (by show (s : ℕ) = (8 * (k : ℕ) + s) % 8; omega)
    (fun b hb => by match b with | 0 => exact absurd rfl hb | 1 => rfl)

end LruBlock
-- ==== Proof.LruLoads.lean ====
/- What a grid point of the recurrence kernel loads: the rows with the two halos in time order, and the decay and the
   input of every step. -/
module

public import proofs.«01_k».proof.Proof.LruTile
public import Idealize.ShloMosaic.Lib.Pipeline.ValueKit.Geometry
public import Idealize.ShloMosaic.Lib.Pipeline.ValueKit.Acc
public import Idealize.ShloMosaic.Lib.WholeRead

@[expose] public section

set_option maxRecDepth 100000

noncomputable section

namespace LruBlock

open Cert.LruFwdIdeal Cert.LruFwdIdeal.Gen Idealize.ShloMosaic Idealize.ShloMosaic.TcCoe Idealize.ShloMosaic.Tactic
open Idealize.SL.Sem Rows

theorem pay5 (v : Vec Ideal S1x512x1280 .f32) (r : Fin 512) (q : Fin 1280) : k0_pay5 v (ix2 r q) = v (ix3 0 r q) := by
  pointwise [k0_pay5]

theorem pay3 (v : Vec Ideal S1x1x1280 .f32) (r : Fin 8) (q : Fin 1280) : k0_pay3 v (ix2 r q) = v (ix3 0 0 q) := by
  pointwise [k0_pay3]

theorem pick {α : Type} {c : BitVec 1} {p : Prop} [Decidable p] (h : c = if p then 1#1 else 0#1) (x y : α) :
    Scalar.select c x y = if p then x else y := by
  rw [h]
  split <;> rfl

theorem pay4 (i : grid0.Coords) (u v : Vec Ideal S1x16x1280 .f32) (r : Fin 16) (q : Fin 1280) : k0_pay4 i u v (ix2 r q) =
    if r.val % 8 = 0 then (if (i 1).val = 0 then 0 else u (ix3 0 ⟨(r + 7) % 16, by omega⟩ q)) else v (ix3 0 ⟨(r + 15) % 16, by omega⟩ q) := by
  unfold k0_pay4
  pointwise
  refine (pick (p := r.val % 8 = 0) ?_ _ _).trans ?_
  · clear u v i; revert r; decide
  · congr 1
    refine (pick (p := (i 1).val = 0) ?_ _ _).trans ?_
    · have h : (i 1).val < 16 := (i 1).isLt
      generalize (i 1).val = n at h
      clear u v
      exact (by decide : ∀ n : Fin 16, Scalar.cmpi .eq (BitVec.ofNat 32 n) 0#32 = if n.val = 0 then 1#1 else 0#1) ⟨n, h⟩
    · rfl

theorem pay6 (i : ℕ) (u v : Vec Ideal S1x8x1280 .f32) (r : Fin 8) (q : Fin 1280) (hi : i < 16) : k0_pay6 (BitVec.ofNat 32 i) u v (ix2 r q) =
    if r.val = 7 then (if i = 15 then 0 else u (ix3 0 0 q)) else v (ix3 0 ⟨(r + 1) % 8, by omega⟩ q) := by
  unfold k0_pay6
  pointwise
  refine (pick (p := r.val = 7) ?_ _ _).trans ?_
  · clear u v hi; revert r; decide
  · by_cases h7 : r.val = 7
    · rw [if_pos h7, if_pos h7]
      refine (pick (p := i = 15) ?_ _ _).trans ?_
      · exact (by decide : ∀ n : Fin 16, Scalar.cmpi .eq (BitVec.ofNat 32 n) 15#32 = if n.val = 15 then 1#1 else 0#1) ⟨i, hi⟩
      · congr 3; exact Fin.ext (by show ((r : ℕ) + 8 - 7) % 8 = 0; omega)
    · rw [if_neg h7, if_neg h7]
      congr 2

/-- The tile's column with the halos about it, in time order: two entries of the tile before, the 512 of its own, one
    of the tile after; zero beyond the sequence's ends. -/
def span (n : ℕ) (q : Fin 1280) (x0 : Vec Ideal S1x512x1280 .f32) (x1 : Vec Ideal S1x16x1280 .f32) (x2 : Vec Ideal S1x8x1280 .f32) (i : ℕ) : EReal :=
  if h : n < 2 then (if i = 0 then 0 else x1 (ix3 0 ⟨7 + 8 * n, by omega⟩ q))
  else if n < 514 then x0 (ix3 0 ⟨8 * ((n - 2) % 64) + (n - 2) / 64 % 8, by omega⟩ q)
  else (if i = 15 then 0 else x2 (ix3 0 0 q))

section
variable (i : grid0.Coords) (arg2 : Memref sig .tc .vmem S1x512x1280 .f32) (harg2 : arg2.IsWhole) (arg3 : Memref sig .tc .vmem S1x16x1280 .f32) (harg3 : arg3.IsWhole) (arg4 : Memref sig .tc .vmem S1x8x1280 .f32) (harg4 : arg4.IsWhole)
  (arg13 : Memref sig .tc .vmem S536x1280 .f32)
variable (x0 : Vec Ideal S1x512x1280 .f32) (x1 : Vec Ideal S1x16x1280 .f32) (x2 : Vec Ideal S1x8x1280 .f32)

theorem place (s t : ℕ) (hs : s < 8) (ht : t < 64) : 8 * ((64 * s + t) % 64) + (64 * s + t) / 64 % 8 = 8 * t + s := by
  have h1 : (64 * s + t) / 64 = s := by omega
  have h2 : (64 * s + t) % 64 = t := by omega
  rw [h1, h2, Nat.mod_eq_of_lt hs]

theorem entry {n₀ n₁ n₂ : ℕ} {y : (⟨3, ![n₀, n₁, n₂]⟩ : Shape).Idx} {a : Fin n₀} {b : Fin n₁} {d : Fin n₂} (h0 : (y 0 : ℕ) = a) (h1 : (y 1 : ℕ) = b)
    (h2 : (y 2 : ℕ) = d) : y = ix3 a b d :=
  funext fun t => Fin.ext (match t with | 0 => h0 | 1 => h1 | 2 => h2)

theorem entry2 {n₀ n₁ : ℕ} {y : (⟨2, ![n₀, n₁]⟩ : Shape).Idx} {a : Fin n₀} {b : Fin n₁} (h0 : (y 0 : ℕ) = a) (h1 : (y 1 : ℕ) = b) : y = ix2 a b :=
  funext fun t => Fin.ext (match t with | 0 => h0 | 1 => h1)

theorem rows_cover (r : Fin 536) (q : Fin 1280) :
    ∃ p ∈ rows i arg2 harg2 arg3 harg3 arg4 harg4 x0 x1 x2, (ix2 r q : S536x1280.Idx) ∈ p.1.set := by
  by_cases h1 : r.val < 16
  · refine ⟨_, .tail _ (.tail _ (.head _)), (Rect.mem_set_unit (inb := in_4)).mpr fun a => ?_⟩
    match a with
    | 0 => exact ⟨Nat.zero_le _, by show r.val < 0 + 16; omega⟩
    | 1 => exact ⟨Nat.zero_le _, by show q.val < 0 + 1280; omega⟩
  by_cases h2 : r.val < 528
  · refine ⟨_, .tail _ (.head _), (Rect.mem_set_unit (inb := in_5)).mpr fun a => ?_⟩
    match a with
    | 0 => exact ⟨by show 16 ≤ r.val; omega, by show r.val < 16 + 512; omega⟩
    | 1 => exact ⟨Nat.zero_le _, by show q.val < 0 + 1280; omega⟩
  · refine ⟨_, .head _, (Rect.mem_set_unit (inb := in_6)).mpr fun a => ?_⟩
    match a with
    | 0 => exact ⟨by show 528 ≤ r.val; omega, by show r.val < 528 + 8; omega⟩
    | 1 => exact ⟨Nat.zero_le _, by show q.val < 0 + 1280; omega⟩

theorem rows_canon (m : Fin 67) (s : Fin 8) (q : Fin 1280) :
    View.canon (rows i arg2 harg2 arg3 harg3 arg4 harg4 x0 x1 x2) (ix2 ⟨8 * m + s, by omega⟩ q) = span (64 * s + m) q x0 x1 x2 (i 1).val := by
  have cover := rows_cover i arg2 harg2 arg3 harg3 arg4 harg4 x0 x1 x2 ⟨8 * m + s, by omega⟩ q
  unfold rows at cover ⊢
  canon_tiles z e using cover
  · obtain ⟨r, q', rfl⟩ : ∃ (r : Fin 8) (q' : Fin 1280), z = (ix2 r q' : S8x1280.Idx) := ⟨z 0, z 1, by idx_ext⟩
    have f0 : 8 * (m : ℕ) + s = 528 + (r : ℕ) := e0
    have f1 : (q : ℕ) = q' := e1
    obtain rfl := Fin.ext f1
    rw [pay6 _ _ _ _ _ (i 1).isLt, Memref.IsWhole.readAt_unread, Memref.IsWhole.readAt_unread]
    have hm : (m : ℕ) = 66 := by omega
    have hr : (r : ℕ) = s := by omega
    unfold span
    rw [dif_neg (by omega)]
    by_cases h7 : (r : ℕ) = 7
    · rw [if_pos h7, if_neg (show ¬64 * (s : ℕ) + m < 514 by omega)]
      congr 1
      exact congrArg x2 (entry (by rfl) (by rfl) (by show 0 + 1 * (q : ℕ) = q; omega))
    · rw [if_neg h7, if_pos (by omega)]
      exact congrArg x0 (entry (by rfl) (by show 0 + 1 * (((r : ℕ) + 1) % 8) = 8 * ((64 * s + m - 2) % 64) + (64 * s + m - 2) / 64 % 8; rw [show 64 * (s : ℕ) + m - 2 = 64 * (s + 1) + 0 by omega, place _ _ (by omega) (by omega)]; omega)
        (by show 0 + 1 * (q : ℕ) = q; omega))
  · obtain ⟨r, q', rfl⟩ : ∃ (r : Fin 512) (q' : Fin 1280), z = (ix2 r q' : S512x1280.Idx) := ⟨z 0, z 1, by idx_ext⟩
    have f0 : 8 * (m : ℕ) + s = 16 + (r : ℕ) := e0
    have f1 : (q : ℕ) = q' := e1
    obtain rfl := Fin.ext f1
    rw [pay5, Memref.IsWhole.readAt_unread]
    unfold span
    rw [dif_neg (by omega), if_pos (by omega)]
    exact congrArg x0 (entry (by rfl) (by show 0 + 1 * (r : ℕ) = 8 * ((64 * s + m - 2) % 64) + (64 * s + m - 2) / 64 % 8; rw [show 64 * (s : ℕ) + m - 2 = 64 * s + (m - 2) by omega, place _ _ (by omega) (by omega)]; omega)
      (by show 0 + 1 * (q : ℕ) = q; omega))
  · obtain ⟨r, q', rfl⟩ : ∃ (r : Fin 16) (q' : Fin 1280), z = (ix2 r q' : S16x1280.Idx) := ⟨z 0, z 1, by idx_ext⟩
    have f0 : 8 * (m : ℕ) + s = (r : ℕ) := e0
    have f1 : (q : ℕ) = q' := e1
    obtain rfl := Fin.ext f1
    rw [pay4, Memref.IsWhole.readAt_unread, Memref.IsWhole.readAt_unread]
    unfold span
    by_cases h8 : (r : ℕ) % 8 = 0
    · rw [if_pos h8, dif_pos (by omega)]
      congr 1
      exact congrArg x1 (entry (by rfl) (by show 0 + 1 * (((r : ℕ) + 7) % 16) = 7 + 8 * (64 * s + m); omega)
        (by show 0 + 1 * (q : ℕ) = q; omega))
    · rw [if_neg h8, dif_neg (by omega), if_pos (by omega)]
      exact congrArg x0 (entry (by rfl) (by show 496 + 1 * (((r : ℕ) + 15) % 16) = 8 * ((64 * s + m - 2) % 64) + (64 * s + m - 2) / 64 % 8; rw [show 64 * (s : ℕ) + m - 2 = 64 * (s - 1) + (62 + m) by omega, place _ _ (by omega) (by omega)]; omega)
        (by show 0 + 1 * (q : ℕ) = q; omega))

theorem eLd_apply (j : Fin 4) (k : Fin 10) (m : Fin 64) (s : Fin 8) (l : Fin 128) :
    eLd i arg2 harg2 arg3 harg3 arg4 harg4 arg13 x0 x1 x2 j k (ix2 ⟨8 * m + s, by omega⟩ l) =
      span (64 * s + m + j) ⟨128 * k + l, by omega⟩ x0 x1 x2 (i 1).val := by
  unfold eLd
  rw [View.readCov_eq_canon']
  rw [show 64 * (s : ℕ) + m + j = 64 * s + (⟨m + j, by omega⟩ : Fin 67).val from by show _ = 64 * (s : ℕ) + (m + j); omega,
    ← rows_canon i arg2 harg2 arg3 harg3 arg4 harg4 x0 x1 x2 ⟨m + j, by omega⟩ s]
  refine congrArg _ (funext fun a => Fin.ext ?_)
  match a with
  | 0 => show 8 * (j : ℕ) + 1 * (8 * m + s) = 8 * (m + j) + s; omega
  | 1 => show 128 * (k : ℕ) + 1 * l = 128 * k + l; omega

end

end LruBlock
-- ==== Proof.LruCells.lean ====
/- One step of the recurrence at a channel: the convolution of four neighbours, the two gates, the decay and the input. -/
module

public import proofs.«01_k».proof.Proof.LruLoads

@[expose] public section

set_option maxRecDepth 100000

noncomputable section

namespace LruBlock

open Cert.LruFwdIdeal Cert.LruFwdIdeal.Gen Idealize.ShloMosaic Idealize.ShloMosaic.TcCoe Idealize.ShloMosaic.Tactic
open Idealize.SL.Sem Rows

section
variable (e0 e1 e2 e3 : Vec Ideal S512x128 .f32) (c0 c1 c2 c3 cb lam : Vec Ideal S1x128 .f32) (wg : Vec Ideal S1x128x256 .bf16) (bg : Vec Ideal S1x1x256 .f32)
variable (r : Fin 512) (l : Fin 128)

theorem pay8 : k0_pay8 (k0_pay7 cb c0 e0) c1 e1 c2 e2 c3 e3 (ix2 r l) =
    cb (ix2 0 l) + c0 (ix2 0 l) * e0 (ix2 r l) + c1 (ix2 0 l) * e1 (ix2 r l) + c2 (ix2 0 l) * e2 (ix2 r l) + c3 (ix2 0 l) * e3 (ix2 r l) := by
  pointwise [k0_pay8, k0_pay7]

variable (v : Vec Ideal S512x128 .f32)

theorem pay9 (p : Fin 256) : k0_pay9 v c1 e1 c2 e2 c3 e3 wg bg (ix2 r p) =
    (∑ d : Fin 128, k0_pay8 v c1 e1 c2 e2 c3 e3 (ix2 r d) * wg (ix3 0 d p)) + bg (ix3 0 0 p) := by
  unfold k0_pay9
  generalize k0_pay8 v c1 e1 c2 e2 c3 e3 = x
  pointwise

theorem pay10 : k0_pay10 v c1 e1 c2 e2 c3 e3 wg bg (ix2 r l) = sigT (k0_pay9 v c1 e1 c2 e2 c3 e3 wg bg (ix2 r ⟨l, by omega⟩)) := by
  unfold k0_pay10
  generalize k0_pay9 v c1 e1 c2 e2 c3 e3 wg bg = x
  pointwise [sigT, half]

theorem pay11 : k0_pay11 v c1 e1 c2 e2 c3 e3 wg bg (ix2 r l) = sigT (k0_pay9 v c1 e1 c2 e2 c3 e3 wg bg (ix2 r ⟨128 + l, by omega⟩)) := by
  unfold k0_pay11
  generalize k0_pay9 v c1 e1 c2 e2 c3 e3 wg bg = x
  pointwise [sigT, half]

theorem pay12 : k0_pay12 v lam (ix2 r l) = Ideal.exp (Rows.slope (v (ix2 r l)) (lam (ix2 0 l))) := by
  have e : k0_pay12 v lam (ix2 r l) = Ideal.exp (v (ix2 r l) * (rate * (max (0 - lam (ix2 0 l)) 0 + Ideal.log1p (Ideal.exp (0 - max (0 - lam (ix2 0 l)) (-(0 - lam (ix2 0 l)))))))) := by
    pointwise [k0_pay12, rate]
    rfl
  rw [e, zero_sub, zero_sub]
  rfl

theorem pay13 (u w : Vec Ideal S512x128 .f32) : k0_pay13 u v w lam (ix2 r l) =
    Ideal.sqrt (1 - k0_pay12 v lam (ix2 r l) * k0_pay12 v lam (ix2 r l)) * (w (ix2 r l) * u (ix2 r l)) := by
  unfold k0_pay13
  generalize k0_pay12 v lam = x
  pointwise

end

/-! ## A step at a channel -/

section
variable (E : ℕ → Fin 1280 → EReal) (x3 : Vec Ideal S4x1280 .f32) (x4 x7 : Vec Ideal S1x1280 .f32) (x5 : Vec Ideal S10x128x256 .bf16)
  (x6 : Vec Ideal S10x1x256 .f32)

/-- Four neighbours of the entry, weighted, and the bias. -/
def conv (n : ℕ) (q : Fin 1280) : EReal :=
  x4 (ix2 0 q) + x3 (ix2 0 q) * E n q + x3 (ix2 1 q) * E (n + 1) q + x3 (ix2 2 q) * E (n + 2) q + x3 (ix2 3 q) * E (n + 3) q

/-- Column `p` of group `k`'s gates, before the logistic function. -/
def gate (n : ℕ) (k : Fin 10) (p : Fin 256) : EReal :=
  (∑ d : Fin 128, conv E x3 x4 n ⟨128 * k + d, by omega⟩ * x5 (ix3 k d p)) + x6 (ix3 k 0 p)

def dec (k : Fin 10) (l : Fin 128) (n : ℕ) : EReal :=
  Ideal.exp (Rows.slope (sigT (gate E x3 x4 x5 x6 n k ⟨l, by omega⟩)) (x7 (ix2 0 ⟨128 * k + l, by omega⟩)))

def inp (k : Fin 10) (l : Fin 128) (n : ℕ) : EReal :=
  Ideal.sqrt (1 - dec E x3 x4 x7 x5 x6 k l n * dec E x3 x4 x7 x5 x6 k l n) *
    (sigT (gate E x3 x4 x5 x6 n k ⟨128 + l, by omega⟩) * conv E x3 x4 n ⟨128 * k + l, by omega⟩)

theorem damp_dec (k : Fin 10) (l : Fin 128) (n : ℕ) : Damp (dec E x3 x4 x7 x5 x6 k l n) :=
  damp_exp (slope_nonpos (by rw [sigT_eq]; exact sigL_nonneg _) _)

/-- A group's decay and input, by its loads. -/
theorem cell (e0 e1 e2 e3 : Vec Ideal S512x128 .f32) (c0 c1 c2 c3 cb lam : Vec Ideal S1x128 .f32) (wg : Vec Ideal S1x128x256 .bf16) (bg : Vec Ideal S1x1x256 .f32)
    (r : Fin 512) (n : ℕ) (k : Fin 10) (l : Fin 128)
    (h0 : ∀ d : Fin 128, e0 (ix2 r d) = E n ⟨128 * k + d, by omega⟩) (h1 : ∀ d : Fin 128, e1 (ix2 r d) = E (n + 1) ⟨128 * k + d, by omega⟩)
    (h2 : ∀ d : Fin 128, e2 (ix2 r d) = E (n + 2) ⟨128 * k + d, by omega⟩) (h3 : ∀ d : Fin 128, e3 (ix2 r d) = E (n + 3) ⟨128 * k + d, by omega⟩)
    (g0 : ∀ d : Fin 128, c0 (ix2 0 d) = x3 (ix2 0 ⟨128 * k + d, by omega⟩)) (g1 : ∀ d : Fin 128, c1 (ix2 0 d) = x3 (ix2 1 ⟨128 * k + d, by omega⟩))
    (g2 : ∀ d : Fin 128, c2 (ix2 0 d) = x3 (ix2 2 ⟨128 * k + d, by omega⟩)) (g3 : ∀ d : Fin 128, c3 (ix2 0 d) = x3 (ix2 3 ⟨128 * k + d, by omega⟩))
    (gb : ∀ d : Fin 128, cb (ix2 0 d) = x4 (ix2 0 ⟨128 * k + d, by omega⟩)) (gl : lam (ix2 0 l) = x7 (ix2 0 ⟨128 * k + l, by omega⟩))
    (gw : ∀ d p, wg (ix3 0 d p) = x5 (ix3 k d p)) (gg : ∀ p, bg (ix3 0 0 p) = x6 (ix3 k 0 p)) :
    decay e0 e1 e2 e3 c0 c1 c2 c3 cb lam wg bg (ix2 r l) = dec E x3 x4 x7 x5 x6 k l n ∧
    input e0 e1 e2 e3 c0 c1 c2 c3 cb lam wg bg (ix2 r l) = inp E x3 x4 x7 x5 x6 k l n := by
  have hx : ∀ d : Fin 128, k0_pay8 (k0_pay7 cb c0 e0) c1 e1 c2 e2 c3 e3 (ix2 r d) = conv E x3 x4 n ⟨128 * k + d, by omega⟩ := fun d => by
    rw [pay8, h0, h1, h2, h3, g0, g1, g2, g3, gb]; rfl
  have hz : ∀ p, k0_pay9 (k0_pay7 cb c0 e0) c1 e1 c2 e2 c3 e3 wg bg (ix2 r p) = gate E x3 x4 x5 x6 n k p := fun p => by
    rw [pay9, gg]
    unfold gate
    congr 1
    exact Finset.sum_congr rfl fun d _ => by rw [hx, gw]
  have hd : decay e0 e1 e2 e3 c0 c1 c2 c3 cb lam wg bg (ix2 r l) = dec E x3 x4 x7 x5 x6 k l n := by
    unfold decay
    rw [pay12, pay10, hz, gl]; rfl
  refine ⟨hd, ?_⟩
  unfold input
  unfold decay at hd
  rw [pay13, pay11, hz, hx, hd]; rfl

end

/-! ## A grid point -/

section
variable (c : Dev nD) (i : grid0.Coords) (arg2 : Memref sig .tc .vmem S1x512x1280 .f32) (harg2 : arg2.IsWhole) (arg3 : Memref sig .tc .vmem S1x16x1280 .f32) (harg3 : arg3.IsWhole) (arg4 : Memref sig .tc .vmem S1x8x1280 .f32) (harg4 : arg4.IsWhole) (arg5 : Memref sig .tc .vmem S4x1280 .f32) (harg5 : arg5.IsWhole) (arg6 : Memref sig .tc .vmem S1x1280 .f32) (harg6 : arg6.IsWhole) (arg7 : Memref sig .tc .vmem S10x128x256 .bf16) (harg7 : arg7.IsWhole) (arg8 : Memref sig .tc .vmem S10x1x256 .f32) (harg8 : arg8.IsWhole) (arg9 : Memref sig .tc .vmem S1x1280 .f32) (harg9 : arg9.IsWhole) (arg10 : Memref sig .tc .vmem S1x1x1280 .f32) (harg10 : arg10.IsWhole) (arg11 : Memref sig .tc .vmem S1x512x1280 .f32) (harg11 : arg11.IsWhole) (arg12 : Memref sig .tc .vmem S1x8x1280 .f32) (harg12 : arg12.IsWhole) (arg13 : Memref sig .tc .vmem S536x1280 .f32) (harg13 : arg13.IsWhole) (arg14 : Memref sig .tc .vmem S8x1280 .f32) (harg14 : arg14.IsWhole)
variable (x0 : Vec Ideal S1x512x1280 .f32) (x1 : Vec Ideal S1x16x1280 .f32) (x2 : Vec Ideal S1x8x1280 .f32) (x3 : Vec Ideal S4x1280 .f32) (x4 : Vec Ideal S1x1280 .f32) (x5 : Vec Ideal S10x128x256 .bf16) (x6 : Vec Ideal S10x1x256 .f32) (x7 : Vec Ideal S1x1280 .f32) (x8 : Vec Ideal S1x1x1280 .f32) (xs1 : Vec Ideal S8x1280 .f32)

/-- The rows about a grid point's tile. -/
def near (n : ℕ) (q : Fin 1280) : EReal := span n q x0 x1 x2 (i 1).val

theorem AB (k : Fin 10) (m : Fin 64) (s : Fin 8) (l : Fin 128) :
    A i arg2 harg2 arg3 harg3 arg4 harg4 arg5 harg5 arg6 harg6 arg7 harg7 arg8 harg8 arg9 harg9 arg13 x0 x1 x2 x3 x4 x5 x6 x7 k (ix2 ⟨8 * m + s, by omega⟩ l) = dec (near i x0 x1 x2) x3 x4 x7 x5 x6 k l (64 * s + m) ∧
    B i arg2 harg2 arg3 harg3 arg4 harg4 arg5 harg5 arg6 harg6 arg7 harg7 arg8 harg8 arg9 harg9 arg13 x0 x1 x2 x3 x4 x5 x6 x7 k (ix2 ⟨8 * m + s, by omega⟩ l) = inp (near i x0 x1 x2) x3 x4 x7 x5 x6 k l (64 * s + m) := by
  unfold A B
  refine cell (near i x0 x1 x2) x3 x4 x7 x5 x6 _ _ _ _ _ _ _ _ _ _ _ _ _ (64 * s + m) k l
    (fun d => eLd_apply i arg2 harg2 arg3 harg3 arg4 harg4 arg13 x0 x1 x2 0 k m s d) (fun d => eLd_apply i arg2 harg2 arg3 harg3 arg4 harg4 arg13 x0 x1 x2 1 k m s d)
    (fun d => eLd_apply i arg2 harg2 arg3 harg3 arg4 harg4 arg13 x0 x1 x2 2 k m s d) (fun d => eLd_apply i arg2 harg2 arg3 harg3 arg4 harg4 arg13 x0 x1 x2 3 k m s d)
    (fun d => ?_) (fun d => ?_) (fun d => ?_) (fun d => ?_) (fun d => ?_) ?_ (fun d p => ?_) (fun p => ?_)
  · exact (harg5.readAt_unread x3 _ _).trans (congrArg x3 (entry2 rfl (by show 128 * (k : ℕ) + 1 * d = 128 * k + d; omega)))
  · exact (harg5.readAt_unread x3 _ _).trans (congrArg x3 (entry2 rfl (by show 128 * (k : ℕ) + 1 * d = 128 * k + d; omega)))
  · exact (harg5.readAt_unread x3 _ _).trans (congrArg x3 (entry2 rfl (by show 128 * (k : ℕ) + 1 * d = 128 * k + d; omega)))
  · exact (harg5.readAt_unread x3 _ _).trans (congrArg x3 (entry2 rfl (by show 128 * (k : ℕ) + 1 * d = 128 * k + d; omega)))
  · exact (harg6.readAt_unread x4 _ _).trans (congrArg x4 (entry2 rfl (by show 128 * (k : ℕ) + 1 * d = 128 * k + d; omega)))
  · exact (harg9.readAt_unread x7 _ _).trans (congrArg x7 (entry2 rfl (by show 128 * (k : ℕ) + 1 * l = 128 * k + l; omega)))
  · exact (harg7.readAt_unread x5 _ _).trans (congrArg x5 (entry (by show (k : ℕ) + 1 * 0 = k; omega) (by show 0 + 1 * (d : ℕ) = d; omega) (by show 0 + 1 * (p : ℕ) = p; omega)))
  · exact (harg8.readAt_unread x6 _ _).trans (congrArg x6 (entry (by show (k : ℕ) + 1 * 0 = k; omega) rfl (by show 0 + 1 * (p : ℕ) = p; omega)))

theorem damp_A (k : Fin 10) (r : Fin 512) (l : Fin 128) : Damp (A i arg2 harg2 arg3 harg3 arg4 harg4 arg5 harg5 arg6 harg6 arg7 harg7 arg8 harg8 arg9 harg9 arg13 x0 x1 x2 x3 x4 x5 x6 x7 k (ix2 r l)) := by
  have := (AB i arg2 harg2 arg3 harg3 arg4 harg4 arg5 harg5 arg6 harg6 arg7 harg7 arg8 harg8 arg9 harg9 arg13 x0 x1 x2 x3 x4 x5 x6 x7 k ⟨r / 8, by omega⟩ ⟨r % 8, by omega⟩ l).1
  rw [show (⟨8 * (r / 8) + r % 8, by omega⟩ : Fin 512) = r from Fin.ext (by show 8 * ((r : ℕ) / 8) + r % 8 = r; omega)] at this
  rw [this]
  exact damp_dec _ _ _ _ _ _ _ _ _

theorem runs (k : Fin 10) (l : Fin 128) (h : EReal) (n : ℕ) (hn : n ≤ 512) :
    run (time (A i arg2 harg2 arg3 harg3 arg4 harg4 arg5 harg5 arg6 harg6 arg7 harg7 arg8 harg8 arg9 harg9 arg13 x0 x1 x2 x3 x4 x5 x6 x7 k) l) (time (B i arg2 harg2 arg3 harg3 arg4 harg4 arg5 harg5 arg6 harg6 arg7 harg7 arg8 harg8 arg9 harg9 arg13 x0 x1 x2 x3 x4 x5 x6 x7 k) l) h n =
      run (dec (near i x0 x1 x2) x3 x4 x7 x5 x6 k l) (inp (near i x0 x1 x2) x3 x4 x7 x5 x6 k l) h n := by
  have hp : ∀ t < 512, 64 * (t / 64 % 8) + t % 64 = t := fun t ht => by omega
  refine run_congr _ (fun t ht => ?_) fun t ht => ?_
  · refine ((AB i arg2 harg2 arg3 harg3 arg4 harg4 arg5 harg5 arg6 harg6 arg7 harg7 arg8 harg8 arg9 harg9 arg13 x0 x1 x2 x3 x4 x5 x6 x7 k ⟨t % 64, by omega⟩ ⟨t / 64 % 8, by omega⟩ l).1).trans ?_
    show dec _ _ _ _ _ _ k l (64 * (t / 64 % 8) + t % 64) = _
    rw [hp t (by omega)]
  · refine ((AB i arg2 harg2 arg3 harg3 arg4 harg4 arg5 harg5 arg6 harg6 arg7 harg7 arg8 harg8 arg9 harg9 arg13 x0 x1 x2 x3 x4 x5 x6 x7 k ⟨t % 64, by omega⟩ ⟨t / 64 % 8, by omega⟩ l).2).trans ?_
    show inp _ _ _ _ _ _ k l (64 * (t / 64 % 8) + t % 64) = _
    rw [hp t (by omega)]

/-- A group's stored states, and the state it carries on. -/
theorem group_out (k : Fin 10) (hc : Vec Ideal S8x128 .f32) (m : Fin 64) (s : Fin 8) (l : Fin 128) :
    stored (A i arg2 harg2 arg3 harg3 arg4 harg4 arg5 harg5 arg6 harg6 arg7 harg7 arg8 harg8 arg9 harg9 arg13 x0 x1 x2 x3 x4 x5 x6 x7 k) (B i arg2 harg2 arg3 harg3 arg4 harg4 arg5 harg5 arg6 harg6 arg7 harg7 arg8 harg8 arg9 harg9 arg13 x0 x1 x2 x3 x4 x5 x6 x7 k) hc (ix3 0 ⟨8 * m + s, by omega⟩ l) =
      run (dec (near i x0 x1 x2) x3 x4 x7 x5 x6 k l) (inp (near i x0 x1 x2) x3 x4 x7 x5 x6 k l) (hc (ix2 0 l)) (64 * s + (m + 1)) := by
  rw [stored_apply _ _ _ (damp_A i arg2 harg2 arg3 harg3 arg4 harg4 arg5 harg5 arg6 harg6 arg7 harg7 arg8 harg8 arg9 harg9 arg13 x0 x1 x2 x3 x4 x5 x6 x7 k), runs i arg2 harg2 arg3 harg3 arg4 harg4 arg5 harg5 arg6 harg6 arg7 harg7 arg8 harg8 arg9 harg9 arg13 x0 x1 x2 x3 x4 x5 x6 x7 k l _ _ (by omega)]

theorem group_car (k : Fin 10) (hc : Vec Ideal S8x128 .f32) (l : Fin 128) :
    carried (A i arg2 harg2 arg3 harg3 arg4 harg4 arg5 harg5 arg6 harg6 arg7 harg7 arg8 harg8 arg9 harg9 arg13 x0 x1 x2 x3 x4 x5 x6 x7 k) (B i arg2 harg2 arg3 harg3 arg4 harg4 arg5 harg5 arg6 harg6 arg7 harg7 arg8 harg8 arg9 harg9 arg13 x0 x1 x2 x3 x4 x5 x6 x7 k) hc (ix2 0 l) =
      run (dec (near i x0 x1 x2) x3 x4 x7 x5 x6 k l) (inp (near i x0 x1 x2) x3 x4 x7 x5 x6 k l) (hc (ix2 0 l)) 512 := by
  rw [carried_apply _ _ _ (damp_A i arg2 harg2 arg3 harg3 arg4 harg4 arg5 harg5 arg6 harg6 arg7 harg7 arg8 harg8 arg9 harg9 arg13 x0 x1 x2 x3 x4 x5 x6 x7 k), runs i arg2 harg2 arg3 harg3 arg4 harg4 arg5 harg5 arg6 harg6 arg7 harg7 arg8 harg8 arg9 harg9 arg13 x0 x1 x2 x3 x4 x5 x6 x7 k l _ _ (le_refl _)]

end

end LruBlock
-- ==== Proof.LruOut.lean ====
/- What the recurrence kernel leaves after a grid point: the states of the tile, and the state carried on. -/
module

public import proofs.«01_k».proof.Proof.LruCells

@[expose] public section

set_option maxRecDepth 100000

noncomputable section

namespace LruBlock

open Cert.LruFwdIdeal Cert.LruFwdIdeal.Gen Idealize.ShloMosaic Idealize.ShloMosaic.TcCoe Idealize.ShloMosaic.Tactic
open Idealize.SL.Sem Rows

variable (c : Dev nD) (i : grid0.Coords) (arg2 : Memref sig .tc .vmem S1x512x1280 .f32) (harg2 : arg2.IsWhole) (arg3 : Memref sig .tc .vmem S1x16x1280 .f32) (harg3 : arg3.IsWhole) (arg4 : Memref sig .tc .vmem S1x8x1280 .f32) (harg4 : arg4.IsWhole) (arg5 : Memref sig .tc .vmem S4x1280 .f32) (harg5 : arg5.IsWhole) (arg6 : Memref sig .tc .vmem S1x1280 .f32) (harg6 : arg6.IsWhole) (arg7 : Memref sig .tc .vmem S10x128x256 .bf16) (harg7 : arg7.IsWhole) (arg8 : Memref sig .tc .vmem S10x1x256 .f32) (harg8 : arg8.IsWhole) (arg9 : Memref sig .tc .vmem S1x1280 .f32) (harg9 : arg9.IsWhole) (arg10 : Memref sig .tc .vmem S1x1x1280 .f32) (harg10 : arg10.IsWhole) (arg11 : Memref sig .tc .vmem S1x512x1280 .f32) (harg11 : arg11.IsWhole) (arg12 : Memref sig .tc .vmem S1x8x1280 .f32) (harg12 : arg12.IsWhole) (arg13 : Memref sig .tc .vmem S536x1280 .f32) (harg13 : arg13.IsWhole) (arg14 : Memref sig .tc .vmem S8x1280 .f32) (harg14 : arg14.IsWhole)
variable (x0 : Vec Ideal S1x512x1280 .f32) (x1 : Vec Ideal S1x16x1280 .f32) (x2 : Vec Ideal S1x8x1280 .f32) (x3 : Vec Ideal S4x1280 .f32) (x4 : Vec Ideal S1x1280 .f32) (x5 : Vec Ideal S10x128x256 .bf16) (x6 : Vec Ideal S10x1x256 .f32) (x7 : Vec Ideal S1x1280 .f32) (x8 : Vec Ideal S1x1x1280 .f32) (xs1 : Vec Ideal S8x1280 .f32)

/-- Ten groups' stores, read at a row and a channel. -/
theorem tenth (P : Fin 10 → Vec Ideal S1x512x128 .f32) (k : Fin 10) (r : Fin 512) (l : Fin 128) :
    View.canon (List.ofFn fun k : Fin 10 => (⟨Rect.unit (s := S1x512x1280) ![0, 0, 128 * (9 - k.val)] S1x512x128.size (in_o k), P ⟨9 - k.val, by omega⟩⟩ :
      View.Piece (Elt Ideal) S1x512x1280 .f32)) (ix3 0 r ⟨128 * k + l, by omega⟩) = P k (ix3 0 r l) := by
  refine View.canon_ofFn_unit_eq_of_forall (S := S1x512x1280) (fun k : Fin 10 => ![0, 0, 128 * (9 - k.val)]) S1x512x128.size (fun k => in_o k)
    (fun k => P ⟨9 - k.val, by omega⟩) _ _ ⟨⟨9 - k, by omega⟩, fun a => ?_⟩ fun j x hx => ?_
  · match a with
    | 0 => exact ⟨Nat.zero_le _, by show 0 < 0 + 1; omega⟩
    | 1 => exact ⟨Nat.zero_le _, by show r.val < 0 + 512; omega⟩
    | 2 => exact ⟨by show 128 * (9 - (9 - k.val)) ≤ 128 * k.val + l.val; omega, by show 128 * k.val + l.val < 128 * (9 - (9 - k.val)) + 128; omega⟩
  · have h1 : (r : ℕ) = 0 + (x 1 : ℕ) := hx 1
    have h2 : 128 * (k : ℕ) + l = 128 * (9 - j.val) + (x 2 : ℕ) := hx 2
    have hx2 : (x 2 : ℕ) < 128 := (x 2).isLt
    have hk : (⟨9 - j.val, by omega⟩ : Fin 10) = k := Fin.ext (by show 9 - j.val = k.val; omega)
    show P ⟨9 - j.val, by omega⟩ x = _
    rw [hk]
    exact congrArg (P k) (entry (by have : (x 0 : ℕ) < 1 := (x 0).isLt; show (x 0 : ℕ) = 0; omega) (by omega) (by have := congrArg Fin.val hk; simp only [] at this; omega))

theorem tenth' (P : Fin 10 → Vec Ideal S8x128 .f32) (k : Fin 10) (r : Fin 8) (l : Fin 128) :
    View.canon (List.ofFn fun k : Fin 10 => (⟨Rect.unit (s := S8x1280) ![0, 128 * (9 - k.val)] S8x128.size (in_s k), P ⟨9 - k.val, by omega⟩⟩ :
      View.Piece (Elt Ideal) S8x1280 .f32)) (ix2 r ⟨128 * k + l, by omega⟩) = P k (ix2 r l) := by
  refine View.canon_ofFn_unit_eq_of_forall (S := S8x1280) (fun k : Fin 10 => ![0, 128 * (9 - k.val)]) S8x128.size (fun k => in_s k)
    (fun k => P ⟨9 - k.val, by omega⟩) _ _ ⟨⟨9 - k, by omega⟩, fun a => ?_⟩ fun j x hx => ?_
  · match a with
    | 0 => exact ⟨Nat.zero_le _, by show r.val < 0 + 8; omega⟩
    | 1 => exact ⟨by show 128 * (9 - (9 - k.val)) ≤ 128 * k.val + l.val; omega, by show 128 * k.val + l.val < 128 * (9 - (9 - k.val)) + 128; omega⟩
  · have h1 : (r : ℕ) = 0 + (x 0 : ℕ) := hx 0
    have h2 : 128 * (k : ℕ) + l = 128 * (9 - j.val) + (x 1 : ℕ) := hx 1
    have hx2 : (x 1 : ℕ) < 128 := (x 1).isLt
    have hk : (⟨9 - j.val, by omega⟩ : Fin 10) = k := Fin.ext (by show 9 - j.val = k.val; omega)
    show P ⟨9 - j.val, by omega⟩ x = _
    rw [hk]
    exact congrArg (P k) (entry2 (by omega) (by have := congrArg Fin.val hk; simp only [] at this; omega))

theorem hLd_apply (k : Fin 10) (l : Fin 128) : hLd arg14 harg14 xs1 k (ix2 0 l) = xs1 (ix2 0 ⟨128 * k + l, by omega⟩) :=
  (harg14.readAt_unread xs1 _ _).trans (congrArg xs1 (entry2 rfl (by show 128 * (k : ℕ) + 1 * l = 128 * k + l; omega)))

theorem point_B (hc0 : ¬cond0_0 i) (k : Fin 10) (m : Fin 64) (s : Fin 8) (l : Fin 128) :
    out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs1 (ix3 0 ⟨8 * m + s, by omega⟩ ⟨128 * k + l, by omega⟩) =
      run (dec (near i x0 x1 x2) x3 x4 x7 x5 x6 k l) (inp (near i x0 x1 x2) x3 x4 x7 x5 x6 k l) (xs1 (ix2 0 ⟨128 * k + l, by omega⟩)) (64 * s + (m + 1)) := by
  unfold out0_B_9
  rw [View.read_writes_junk_apply_eq_canon, out_B,
    tenth (fun k => stored (A i arg2 harg2 arg3 harg3 arg4 harg4 arg5 harg5 arg6 harg6 arg7 harg7 arg8 harg8 arg9 harg9 arg13 x0 x1 x2 x3 x4 x5 x6 x7 k) (B i arg2 harg2 arg3 harg3 arg4 harg4 arg5 harg5 arg6 harg6 arg7 harg7 arg8 harg8 arg9 harg9 arg13 x0 x1 x2 x3 x4 x5 x6 x7 k) (hLd arg14 harg14 xs1 k)) k, group_out i arg2 harg2 arg3 harg3 arg4 harg4 arg5 harg5 arg6 harg6 arg7 harg7 arg8 harg8 arg9 harg9 arg13 x0 x1 x2 x3 x4 x5 x6 x7 k, hLd_apply]

theorem carry_B (hc0 : ¬cond0_0 i) (k : Fin 10) (l : Fin 128) :
    sout0_B_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs1 (ix2 0 ⟨128 * k + l, by omega⟩) =
      run (dec (near i x0 x1 x2) x3 x4 x7 x5 x6 k l) (inp (near i x0 x1 x2) x3 x4 x7 x5 x6 k l) (xs1 (ix2 0 ⟨128 * k + l, by omega⟩)) 512 := by
  unfold sout0_B_1
  rw [View.read_writes_junk_apply_eq_canon, car_B,
    tenth' (fun k => carried (A i arg2 harg2 arg3 harg3 arg4 harg4 arg5 harg5 arg6 harg6 arg7 harg7 arg8 harg8 arg9 harg9 arg13 x0 x1 x2 x3 x4 x5 x6 x7 k) (B i arg2 harg2 arg3 harg3 arg4 harg4 arg5 harg5 arg6 harg6 arg7 harg7 arg8 harg8 arg9 harg9 arg13 x0 x1 x2 x3 x4 x5 x6 x7 k) (hLd arg14 harg14 xs1 k)) k, group_car i arg2 harg2 arg3 harg3 arg4 harg4 arg5 harg5 arg6 harg6 arg7 harg7 arg8 harg8 arg9 harg9 arg13 x0 x1 x2 x3 x4 x5 x6 x7 k, hLd_apply]

/-! ## A sequence's first tile -/

/-- Channels whose group is still to come hold the start. -/
theorem carL_start (n : ℕ) (hn : n ≤ 10) (k : Fin 10) (hk : n ≤ k) (l : Fin 128) :
    View.canon (carL i arg2 harg2 arg3 harg3 arg4 harg4 arg5 harg5 arg6 harg6 arg7 harg7 arg8 harg8 arg9 harg9 arg10 harg10 arg13 arg14 x0 x1 x2 x3 x4 x5 x6 x7 x8 n) (ix2 0 ⟨128 * k + l, by omega⟩) = x8 (ix3 0 0 ⟨128 * k + l, by omega⟩) := by
  induction n with
  | zero =>
    show View.canon [_] _ = _
    have e : (ix2 0 ⟨128 * k + l, by omega⟩ : S8x1280.Idx) = (Rect.unit (s := S8x1280) ![0, 0] S8x1280.size in_8).emb (ix2 0 ⟨128 * k + l, by omega⟩ : S8x1280.Idx) :=
      (entry2 rfl (by show 0 + 1 * (128 * (k : ℕ) + l) = 128 * k + l; omega)).symm
    rw [e, View.canon_cons_emb, pay3]
    exact (harg10.readAt_unread x8 _ _).trans (congrArg x8 (entry rfl rfl (by show 0 + 1 * (128 * (k : ℕ) + l) = 128 * k + l; omega)))
  | succ n ih =>
    refine (View.canon_cons_of_not_mem _ _ fun hmem => ?_).trans (ih (by omega) (by omega))
    have := ((Rect.mem_set_unit (inb := in_m n)).mp hmem 1).2
    have h2 : 128 * (k : ℕ) + l < 128 * (n % 10) + 128 := this
    rw [Nat.mod_eq_of_lt (by omega)] at h2
    omega

theorem hLdA_apply (k : Fin 10) (l : Fin 128) : hLdA i arg2 harg2 arg3 harg3 arg4 harg4 arg5 harg5 arg6 harg6 arg7 harg7 arg8 harg8 arg9 harg9 arg10 harg10 arg13 arg14 x0 x1 x2 x3 x4 x5 x6 x7 x8 k (ix2 0 l) = x8 (ix3 0 0 ⟨128 * k + l, by omega⟩) := by
  rw [← carL_start i arg2 harg2 arg3 harg3 arg4 harg4 arg5 harg5 arg6 harg6 arg7 harg7 arg8 harg8 arg9 harg9 arg10 harg10 arg13 arg14 x0 x1 x2 x3 x4 x5 x6 x7 x8 k (by omega) k (le_refl _) l]
  unfold hLdA
  rw [View.readCov_eq_canon']
  exact congrArg _ (entry2 rfl (by show 128 * (k : ℕ) + 1 * l = 128 * k + l; omega))

/-- One group's step of the list. -/
theorem carL_succ (k : Fin 10) : carL i arg2 harg2 arg3 harg3 arg4 harg4 arg5 harg5 arg6 harg6 arg7 harg7 arg8 harg8 arg9 harg9 arg10 harg10 arg13 arg14 x0 x1 x2 x3 x4 x5 x6 x7 x8 (k + 1) =
    ⟨Rect.unit (s := S8x1280) ![0, 128 * (k.val % 10)] S8x128.size (in_m k), carried (A i arg2 harg2 arg3 harg3 arg4 harg4 arg5 harg5 arg6 harg6 arg7 harg7 arg8 harg8 arg9 harg9 arg13 x0 x1 x2 x3 x4 x5 x6 x7 ⟨k % 10, Nat.mod_lt _ (by decide)⟩) (B i arg2 harg2 arg3 harg3 arg4 harg4 arg5 harg5 arg6 harg6 arg7 harg7 arg8 harg8 arg9 harg9 arg13 x0 x1 x2 x3 x4 x5 x6 x7 ⟨k % 10, Nat.mod_lt _ (by decide)⟩)
      (View.readCov (Val := Elt Ideal) arg14.view (carL i arg2 harg2 arg3 harg3 arg4 harg4 arg5 harg5 arg6 harg6 arg7 harg7 arg8 harg8 arg9 harg9 arg10 harg10 arg13 arg14 x0 x1 x2 x3 x4 x5 x6 x7 x8 k) (Rect.unit (s := S8x1280) ![0, 128 * (k.val % 10)] S8x128.size (in_m k)).toLoadRect)⟩ :: carL i arg2 harg2 arg3 harg3 arg4 harg4 arg5 harg5 arg6 harg6 arg7 harg7 arg8 harg8 arg9 harg9 arg10 harg10 arg13 arg14 x0 x1 x2 x3 x4 x5 x6 x7 x8 k := rfl

/-- One group's step of the list, with its number as it stands. -/
theorem carL_step (k : Fin 10) : carL i arg2 harg2 arg3 harg3 arg4 harg4 arg5 harg5 arg6 harg6 arg7 harg7 arg8 harg8 arg9 harg9 arg10 harg10 arg13 arg14 x0 x1 x2 x3 x4 x5 x6 x7 x8 (k + 1) =
    ⟨Rect.unit (s := S8x1280) ![0, 128 * k.val] S8x128.size (in_h k), carried (A i arg2 harg2 arg3 harg3 arg4 harg4 arg5 harg5 arg6 harg6 arg7 harg7 arg8 harg8 arg9 harg9 arg13 x0 x1 x2 x3 x4 x5 x6 x7 k) (B i arg2 harg2 arg3 harg3 arg4 harg4 arg5 harg5 arg6 harg6 arg7 harg7 arg8 harg8 arg9 harg9 arg13 x0 x1 x2 x3 x4 x5 x6 x7 k) (hLdA i arg2 harg2 arg3 harg3 arg4 harg4 arg5 harg5 arg6 harg6 arg7 harg7 arg8 harg8 arg9 harg9 arg10 harg10 arg13 arg14 x0 x1 x2 x3 x4 x5 x6 x7 x8 k)⟩ :: carL i arg2 harg2 arg3 harg3 arg4 harg4 arg5 harg5 arg6 harg6 arg7 harg7 arg8 harg8 arg9 harg9 arg10 harg10 arg13 arg14 x0 x1 x2 x3 x4 x5 x6 x7 x8 k := by
  have h : ∀ (n : ℕ) (hn : n < 10) (k : Fin 10) (e : n = k), (⟨Rect.unit (s := S8x1280) ![0, 128 * n] S8x128.size (by subst e; exact in_h k), carried (A i arg2 harg2 arg3 harg3 arg4 harg4 arg5 harg5 arg6 harg6 arg7 harg7 arg8 harg8 arg9 harg9 arg13 x0 x1 x2 x3 x4 x5 x6 x7 ⟨n, hn⟩) (B i arg2 harg2 arg3 harg3 arg4 harg4 arg5 harg5 arg6 harg6 arg7 harg7 arg8 harg8 arg9 harg9 arg13 x0 x1 x2 x3 x4 x5 x6 x7 ⟨n, hn⟩)
      (View.readCov (Val := Elt Ideal) arg14.view (carL i arg2 harg2 arg3 harg3 arg4 harg4 arg5 harg5 arg6 harg6 arg7 harg7 arg8 harg8 arg9 harg9 arg10 harg10 arg13 arg14 x0 x1 x2 x3 x4 x5 x6 x7 x8 k) (Rect.unit (s := S8x1280) ![0, 128 * n] S8x128.size (by subst e; exact in_h k)).toLoadRect)⟩ : View.Piece (Elt Ideal) S8x1280 .f32) =
      ⟨Rect.unit (s := S8x1280) ![0, 128 * k.val] S8x128.size (in_h k), carried (A i arg2 harg2 arg3 harg3 arg4 harg4 arg5 harg5 arg6 harg6 arg7 harg7 arg8 harg8 arg9 harg9 arg13 x0 x1 x2 x3 x4 x5 x6 x7 k) (B i arg2 harg2 arg3 harg3 arg4 harg4 arg5 harg5 arg6 harg6 arg7 harg7 arg8 harg8 arg9 harg9 arg13 x0 x1 x2 x3 x4 x5 x6 x7 k) (hLdA i arg2 harg2 arg3 harg3 arg4 harg4 arg5 harg5 arg6 harg6 arg7 harg7 arg8 harg8 arg9 harg9 arg10 harg10 arg13 arg14 x0 x1 x2 x3 x4 x5 x6 x7 x8 k)⟩ := by
    intro n hn k e
    subst e
    rfl
  rw [carL_succ]
  exact congrArg (· :: carL i arg2 harg2 arg3 harg3 arg4 harg4 arg5 harg5 arg6 harg6 arg7 harg7 arg8 harg8 arg9 harg9 arg10 harg10 arg13 arg14 x0 x1 x2 x3 x4 x5 x6 x7 x8 k) (h (k.val % 10) (Nat.mod_lt _ (by decide)) k (Nat.mod_eq_of_lt k.isLt))

/-- Channels whose group is done hold its state. -/
theorem carL_done (n : ℕ) (hn : n ≤ 10) (k : Fin 10) (hk : k < n) (l : Fin 128) :
    View.canon (carL i arg2 harg2 arg3 harg3 arg4 harg4 arg5 harg5 arg6 harg6 arg7 harg7 arg8 harg8 arg9 harg9 arg10 harg10 arg13 arg14 x0 x1 x2 x3 x4 x5 x6 x7 x8 n) (ix2 0 ⟨128 * k + l, by omega⟩) = carried (A i arg2 harg2 arg3 harg3 arg4 harg4 arg5 harg5 arg6 harg6 arg7 harg7 arg8 harg8 arg9 harg9 arg13 x0 x1 x2 x3 x4 x5 x6 x7 k) (B i arg2 harg2 arg3 harg3 arg4 harg4 arg5 harg5 arg6 harg6 arg7 harg7 arg8 harg8 arg9 harg9 arg13 x0 x1 x2 x3 x4 x5 x6 x7 k) (hLdA i arg2 harg2 arg3 harg3 arg4 harg4 arg5 harg5 arg6 harg6 arg7 harg7 arg8 harg8 arg9 harg9 arg10 harg10 arg13 arg14 x0 x1 x2 x3 x4 x5 x6 x7 x8 k) (ix2 0 l) := by
  induction n with
  | zero => omega
  | succ n ih =>
    by_cases h : k.val = n
    · subst h
      rw [carL_step i arg2 harg2 arg3 harg3 arg4 harg4 arg5 harg5 arg6 harg6 arg7 harg7 arg8 harg8 arg9 harg9 arg10 harg10 arg13 arg14 x0 x1 x2 x3 x4 x5 x6 x7 x8 k]
      have e : (ix2 0 ⟨128 * k + l, by omega⟩ : S8x1280.Idx) = (Rect.unit (s := S8x1280) ![0, 128 * k.val] S8x128.size (in_h k)).emb (ix2 0 l : S8x128.Idx) :=
        (entry2 rfl (by show 128 * (k : ℕ) + 1 * (l : ℕ) = 128 * k + l; omega)).symm
      exact (congrArg _ e).trans (View.canon_cons_emb _ _ _ _)
    · rw [show carL i arg2 harg2 arg3 harg3 arg4 harg4 arg5 harg5 arg6 harg6 arg7 harg7 arg8 harg8 arg9 harg9 arg10 harg10 arg13 arg14 x0 x1 x2 x3 x4 x5 x6 x7 x8 (n + 1) = _ from carL_step i arg2 harg2 arg3 harg3 arg4 harg4 arg5 harg5 arg6 harg6 arg7 harg7 arg8 harg8 arg9 harg9 arg10 harg10 arg13 arg14 x0 x1 x2 x3 x4 x5 x6 x7 x8 ⟨n, by omega⟩]
      refine (View.canon_cons_of_not_mem _ _ fun hmem => ?_).trans (ih (by omega) (by omega))
      have := ((Rect.mem_set_unit (inb := in_h ⟨n, by omega⟩)).mp hmem 1).1
      have h2 : 128 * n ≤ 128 * (k : ℕ) + l := this
      omega

theorem point_A (hc0 : cond0_0 i) (k : Fin 10) (m : Fin 64) (s : Fin 8) (l : Fin 128) :
    out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix3 0 ⟨8 * m + s, by omega⟩ ⟨128 * k + l, by omega⟩) =
      run (dec (near i x0 x1 x2) x3 x4 x7 x5 x6 k l) (inp (near i x0 x1 x2) x3 x4 x7 x5 x6 k l) (x8 (ix3 0 0 ⟨128 * k + l, by omega⟩)) (64 * s + (m + 1)) := by
  unfold out0_A_9
  rw [View.read_writes_junk_apply_eq_canon, out_A,
    tenth (fun k => stored (A i arg2 harg2 arg3 harg3 arg4 harg4 arg5 harg5 arg6 harg6 arg7 harg7 arg8 harg8 arg9 harg9 arg13 x0 x1 x2 x3 x4 x5 x6 x7 k) (B i arg2 harg2 arg3 harg3 arg4 harg4 arg5 harg5 arg6 harg6 arg7 harg7 arg8 harg8 arg9 harg9 arg13 x0 x1 x2 x3 x4 x5 x6 x7 k) (hLdA i arg2 harg2 arg3 harg3 arg4 harg4 arg5 harg5 arg6 harg6 arg7 harg7 arg8 harg8 arg9 harg9 arg10 harg10 arg13 arg14 x0 x1 x2 x3 x4 x5 x6 x7 x8 k)) k, group_out i arg2 harg2 arg3 harg3 arg4 harg4 arg5 harg5 arg6 harg6 arg7 harg7 arg8 harg8 arg9 harg9 arg13 x0 x1 x2 x3 x4 x5 x6 x7 k, hLdA_apply]

theorem carry_A (hc0 : cond0_0 i) (k : Fin 10) (l : Fin 128) :
    sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix2 0 ⟨128 * k + l, by omega⟩) =
      run (dec (near i x0 x1 x2) x3 x4 x7 x5 x6 k l) (inp (near i x0 x1 x2) x3 x4 x7 x5 x6 k l) (x8 (ix3 0 0 ⟨128 * k + l, by omega⟩)) 512 := by
  unfold sout0_A_1
  rw [View.read_writes_junk_apply_eq_canon, car_A, carL_done i arg2 harg2 arg3 harg3 arg4 harg4 arg5 harg5 arg6 harg6 arg7 harg7 arg8 harg8 arg9 harg9 arg10 harg10 arg13 arg14 x0 x1 x2 x3 x4 x5 x6 x7 x8 10 (le_refl _) k k.isLt, group_car i arg2 harg2 arg3 harg3 arg4 harg4 arg5 harg5 arg6 harg6 arg7 harg7 arg8 harg8 arg9 harg9 arg13 x0 x1 x2 x3 x4 x5 x6 x7 k, hLdA_apply]

end LruBlock
-- ==== Proof.LruArr.lean ====
/- The recurrence kernel's array: a sequence in time order across its tiles, the carried state, and the states it leaves. -/
module

public import Idealize.ShloMosaic.Lib.Pointwise
public import Idealize.ShloMosaic.Lib.Pipeline.ValueKit.Geometry
public import Idealize.ShloMosaic.Lib.Pipeline.ValueKit.Acc
public import Idealize.ShloMosaic.Lib.Pipeline.ValueKit.Tiles
public import proofs.«01_k».proof.Proof.LruOut
public import proofs.«01_k».proof.Proof.Gen.LruFwdIdeal.Value

@[expose] public section

set_option maxRecDepth 100000

noncomputable section

namespace LruBlock

open Cert.LruFwdIdeal Cert.LruFwdIdeal.Gen Idealize.ShloMosaic Idealize.ShloMosaic.TcCoe Idealize.ShloMosaic.Tactic
open Idealize.SL.Sem Rows

/-! ## A sequence in time order -/

/-- Where token `n` of a sequence lies: tiles of 512, in each the token `64 s + j` at place `8 j + s`. -/
def pos (n : ℕ) : ℕ := 512 * (n / 512) + (8 * (n % 64) + n / 64 % 8)

theorem pos_lt {n : ℕ} (h : n < 8192) : pos n < 8192 := by unfold pos; omega

section
variable (x : Vec Ideal S4x8192x1280 .f32) (w : Vec Ideal S4x1280 .f32) (cb : Vec Ideal S1280 .f32) (wa : Vec Ideal S2x10x128x128 .f32) (ba : Vec Ideal S2x1280 .f32)
  (wx : Vec Ideal S2x10x128x128 .f32) (bx : Vec Ideal S2x1280 .f32) (lam : Vec Ideal S2x1280 .f32) (h0 : Vec Ideal S4x1x1280 .f32)

/-- A sequence with two zeros before it and zeros behind it. -/
def line (b : Fin 4) (n : ℕ) (q : Fin 1280) : EReal :=
  if h : 2 ≤ n ∧ n < 8194 then x (ix3 b ⟨pos (n - 2), pos_lt (by omega)⟩ q) else 0

/-- The convolution of four neighbours. -/
def cv (b : Fin 4) (n : ℕ) (q : Fin 1280) : EReal :=
  cb (ix1 q) + w (ix2 0 q) * line x b n q + w (ix2 1 q) * line x b (n + 1) q + w (ix2 2 q) * line x b (n + 2) q + w (ix2 3 q) * line x b (n + 3) q

/-- A gate's argument at channel `l` of group `k`. -/
def gt (b : Fin 4) (n : ℕ) (k : Fin 10) (l : Fin 128) : EReal :=
  (∑ d : Fin 128, cv x w cb b n ⟨128 * k + d, by omega⟩ * wa (ix4 0 k d l)) + ba (ix2 0 ⟨128 * k + l, by omega⟩)

/-- The decay and the input of a step. -/
def dcy (b : Fin 4) (k : Fin 10) (l : Fin 128) (n : ℕ) : EReal :=
  Ideal.exp (Rows.slope (sigT (gt x w cb wa ba b n k l)) (lam (ix2 0 ⟨128 * k + l, by omega⟩)))
def ipt (b : Fin 4) (k : Fin 10) (l : Fin 128) (n : ℕ) : EReal :=
  Ideal.sqrt (1 - dcy x w cb wa ba lam b k l n * dcy x w cb wa ba lam b k l n) *
    (sigT (gt x w cb wx bx b n k l) * cv x w cb b n ⟨128 * k + l, by omega⟩)

/-- The state after `n` steps. -/
def state (b : Fin 4) (k : Fin 10) (l : Fin 128) (n : ℕ) : EReal :=
  run (dcy x w cb wa ba lam b k l) (ipt x w cb wa ba wx bx lam b k l) (h0 (ix3 b 0 ⟨128 * k + l, by omega⟩)) n

/-- The states of all sequences, each where its token lies. -/
def G (i : S4x8192x1280.Idx) : EReal :=
  state x w cb wa ba wx bx lam h0 (i 0) ⟨(i 2).val / 128, by have := (i 2).isLt; simp at this; omega⟩ ⟨(i 2).val % 128, by omega⟩
    (512 * ((i 1).val / 512) + (64 * ((i 1).val % 8) + ((i 1).val % 512 / 8 + 1)))
end

/-! ## The host lines and the blocks -/

section
variable (m : (ℓ : Loc nD τ sig) → Buf (Elt Ideal) ℓ) (c : Dev nD)

theorem V_v13 (q : Fin 1280) : V m c main_v13 (ix2 0 q) = m ((c : Thread nD τ).loc main_arg2) (ix1 q) := by
  have h : V m c main_v13 = shapeCast S1x1280 (m ((c : Thread nD τ).loc main_arg2)) Facts₀.shapeCasts_S1280_S1x1280 := rfl
  rw [h]; pointwise

theorem V_v14 (q : Fin 1280) : V m c main_v14 (ix2 0 q) = m ((c : Thread nD τ).loc main_arg7) (ix2 0 q) := by
  have h : V m c main_v14 = extractStridedSlice S1x1280 ![0, 0] (m ((c : Thread nD τ).loc main_arg7)) Facts₀.slices_S2x1280_S1x1280_0_0 := rfl
  rw [h]; pointwise

/-- One direction's matrices of a gate. -/
theorem wdir (v : Vec Ideal S2x10x128x128 .f32) (k : Fin 10) (d l : Fin 128) :
    shapeCast S10x128x128 (extractStridedSlice S1x10x128x128 ![0, 0, 0, 0] v Facts₀.slices_S2x10x128x128_S1x10x128x128_0_0_0_0) Facts₀.shapeCasts_S1x10x128x128_S10x128x128 (ix3 k d l) =
      v (ix4 0 k d l) := by
  pointwise

theorem bdir (v : Vec Ideal S2x1280 .f32) (k : Fin 10) (l : Fin 128) :
    shapeCast S10x1x128 (shapeCast S1280 (extractStridedSlice S1x1280 ![0, 0] v Facts₀.slices_S2x1280_S1x1280_0_0) Facts₀.shapeCasts_S1x1280_S1280) Facts₀.shapeCasts_S1280_S10x1x128 (ix3 k 0 l) =
      v (ix2 0 ⟨128 * k + l, by omega⟩) := by
  have h : ∀ u : Vec Ideal S1280 .f32, shapeCast S10x1x128 u Facts₀.shapeCasts_S1280_S10x1x128 (ix3 k 0 l) = u (ix1 ⟨128 * k + l, by omega⟩) := fun u => by
    refine congrArg u (Shape.reshapeEquiv_eq_of_rowMajor Facts₀.shapeCasts_S1280_S10x1x128 ?_)
    simp only [Shape.rowMajor_val_one, Shape.rowMajor_val_three]
    show 128 * k.val + l.val = (k.val * 1 + 0) * 128 + l.val
    omega
  rw [h]; pointwise

/-- Two gates' matrices or biases side by side. -/
theorem cat_lo (a b : Vec Ideal S10x128x128 .f32) (k : Fin 10) (d l : Fin 128) :
    (truncf .bf16 (concatenate S10x128x256 2 [⟨S10x128x128, a⟩, ⟨S10x128x128, b⟩] Facts₀.concatenates_S10x128x128_S10x128x128_S10x128x256_d2 : FVec Ideal S10x128x256 .f32) Facts₀.bitsLt_bf16_f32 : FVec Ideal S10x128x256 .bf16) (ix3 k d ⟨l, by omega⟩) = a (ix3 k d l) := by
  pointwise
theorem cat_hi (a b : Vec Ideal S10x128x128 .f32) (k : Fin 10) (d l : Fin 128) :
    (truncf .bf16 (concatenate S10x128x256 2 [⟨S10x128x128, a⟩, ⟨S10x128x128, b⟩] Facts₀.concatenates_S10x128x128_S10x128x128_S10x128x256_d2 : FVec Ideal S10x128x256 .f32) Facts₀.bitsLt_bf16_f32 : FVec Ideal S10x128x256 .bf16) (ix3 k d ⟨128 + l, by omega⟩) = b (ix3 k d l) := by
  pointwise
theorem bat_lo (a b : Vec Ideal S10x1x128 .f32) (k : Fin 10) (l : Fin 128) :
    (concatenate S10x1x256 2 [⟨S10x1x128, a⟩, ⟨S10x1x128, b⟩] Facts₀.concatenates_S10x1x128_S10x1x128_S10x1x256_d2 : FVec Ideal S10x1x256 .f32) (ix3 k 0 ⟨l, by omega⟩) = a (ix3 k 0 l) := by
  pointwise
theorem bat_hi (a b : Vec Ideal S10x1x128 .f32) (k : Fin 10) (l : Fin 128) :
    (concatenate S10x1x256 2 [⟨S10x1x128, a⟩, ⟨S10x1x128, b⟩] Facts₀.concatenates_S10x1x128_S10x1x128_S10x1x256_d2 : FVec Ideal S10x1x256 .f32) (ix3 k 0 ⟨128 + l, by omega⟩) = b (ix3 k 0 l) := by
  pointwise

theorem V_v5_lo (k : Fin 10) (d l : Fin 128) : V m c main_v5 (ix3 k d ⟨l, by omega⟩) = m ((c : Thread nD τ).loc main_arg3) (ix4 0 k d l) := by
  have h : V m c main_v5 = (truncf .bf16 (concatenate S10x128x256 2 [⟨S10x128x128, shapeCast S10x128x128 (extractStridedSlice S1x10x128x128 ![0, 0, 0, 0] (m ((c : Thread nD τ).loc main_arg3)) Facts₀.slices_S2x10x128x128_S1x10x128x128_0_0_0_0) Facts₀.shapeCasts_S1x10x128x128_S10x128x128⟩, ⟨S10x128x128, shapeCast S10x128x128 (extractStridedSlice S1x10x128x128 ![0, 0, 0, 0] (m ((c : Thread nD τ).loc main_arg5)) Facts₀.slices_S2x10x128x128_S1x10x128x128_0_0_0_0) Facts₀.shapeCasts_S1x10x128x128_S10x128x128⟩] Facts₀.concatenates_S10x128x128_S10x128x128_S10x128x256_d2 : FVec Ideal S10x128x256 .f32) Facts₀.bitsLt_bf16_f32 : FVec Ideal S10x128x256 .bf16) := rfl
  rw [h]
  exact (cat_lo _ _ k d l).trans (wdir _ k d l)

theorem V_v5_hi (k : Fin 10) (d l : Fin 128) : V m c main_v5 (ix3 k d ⟨128 + l, by omega⟩) = m ((c : Thread nD τ).loc main_arg5) (ix4 0 k d l) := by
  have h : V m c main_v5 = (truncf .bf16 (concatenate S10x128x256 2 [⟨S10x128x128, shapeCast S10x128x128 (extractStridedSlice S1x10x128x128 ![0, 0, 0, 0] (m ((c : Thread nD τ).loc main_arg3)) Facts₀.slices_S2x10x128x128_S1x10x128x128_0_0_0_0) Facts₀.shapeCasts_S1x10x128x128_S10x128x128⟩, ⟨S10x128x128, shapeCast S10x128x128 (extractStridedSlice S1x10x128x128 ![0, 0, 0, 0] (m ((c : Thread nD τ).loc main_arg5)) Facts₀.slices_S2x10x128x128_S1x10x128x128_0_0_0_0) Facts₀.shapeCasts_S1x10x128x128_S10x128x128⟩] Facts₀.concatenates_S10x128x128_S10x128x128_S10x128x256_d2 : FVec Ideal S10x128x256 .f32) Facts₀.bitsLt_bf16_f32 : FVec Ideal S10x128x256 .bf16) := rfl
  rw [h]
  exact (cat_hi _ _ k d l).trans (wdir _ k d l)

theorem V_v12_lo (k : Fin 10) (l : Fin 128) : V m c main_v12 (ix3 k 0 ⟨l, by omega⟩) = m ((c : Thread nD τ).loc main_arg4) (ix2 0 ⟨128 * k + l, by omega⟩) := by
  have h : V m c main_v12 = (concatenate S10x1x256 2 [⟨S10x1x128, shapeCast S10x1x128 (shapeCast S1280 (extractStridedSlice S1x1280 ![0, 0] (m ((c : Thread nD τ).loc main_arg4)) Facts₀.slices_S2x1280_S1x1280_0_0) Facts₀.shapeCasts_S1x1280_S1280) Facts₀.shapeCasts_S1280_S10x1x128⟩, ⟨S10x1x128, shapeCast S10x1x128 (shapeCast S1280 (extractStridedSlice S1x1280 ![0, 0] (m ((c : Thread nD τ).loc main_arg6)) Facts₀.slices_S2x1280_S1x1280_0_0) Facts₀.shapeCasts_S1x1280_S1280) Facts₀.shapeCasts_S1280_S10x1x128⟩] Facts₀.concatenates_S10x1x128_S10x1x128_S10x1x256_d2 : FVec Ideal S10x1x256 .f32) := rfl
  rw [h]
  exact (bat_lo _ _ k l).trans (bdir _ k l)

theorem V_v12_hi (k : Fin 10) (l : Fin 128) : V m c main_v12 (ix3 k 0 ⟨128 + l, by omega⟩) = m ((c : Thread nD τ).loc main_arg6) (ix2 0 ⟨128 * k + l, by omega⟩) := by
  have h : V m c main_v12 = (concatenate S10x1x256 2 [⟨S10x1x128, shapeCast S10x1x128 (shapeCast S1280 (extractStridedSlice S1x1280 ![0, 0] (m ((c : Thread nD τ).loc main_arg4)) Facts₀.slices_S2x1280_S1x1280_0_0) Facts₀.shapeCasts_S1x1280_S1280) Facts₀.shapeCasts_S1280_S10x1x128⟩, ⟨S10x1x128, shapeCast S10x1x128 (shapeCast S1280 (extractStridedSlice S1x1280 ![0, 0] (m ((c : Thread nD τ).loc main_arg6)) Facts₀.slices_S2x1280_S1x1280_0_0) Facts₀.shapeCasts_S1x1280_S1280) Facts₀.shapeCasts_S1280_S10x1x128⟩] Facts₀.concatenates_S10x1x128_S10x1x128_S10x1x256_d2 : FVec Ideal S10x1x256 .f32) := rfl
  rw [h]
  exact (bat_hi _ _ k l).trans (bdir _ k l)

theorem e0 : ∀ t : Fin cfg0.N, win0_0.index t = ![t.val / 16, t.val % 16, 0] := (by decide +kernel : ∀ t : Fin grid0.N, _)
theorem e1 : ∀ t : Fin cfg0.N, win0_1.index t = ![t.val / 16, 32 * (t.val % 16) - 1, 0] := (by decide +kernel : ∀ t : Fin grid0.N, _)
theorem e2 : ∀ t : Fin cfg0.N, win0_2.index t = ![t.val / 16, min (64 * (t.val % 16) + 64) 1023, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0, 0] := (by decide +kernel : ∀ t : Fin grid0.N, _)
theorem e6 : ∀ t : Fin cfg0.N, win0_6.index t = ![0, 0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![t.val / 16, 0, 0] := (by decide +kernel : ∀ t : Fin grid0.N, _)
theorem e9 : ∀ t : Fin cfg0.N, win0_9.index t = ![t.val / 16, t.val % 16, 0] := (by decide +kernel : ∀ t : Fin grid0.N, _)
theorem tile_no : ∀ t : Fin cfg0.N, (grid0.coords t 1).val = t.val % 16 := (by decide +kernel : ∀ t : Fin grid0.N, _)

theorem lt64 (t : Fin cfg0.N) : t.val < 64 := lt_of_lt_of_eq t.isLt (by decide +kernel)

/-- A point's sequence. -/
def sq (t : Fin cfg0.N) : Fin 4 := ⟨t / 16, by have := lt64 t; omega⟩

theorem in0 (t : Fin cfg0.N) (r : Fin 512) (q : Fin 1280) : iblk m c 0 t (ix3 0 r q) =
    m ((c : Thread nD τ).loc main_arg0) (ix3 (sq t) ⟨t % 16 * 512 + r, by omega⟩ q) := by
  have h : (win0_0.blk t).view.emb (ix3 0 r q) = ix3 (sq t) ⟨t % 16 * 512 + r, by omega⟩ q := by unfold sq; blk_ext [e0]
  exact (congrArg (V m c main_arg0) h).trans (congrFun (V_main_arg0 m c) _)

theorem in1 (t : Fin cfg0.N) (ht : t.val % 16 ≠ 0) (r : Fin 16) (q : Fin 1280) : iblk m c 1 t (ix3 0 r q) =
    m ((c : Thread nD τ).loc main_arg0) (ix3 (sq t) ⟨t % 16 * 512 - 16 + r, by omega⟩ q) := by
  have h : (win0_1.blk t).view.emb (ix3 0 r q) = ix3 (sq t) ⟨t % 16 * 512 - 16 + r, by omega⟩ q := by unfold sq; blk_ext [e1]
  exact (congrArg (V m c main_arg0) h).trans (congrFun (V_main_arg0 m c) _)

theorem in2 (t : Fin cfg0.N) (ht : t.val % 16 ≠ 15) (q : Fin 1280) : iblk m c 2 t (ix3 0 0 q) =
    m ((c : Thread nD τ).loc main_arg0) (ix3 (sq t) ⟨t % 16 * 512 + 512, by omega⟩ q) := by
  have h : (win0_2.blk t).view.emb (ix3 0 0 q) = ix3 (sq t) ⟨t % 16 * 512 + 512, by omega⟩ q := by unfold sq; blk_ext [e2]
  exact (congrArg (V m c main_arg0) h).trans (congrFun (V_main_arg0 m c) _)

theorem in3 (t : Fin cfg0.N) (k : Fin 4) (q : Fin 1280) : iblk m c 3 t (ix2 k q) = m ((c : Thread nD τ).loc main_arg1) (ix2 k q) := by
  have h : (win0_3.blk t).view.emb (ix2 k q) = ix2 k q := by blk_ext [e3]
  exact (congrArg (V m c main_arg1) h).trans (congrFun (V_main_arg1 m c) _)

theorem in4 (t : Fin cfg0.N) (q : Fin 1280) : iblk m c 4 t (ix2 0 q) = m ((c : Thread nD τ).loc main_arg2) (ix1 q) := by
  have h : (win0_4.blk t).view.emb (ix2 0 q) = ix2 0 q := by blk_ext [e4]
  exact (congrArg (V m c main_v13) h).trans (V_v13 m c q)

theorem in5 (t : Fin cfg0.N) (k : Fin 10) (d : Fin 128) (p : Fin 256) : iblk m c 5 t (ix3 k d p) = V m c main_v5 (ix3 k d p) := by
  have h : (win0_5.blk t).view.emb (ix3 k d p) = ix3 k d p := by blk_ext [e5]
  exact congrArg (V m c main_v5) h

theorem in6 (t : Fin cfg0.N) (k : Fin 10) (p : Fin 256) : iblk m c 6 t (ix3 k 0 p) = V m c main_v12 (ix3 k 0 p) := by
  have h : (win0_6.blk t).view.emb (ix3 k 0 p) = ix3 k 0 p := by blk_ext [e6]
  exact congrArg (V m c main_v12) h

theorem in7 (t : Fin cfg0.N) (q : Fin 1280) : iblk m c 7 t (ix2 0 q) = m ((c : Thread nD τ).loc main_arg7) (ix2 0 q) := by
  have h : (win0_7.blk t).view.emb (ix2 0 q) = ix2 0 q := by blk_ext [e7]
  exact (congrArg (V m c main_v14) h).trans (V_v14 m c q)

theorem in8 (t : Fin cfg0.N) (q : Fin 1280) : iblk m c 8 t (ix3 0 0 q) = m ((c : Thread nD τ).loc main_arg8) (ix3 (sq t) 0 q) := by
  have h : (win0_8.blk t).view.emb (ix3 0 0 q) = ix3 (sq t) 0 q := by unfold sq; blk_ext [e8]
  exact (congrArg (V m c main_arg8) h).trans (congrFun (V_main_arg8 m c) _)

/-- What a point reads around its tile is the padded sequence there. -/
theorem near_eq (t : Fin cfg0.N) (n : ℕ) (hn : n ≤ 514) (q : Fin 1280) :
    near (grid0.coords t) (iblk m c 0 t) (iblk m c 1 t) (iblk m c 2 t) n q = line (m ((c : Thread nD τ).loc main_arg0)) (sq t) (512 * (t.val % 16) + n) q := by
  unfold near span line
  rw [tile_no]
  by_cases h2 : n < 2
  · rw [dif_pos h2]
    by_cases h : t.val % 16 = 0
    · rw [if_pos h, dif_neg (by omega)]
    · rw [if_neg h, dif_pos (by omega), in1 m c t h]
      exact congrArg _ (entry rfl (by show t.val % 16 * 512 - 16 + (7 + 8 * n) = pos (512 * (t.val % 16) + n - 2); unfold pos; omega) rfl)
  · rw [dif_neg h2]
    by_cases h5 : n < 514
    · rw [if_pos h5, dif_pos (by omega), in0]
      exact congrArg _ (entry rfl (by show t.val % 16 * 512 + (8 * ((n - 2) % 64) + (n - 2) / 64 % 8) = pos (512 * (t.val % 16) + n - 2); unfold pos; omega) rfl)
    · rw [if_neg h5]
      by_cases h : t.val % 16 = 15
      · rw [if_pos h, dif_neg (by omega)]
      · rw [if_neg h, dif_pos (by omega), in2 m c t h]
        exact congrArg _ (entry rfl (by show t.val % 16 * 512 + 512 = pos (512 * (t.val % 16) + n - 2); unfold pos; omega) rfl)

theorem conv_eq (t : Fin cfg0.N) (n : ℕ) (hn : n < 512) (q : Fin 1280) :
    conv (near (grid0.coords t) (iblk m c 0 t) (iblk m c 1 t) (iblk m c 2 t)) (iblk m c 3 t) (iblk m c 4 t) n q = cv (m ((c : Thread nD τ).loc main_arg0)) (m ((c : Thread nD τ).loc main_arg1)) (m ((c : Thread nD τ).loc main_arg2)) (sq t) (512 * (t.val % 16) + n) q := by
  unfold conv cv
  rw [near_eq m c t n (by omega), near_eq m c t (n + 1) (by omega), near_eq m c t (n + 2) (by omega), near_eq m c t (n + 3) (by omega), in4]
  simp only [in3, Nat.add_assoc]

theorem gate_lo (t : Fin cfg0.N) (n : ℕ) (hn : n < 512) (k : Fin 10) (l : Fin 128) :
    gate (near (grid0.coords t) (iblk m c 0 t) (iblk m c 1 t) (iblk m c 2 t)) (iblk m c 3 t) (iblk m c 4 t) (iblk m c 5 t) (iblk m c 6 t) n k ⟨l, by omega⟩ = gt (m ((c : Thread nD τ).loc main_arg0)) (m ((c : Thread nD τ).loc main_arg1)) (m ((c : Thread nD τ).loc main_arg2)) (m ((c : Thread nD τ).loc main_arg3)) (m ((c : Thread nD τ).loc main_arg4)) (sq t) (512 * (t.val % 16) + n) k l := by
  unfold gate gt
  rw [in6]
  refine congrArg₂ (· + ·) (Finset.sum_congr rfl fun d _ => ?_) (V_v12_lo m c k l)
  rw [conv_eq m c t n hn, in5]
  exact congrArg _ (V_v5_lo m c k d l)

theorem gate_hi (t : Fin cfg0.N) (n : ℕ) (hn : n < 512) (k : Fin 10) (l : Fin 128) :
    gate (near (grid0.coords t) (iblk m c 0 t) (iblk m c 1 t) (iblk m c 2 t)) (iblk m c 3 t) (iblk m c 4 t) (iblk m c 5 t) (iblk m c 6 t) n k ⟨128 + l, by omega⟩ = gt (m ((c : Thread nD τ).loc main_arg0)) (m ((c : Thread nD τ).loc main_arg1)) (m ((c : Thread nD τ).loc main_arg2)) (m ((c : Thread nD τ).loc main_arg5)) (m ((c : Thread nD τ).loc main_arg6)) (sq t) (512 * (t.val % 16) + n) k l := by
  unfold gate gt
  rw [in6]
  refine congrArg₂ (· + ·) (Finset.sum_congr rfl fun d _ => ?_) (V_v12_hi m c k l)
  rw [conv_eq m c t n hn, in5]
  exact congrArg _ (V_v5_hi m c k d l)

theorem dec_eq (t : Fin cfg0.N) (n : ℕ) (hn : n < 512) (k : Fin 10) (l : Fin 128) :
    dec (near (grid0.coords t) (iblk m c 0 t) (iblk m c 1 t) (iblk m c 2 t)) (iblk m c 3 t) (iblk m c 4 t) (iblk m c 7 t) (iblk m c 5 t) (iblk m c 6 t) k l n = dcy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (sq t) k l (512 * (t.val % 16) + n) := by
  unfold dec dcy
  rw [gate_lo m c t n hn, in7]

theorem inp_eq (t : Fin cfg0.N) (n : ℕ) (hn : n < 512) (k : Fin 10) (l : Fin 128) :
    inp (near (grid0.coords t) (iblk m c 0 t) (iblk m c 1 t) (iblk m c 2 t)) (iblk m c 3 t) (iblk m c 4 t) (iblk m c 7 t) (iblk m c 5 t) (iblk m c 6 t) k l n = ipt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (sq t) k l (512 * (t.val % 16) + n) := by
  unfold inp ipt
  rw [dec_eq m c t n hn, gate_hi m c t n hn, conv_eq m c t n hn]

/-- A sequence's states by the argument arrays. -/
def st (b : Fin 4) (k : Fin 10) (l : Fin 128) (n : ℕ) : EReal := state (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b k l n

/-- A tile's steps carry on the sequence's. -/
theorem steps (t : Fin cfg0.N) (k : Fin 10) (l : Fin 128) (n : ℕ) (hn : n ≤ 512) (h : EReal) (hh : h = st m c (sq t) k l (512 * (t.val % 16))) :
    run (dec (near (grid0.coords t) (iblk m c 0 t) (iblk m c 1 t) (iblk m c 2 t)) (iblk m c 3 t) (iblk m c 4 t) (iblk m c 7 t) (iblk m c 5 t) (iblk m c 6 t) k l) (inp (near (grid0.coords t) (iblk m c 0 t) (iblk m c 1 t) (iblk m c 2 t)) (iblk m c 3 t) (iblk m c 4 t) (iblk m c 7 t) (iblk m c 5 t) (iblk m c 6 t) k l) h n = st m c (sq t) k l (512 * (t.val % 16) + n) := by
  subst hh
  unfold st state
  rw [run_add]
  exact run_congr _ (fun j hj => dec_eq m c t j (by omega) k l) fun j hj => inp_eq m c t j (by omega) k l

theorem left_A (t : Fin cfg0.N) (h0 : t.val % 16 = 0) : (outsAt0 m c t.val t.isLt).1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) := by
  simp only [outsAt0_A m c t h0]
theorem left_B (t : Fin cfg0.N) (h0 : ¬t.val % 16 = 0) : (outsAt0 m c t.val t.isLt).1 = out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (lt_of_le_of_lt (Nat.sub_le _ _) t.isLt)).2.2 := by
  simp only [outsAt0_B m c t h0]
theorem kept_A (t : Fin cfg0.N) (h0 : t.val % 16 = 0) : (outsAt0 m c t.val t.isLt).2.2 = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) := by
  simp only [outsAt0_A m c t h0]
theorem kept_B (t : Fin cfg0.N) (h0 : ¬t.val % 16 = 0) : (outsAt0 m c t.val t.isLt).2.2 = sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (lt_of_le_of_lt (Nat.sub_le _ _) t.isLt)).2.2 := by
  simp only [outsAt0_B m c t h0]

theorem begin_eq (t : Fin cfg0.N) (h0 : t.val % 16 = 0) (k : Fin 10) (l : Fin 128) :
    iblk m c 8 t (ix3 0 0 ⟨128 * k + l, by omega⟩) = st m c (sq t) k l (512 * (t.val % 16)) := by
  rw [in8, h0]
  rfl

theorem carry_first (t : Fin cfg0.N) (h0 : t.val % 16 = 0) (k : Fin 10) (l : Fin 128) :
    (outsAt0 m c t.val t.isLt).2.2 (ix2 0 ⟨128 * k + l, by omega⟩) = st m c (sq t) k l (512 * (t.val % 16) + 512) := by
  rw [kept_A m c t h0, carry_A]
  exact steps m c t k l 512 (le_refl _) _ (begin_eq m c t h0 k l)

theorem before (t : Fin cfg0.N) (h0 : ¬t.val % 16 = 0) (k : Fin 10) (l : Fin 128) (h : t.val - 1 < cfg0.N) :
    st m c (sq ⟨t.val - 1, h⟩) k l (512 * ((t.val - 1) % 16) + 512) = st m c (sq t) k l (512 * (t.val % 16)) := by
  have e : sq ⟨t.val - 1, h⟩ = sq t := Fin.ext (by show (t.val - 1) / 16 = t.val / 16; omega)
  rw [e, show 512 * ((t.val - 1) % 16) + 512 = 512 * (t.val % 16) by omega]

/-- The state carried out of a tile. -/
theorem carry (n : ℕ) : ∀ (t : Fin cfg0.N) (ht : t.val = n) (k : Fin 10) (l : Fin 128),
    (outsAt0 m c t.val t.isLt).2.2 (ix2 0 ⟨128 * k + l, by omega⟩) = st m c (sq t) k l (512 * (t.val % 16) + 512) := by
  induction n with
  | zero => exact fun t ht k l => carry_first m c t (by omega) k l
  | succ n ih =>
    intro t ht k l
    by_cases h0 : t.val % 16 = 0
    · exact carry_first m c t h0 k l
    · rw [kept_B m c t h0, carry_B]
      refine steps m c t k l 512 (le_refl _) _ ?_
      rw [← before m c t h0 k l (lt_of_le_of_lt (Nat.sub_le _ _) t.isLt)]
      exact ih ⟨t.val - 1, lt_of_le_of_lt (Nat.sub_le _ _) t.isLt⟩ (by show t.val - 1 = n; omega) k l

/-- The block a grid point leaves. -/
theorem block (t : Fin cfg0.N) (k : Fin 10) (j : Fin 64) (s : Fin 8) (l : Fin 128) :
    (outsAt0 m c t.val t.isLt).1 (ix3 0 ⟨8 * j + s, by omega⟩ ⟨128 * k + l, by omega⟩) = st m c (sq t) k l (512 * (t.val % 16) + (64 * s + (j + 1))) := by
  by_cases h0 : t.val % 16 = 0
  · rw [left_A m c t h0, point_A]
    exact steps m c t k l _ (by omega) _ (begin_eq m c t h0 k l)
  · rw [left_B m c t h0, point_B]
    refine steps m c t k l _ (by omega) _ ?_
    rw [← before m c t h0 k l (lt_of_le_of_lt (Nat.sub_le _ _) t.isLt)]
    exact carry m c _ ⟨t.val - 1, lt_of_le_of_lt (Nat.sub_le _ _) t.isLt⟩ rfl k l

theorem final9 : (dats m 0 c).arrAt 9 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 9 _ (by decide +kernel) fun t hf y => ?_
  blk_simp
  rw [after0_9]
  have ht := lt64 t
  obtain ⟨r, n, hy⟩ : ∃ (r : Fin 512) (n : Fin 1280), y = (ix3 0 r n : S1x512x1280.Idx) := ⟨y 1, y 2, by idx_ext⟩
  have hi : (win0_9.blk t).view.emb y = ix3 (sq t) ⟨t % 16 * 512 + r, by omega⟩ n := by subst hy; unfold sq; blk_ext [e9]
  rw [hi, hy]
  have e : (ix3 0 r n : S1x512x1280.Idx) = ix3 0 ⟨8 * (⟨r / 8, by omega⟩ : Fin 64).val + (⟨r % 8, by omega⟩ : Fin 8).val, by simp only []; omega⟩ ⟨128 * (⟨n / 128, by omega⟩ : Fin 10).val + (⟨n % 128, by omega⟩ : Fin 128).val, by simp only []; omega⟩ :=
    (entry rfl (by show 8 * ((r : ℕ) / 8) + r % 8 = r; omega) (by show 128 * ((n : ℕ) / 128) + n % 128 = n; omega)).symm
  rw [e]
  refine (block m c t ⟨n / 128, by omega⟩ ⟨r / 8, by omega⟩ ⟨r % 8, by omega⟩ ⟨n % 128, by omega⟩).trans ?_
  unfold st G
  refine congrArg _ ?_
  show 512 * (t.val % 16) + (64 * ((r : ℕ) % 8) + ((r : ℕ) / 8 + 1)) = 512 * ((t.val % 16 * 512 + r) / 512) + (64 * ((t.val % 16 * 512 + r) % 8) + ((t.val % 16 * 512 + r) % 512 / 8 + 1))
  omega

end

end LruBlock
-- ==== Proof.LruPre.lean ====
/- What the reference computes before its loop: the sequences in time order, the convolution, the gates, the decay and the input. -/
module

public import Idealize.ShloMosaic.Lib.Pointwise
public import proofs.«01_k».proof.Proof.Decay
public import proofs.«01_k».proof.Proof.Gen.LruFwdRefIdeal.Run

@[expose] public section

set_option maxRecDepth 100000

noncomputable section

namespace LruRef

open Cert.LruFwdRefIdeal Cert.LruFwdRefIdeal.Gen Cert.LruFwdRefIdeal.Value Idealize.ShloMosaic Idealize.ShloMosaic.TcCoe Idealize.ShloMosaic.StableHlo Rows

def ordered (x : FVec Ideal S4x8192x1280 .f32) : FVec Ideal S4x8192x1280 .f32 :=
  shapeCast S4x8192x1280 (transpose S4x16x8x64x1280 [0, 1, 3, 2, 4] (shapeCast S4x16x64x8x1280 x Facts₀.shapeCasts_S4x8192x1280_S4x16x64x8x1280)
    Facts₀.transposes_S4x16x64x8x1280_S4x16x8x64x1280_0_1_3_2_4) Facts₀.shapeCasts_S4x16x8x64x1280_S4x8192x1280

def padded (x : FVec Ideal S4x8192x1280 .f32) : FVec Ideal S4x8195x1280 .f32 :=
  pad S4x8195x1280 ![0, 2, 0] ![0, 1, 0] ![0, 0, 0] x (sitofp .f32 (constantI S_ 32 0#32)) Facts₀.pads_S4x8192x1280_S4x8195x1280_000_210_000 Facts₀.h_S_

def wide (v : FVec Ideal S1280 .f32) : FVec Ideal S4x8192x1280 .f32 :=
  broadcastInDim S4x8192x1280 ![0, 1, 2] Facts₀.bcast_S1x1x1280_S4x8192x1280_0_1_2 (broadcastInDim S1x1x1280 ![2] Facts₀.bcast_S1280_S1x1x1280_2 v)

def full (w : BitVec 32) : FVec Ideal S4x8192x1280 .f32 := broadcastInDim S4x8192x1280 ![] Facts₀.bcast_S_S4x8192x1280 (constant S_ .f32 w)

def conv (p : FVec Ideal S4x8195x1280 .f32) (w : FVec Ideal S4x1280 .f32) (cb : FVec Ideal S1280 .f32) : FVec Ideal S4x8192x1280 .f32 :=
  addf (addf (addf (addf
    (mulf (extractStridedSlice S4x8192x1280 ![0, 0, 0] p Facts₀.slices_S4x8195x1280_S4x8192x1280_0_0_0) (wide (shapeCast S1280 (extractStridedSlice S1x1280 ![0, 0] w Facts₀.slices_S4x1280_S1x1280_0_0) Facts₀.shapeCasts_S1x1280_S1280)))
    (mulf (extractStridedSlice S4x8192x1280 ![0, 1, 0] p Facts₀.slices_S4x8195x1280_S4x8192x1280_0_1_0) (wide (shapeCast S1280 (extractStridedSlice S1x1280 ![1, 0] w Facts₀.slices_S4x1280_S1x1280_1_0) Facts₀.shapeCasts_S1x1280_S1280))))
    (mulf (extractStridedSlice S4x8192x1280 ![0, 2, 0] p Facts₀.slices_S4x8195x1280_S4x8192x1280_0_2_0) (wide (shapeCast S1280 (extractStridedSlice S1x1280 ![2, 0] w Facts₀.slices_S4x1280_S1x1280_2_0) Facts₀.shapeCasts_S1x1280_S1280))))
    (mulf (extractStridedSlice S4x8192x1280 ![0, 3, 0] p Facts₀.slices_S4x8195x1280_S4x8192x1280_0_3_0) (wide (shapeCast S1280 (extractStridedSlice S1x1280 ![3, 0] w Facts₀.slices_S4x1280_S1x1280_3_0) Facts₀.shapeCasts_S1x1280_S1280))))
    (wide cb)

def row0 (b : FVec Ideal S2x1280 .f32) : FVec Ideal S1280 .f32 :=
  shapeCast S1280 (extractStridedSlice S1x1280 ![0, 0] b Facts₀.slices_S2x1280_S1x1280_0_0) Facts₀.shapeCasts_S1x1280_S1280

def lin (x : FVec Ideal S4x8192x1280 .f32) (w : FVec Ideal S2x10x128x128 .f32) : FVec Ideal S4x8192x1280 .f32 :=
  shapeCast S4x8192x1280 (transpose S4x8192x10x128 [2, 3, 0, 1] (Host.dotGeneral dot_S10x128x128_S4x8192x10x128_S10x128x4x8192_1_3_2_01_0_2 none
    (shapeCast S10x128x128 (extractStridedSlice S1x10x128x128 ![0, 0, 0, 0] w Facts₀.slices_S2x10x128x128_S1x10x128x128_0_0_0_0) Facts₀.shapeCasts_S1x10x128x128_S10x128x128)
    (shapeCast S4x8192x10x128 x Facts₀.shapeCasts_S4x8192x1280_S4x8192x10x128)) Facts₀.transposes_S10x128x4x8192_S4x8192x10x128_2_3_0_1) Facts₀.shapeCasts_S4x8192x10x128_S4x8192x1280

def gate (x : FVec Ideal S4x8192x1280 .f32) (w : FVec Ideal S2x10x128x128 .f32) (b : FVec Ideal S2x1280 .f32) : FVec Ideal S4x8192x1280 .f32 :=
  Host.divf (full 0x3F800000#32) (addf (full 0x3F800000#32) (Host.exp (Host.negf (addf (lin x w) (wide (row0 b))))))

def zero1 : FVec Ideal S1280 .f32 := broadcastInDim S1280 ![] Facts₀.bcast_S_S1280 (constant S_ .f32 0x00000000#32)

def softp (y : FVec Ideal S1280 .f32) : FVec Ideal S1280 .f32 :=
  select (cmpf .une (subf y zero1) (subf y zero1)) (addf y zero1)
    (addf (maximumf y zero1) (Host.log1p (Host.exp (Host.negf (Host.absf (subf y zero1))))))

def logdec (r : FVec Ideal S4x8192x1280 .f32) (lam : FVec Ideal S2x1280 .f32) : FVec Ideal S4x8192x1280 .f32 :=
  mulf (mulf (full 0xC1000000#32) r) (wide (softp (Host.negf (row0 lam))))

section
variable (V : Valuation τ sig (Elt Ideal))

theorem at0_v2 : after hostOps0 V (Proc.devRef .tc main_v2) = ordered (V (Proc.devRef .tc main_arg0)) := rfl
theorem at0_c : after hostOps0 V (Proc.devRef .tc main_c) = constantI S_ 32 0#32 := rfl
theorem at1_v3 (h : V (Proc.devRef .tc main_c) = constantI S_ 32 0#32) : after hostOps0_1 V (Proc.devRef .tc main_v3) = padded (V (Proc.devRef .tc main_v2)) := by
  unfold padded; rw [← h]; rfl
theorem at2_v33 : after hostOps0_2 V (Proc.devRef .tc main_v33) = conv (V (Proc.devRef .tc main_v3)) (V (Proc.devRef .tc main_arg1)) (V (Proc.devRef .tc main_arg2)) := by
  rfl
theorem at2_v68 : after hostOps0_2 V (Proc.devRef .tc main_v68) = mulf (full 0xC1000000#32) (gate (conv (V (Proc.devRef .tc main_v3)) (V (Proc.devRef .tc main_arg1)) (V (Proc.devRef .tc main_arg2))) (V (Proc.devRef .tc main_arg3)) (V (Proc.devRef .tc main_arg4))) := by
  rfl
theorem at2_v66 : after hostOps0_2 V (Proc.devRef .tc main_v66) = gate (conv (V (Proc.devRef .tc main_v3)) (V (Proc.devRef .tc main_arg1)) (V (Proc.devRef .tc main_arg2))) (V (Proc.devRef .tc main_arg5)) (V (Proc.devRef .tc main_arg6)) := by
  rfl
theorem at2_v71 : after hostOps0_2 V (Proc.devRef .tc main_v71) = Host.negf (row0 (V (Proc.devRef .tc main_arg7))) := by
  rfl
theorem at3_v72 : after hostOps0_3 V (Proc.devRef .tc main_v72) = softp (V (Proc.devRef .tc main_v71)) := rfl
theorem at4_0 : after hostOps0_4 V (Proc.devRef .tc main_v86_0) = Host.exp (mulf (V (Proc.devRef .tc main_v68) : FVec Ideal S4x8192x1280 .f32) (wide (V (Proc.devRef .tc main_v72)))) := rfl
theorem at4_1 : after hostOps0_4 V (Proc.devRef .tc main_v86_1) =
    mulf (Host.sqrt (Host.negf (Host.expm1 (mulf (full 0x40000000#32) (mulf (V (Proc.devRef .tc main_v68) : FVec Ideal S4x8192x1280 .f32) (wide (V (Proc.devRef .tc main_v72))))))))
      (mulf (V (Proc.devRef .tc main_v66) : FVec Ideal S4x8192x1280 .f32) (V (Proc.devRef .tc main_v33))) := rfl
theorem at4_3 : after hostOps0_4 V (Proc.devRef .tc main_v86_3) = fun _ => BitVec.ofNat 32 0 := rfl
theorem at4_4 : after hostOps0_4 V (Proc.devRef .tc main_v86_4) = (shapeCast S4x1280 (V (Proc.devRef .tc main_arg8)) Facts₀.shapeCasts_S4x1x1280_S4x1280 : FVec Ideal S4x1280 .f32) := rfl
end

/-! ## Entry by entry -/

section
variable (x : FVec Ideal S4x8192x1280 .f32) (b : Fin 4) (n : Fin 8192) (q : Fin 1280)

theorem ordered_apply : ordered x (ix3 b n q) = x (ix3 b ⟨512 * (n / 512) + (8 * (n % 64) + n / 64 % 8), by omega⟩ q) := by
  unfold ordered
  have h1 : ∀ y : FVec Ideal S4x16x8x64x1280 .f32, shapeCast S4x8192x1280 y Facts₀.shapeCasts_S4x16x8x64x1280_S4x8192x1280 (ix3 b n q) =
      y (ix5 b ⟨n / 512, by omega⟩ ⟨n / 64 % 8, by omega⟩ ⟨n % 64, by omega⟩ q) := fun y => by
    refine congrArg y (Shape.reshapeEquiv_eq_of_rowMajor Facts₀.shapeCasts_S4x16x8x64x1280_S4x8192x1280 ?_)
    simp only [Shape.rowMajor_val_three, Shape.rowMajor_val_five]
    show (((b.val * 16 + n.val / 512) * 8 + n.val / 64 % 8) * 64 + n.val % 64) * 1280 + q.val = (b.val * 8192 + n.val) * 1280 + q.val
    omega
  have h2 : shapeCast S4x16x64x8x1280 x Facts₀.shapeCasts_S4x8192x1280_S4x16x64x8x1280 (ix5 b ⟨n / 512, by omega⟩ ⟨n % 64, by omega⟩ ⟨n / 64 % 8, by omega⟩ q) =
      x (ix3 b ⟨512 * (n / 512) + (8 * (n % 64) + n / 64 % 8), by omega⟩ q) := by
    refine congrArg x (Shape.reshapeEquiv_eq_of_rowMajor Facts₀.shapeCasts_S4x8192x1280_S4x16x64x8x1280 ?_)
    simp only [Shape.rowMajor_val_three, Shape.rowMajor_val_five]
    show (b.val * 8192 + (512 * (n.val / 512) + (8 * (n.val % 64) + n.val / 64 % 8))) * 1280 + q.val = (((b.val * 16 + n.val / 512) * 64 + n.val % 64) * 8 + n.val / 64 % 8) * 1280 + q.val
    omega
  rw [h1, ← h2]
  generalize shapeCast S4x16x64x8x1280 _ _ = y
  pointwise

theorem padded_apply (n : Fin 8195) : padded x (ix3 b n q) = if h : 2 ≤ n.val ∧ n.val < 8194 then x (ix3 b ⟨n - 2, by omega⟩ q) else 0 := by
  have hz : (FloatOps.sitofp .f32 (0#32 : BitVec 32) : Ideal .f32) = 0 := by
    show (((0#32 : BitVec 32).toInt : ℝ) : EReal) = 0
    simp
  pointwise [padded]
  rw [hz]
  by_cases h : 2 ≤ n.val ∧ n.val < 8194
  · rw [dif_pos h, dif_pos ⟨h.1, by omega⟩]
  · rw [dif_neg h, dif_neg fun g => h ⟨g.1, by omega⟩]

theorem wide_apply (v : FVec Ideal S1280 .f32) : wide v (ix3 b n q) = v (ix1 q) := by
  pointwise [wide]

theorem row0_apply (v : FVec Ideal S2x1280 .f32) : row0 v (ix1 q) = v (ix2 0 q) := by
  pointwise [row0]

theorem conv_apply (p : FVec Ideal S4x8195x1280 .f32) (w : FVec Ideal S4x1280 .f32) (cb : FVec Ideal S1280 .f32) : conv p w cb (ix3 b n q) =
    p (ix3 b ⟨n, by omega⟩ q) * w (ix2 0 q) + p (ix3 b ⟨n + 1, by omega⟩ q) * w (ix2 1 q) + p (ix3 b ⟨n + 2, by omega⟩ q) * w (ix2 2 q) +
      p (ix3 b ⟨n + 3, by omega⟩ q) * w (ix2 3 q) + cb (ix1 q) := by
  pointwise [conv, wide]
  simp only [Nat.add_comm]

theorem lin_apply (w : FVec Ideal S2x10x128x128 .f32) (k : Fin 10) (l : Fin 128) :
    lin x w (ix3 b n ⟨128 * k + l, by omega⟩) = ∑ d : Fin 128, w (ix4 0 k d l) * x (ix3 b n ⟨128 * k + d, by omega⟩) := by
  have h1 : ∀ y : FVec Ideal S4x8192x10x128 .f32, shapeCast S4x8192x1280 y Facts₀.shapeCasts_S4x8192x10x128_S4x8192x1280 (ix3 b n ⟨128 * k + l, by omega⟩) =
      y (ix4 b n k l) := fun y => by
    refine congrArg y (Shape.reshapeEquiv_eq_of_rowMajor Facts₀.shapeCasts_S4x8192x10x128_S4x8192x1280 ?_)
    simp only [Shape.rowMajor_val_three, Shape.rowMajor_val_four]
    show ((b.val * 8192 + n.val) * 10 + k.val) * 128 + l.val = (b.val * 8192 + n.val) * 1280 + (128 * k.val + l.val)
    omega
  have h2 : ∀ d : Fin 128, shapeCast S4x8192x10x128 x Facts₀.shapeCasts_S4x8192x1280_S4x8192x10x128 (ix4 b n k d) = x (ix3 b n ⟨128 * k + d, by omega⟩) := fun d => by
    refine congrArg x (Shape.reshapeEquiv_eq_of_rowMajor Facts₀.shapeCasts_S4x8192x1280_S4x8192x10x128 ?_)
    simp only [Shape.rowMajor_val_three, Shape.rowMajor_val_four]
    show (b.val * 8192 + n.val) * 1280 + (128 * k.val + d.val) = ((b.val * 8192 + n.val) * 10 + k.val) * 128 + d.val
    omega
  unfold lin
  rw [h1]
  simp only [← h2]
  generalize shapeCast S4x8192x10x128 x _ = y
  pointwise

theorem gate_apply (w : FVec Ideal S2x10x128x128 .f32) (a : FVec Ideal S2x1280 .f32) : gate x w a (ix3 b n q) = sigL (lin x w (ix3 b n q) + a (ix2 0 q)) := by
  unfold gate
  generalize lin x w = y
  pointwise [full, wide, row0, sigL]

theorem softp_apply (y : FVec Ideal S1280 .f32) : softp y (ix1 q) = soft (y (ix1 q)) := by
  pointwise [softp, zero1, soft]
  exact if_neg fun h => h rfl

end

end LruRef
-- ==== Proof.LruLoop.lean ====
/- The reference's loop over a sequence's tokens: what its trips make of the state and of the states kept. -/
module

public import Idealize.ShloMosaic.Lib.Pointwise
public import Idealize.ShloMosaic.Lib.WordCmp
public import Idealize.ShloMosaic.Lib.DynamicIndex
public import proofs.«01_k».proof.Proof.Decay
public import proofs.«01_k».proof.Proof.Gen.LruFwdRefIdeal.Run

@[expose] public section

set_option maxRecDepth 100000

noncomputable section

namespace LruRef

open Cert.LruFwdRefIdeal Cert.LruFwdRefIdeal.Gen Cert.LruFwdRefIdeal.Value Idealize.ShloMosaic Idealize.ShloMosaic.TcCoe Idealize.ShloMosaic.StableHlo Rows

/-- The place a trip reads and writes: token `n` of every sequence. -/
theorem start (v : (⟨S_, .i32⟩ : BufTy).Contents (Elt Ideal)) (n : ℕ) (hn : n < 8192) (hv : v = fun _ => BitVec.ofNat 32 n) :
    ∀ a : Fin 3, (((![constantI S_ 32 0#32, select (cmpi .slt v (constantI S_ 32 0#32)) (addi (id v) (constantI S_ 32 8192#32)) v, constantI S_ 32 0#32] :
      Fin 3 → (⟨S_, .i32⟩ : BufTy).Contents (Elt Ideal))) a (Shape.Idx.first h_S_)).toInt = (((![0, n, 0] : Fin 3 → ℕ) a : ℕ) : Int) := by
  have h1 : BitVec.toInt (select (cmpi .slt v (constantI S_ 32 0#32)) (addi (id v) (constantI S_ 32 8192#32)) v (Shape.Idx.first h_S_)) = (n : Int) := by
    subst hv
    exact toInt_wrap_ofNat n (by omega)
  have h0 : BitVec.toInt (0#32) = ((0 : ℕ) : Int) := by decide
  intro a
  rcases a with ⟨_ | _ | _ | a, ha⟩
  · exact h0
  · exact h1
  · exact h0
  · omega

theorem pick (x : Vec Ideal S4x8192x1280 .f32) (s : Fin 3 → Int) (h : S4x8192x1280.Slices (fun _ => 0) S4x1x1280) (n : Fin 8192)
    (e : ∀ a, s a = (((![0, n.val, 0] : Fin 3 → ℕ) a : ℕ) : Int)) (b : Fin 4) (q : Fin 1280) :
    shapeCast S4x1280 (Host.dynamicSlice S4x1x1280 x s h) Facts₀.shapeCasts_S4x1x1280_S4x1280 (ix2 b q) = x (ix3 b n q) := by
  have hk : S4x8192x1280.Slices ![0, n.val, 0] S4x1x1280 := ⟨rfl, fun a => match a with
    | 0 => by show 0 + 4 ≤ 4; omega
    | 1 => by show n.val + 1 ≤ 8192; omega
    | 2 => by show 0 + 1280 ≤ 1280; omega⟩
  rw [Host.dynamicSlice_eq_extractStridedSlice S4x1x1280 x s ![0, n.val, 0] h hk e]
  pointwise

theorem put (x : Vec Ideal S4x8192x1280 .f32) (u : Vec Ideal S4x1280 .f32) (s : Fin 3 → Int) (h : S4x8192x1280.Slices (fun _ => 0) S4x1x1280) (n : Fin 8192)
    (e : ∀ a, s a = (((![0, n.val, 0] : Fin 3 → ℕ) a : ℕ) : Int)) (b : Fin 4) (t : Fin 8192) (q : Fin 1280) :
    Host.dynamicUpdateSlice x (broadcastInDim S4x1x1280 ![0, 2] Facts₀.bcast_S4x1280_S4x1x1280_0_2 u) s h (ix3 b t q) =
      if t = n then u (ix2 b q) else x (ix3 b t q) := by
  have hk : S4x8192x1280.Slices ![0, n.val, 0] S4x1x1280 := ⟨rfl, fun a => match a with
    | 0 => by show 0 + 4 ≤ 4; omega
    | 1 => by show n.val + 1 ≤ 8192; omega
    | 2 => by show 0 + 1280 ≤ 1280; omega⟩
  rw [WordCmp.dynamicUpdateSlice_eq_update x _ s h ![0, n.val, 0] hk e]
  clear e
  pointwise
  by_cases ht : t = n
  · rw [if_pos ht, dif_pos (by subst ht; omega)]
  · rw [if_neg ht, dif_neg fun g => ht (Fin.ext (by omega))]

section
variable (V : Valuation τ sig (Elt Ideal))

/-- A channel's decay and input, step by step. -/
def av (b : Fin 4) (q : Fin 1280) (n : ℕ) : EReal := if h : n < 8192 then (V (Proc.devRef .tc main_v86_0) : Vec Ideal S4x8192x1280 .f32) (ix3 b ⟨n, h⟩ q) else 0
def bv (b : Fin 4) (q : Fin 1280) (n : ℕ) : EReal := if h : n < 8192 then (V (Proc.devRef .tc main_v86_1) : Vec Ideal S4x8192x1280 .f32) (ix3 b ⟨n, h⟩ q) else 0
def hv (b : Fin 4) (q : Fin 1280) : EReal := (V (Proc.devRef .tc main_v86_4) : Vec Ideal S4x1280 .f32) (ix2 b q)

/-- One trip's state. -/
theorem trip_state (n : ℕ) (hn : n < 8192) (hi : V (Proc.devRef .tc main_v86_3) = fun _ => BitVec.ofNat 32 n) (b : Fin 4) (q : Fin 1280) :
    (res_main_while0b_v94 V : Vec Ideal S4x1280 .f32) (ix2 b q) = av V b q n * hv V b q + bv V b q n := by
  unfold av bv hv
  rw [dif_pos hn, dif_pos hn]
  refine congrArg₂ (· + ·) (congrArg (· * _) ?_) ?_
  · exact pick _ _ _ ⟨n, hn⟩ (start _ n hn hi) b q
  · exact pick _ _ _ ⟨n, hn⟩ (start _ n hn hi) b q

theorem trip_kept (n : ℕ) (hn : n < 8192) (hi : V (Proc.devRef .tc main_v86_3) = fun _ => BitVec.ofNat 32 n) (b : Fin 4) (t : Fin 8192) (q : Fin 1280) :
    (step_main_v86_5 V : Vec Ideal S4x8192x1280 .f32) (ix3 b t q) =
      if t = ⟨n, hn⟩ then (res_main_while0b_v94 V : Vec Ideal S4x1280 .f32) (ix2 b q) else (V (Proc.devRef .tc main_v86_5) : Vec Ideal S4x8192x1280 .f32) (ix3 b t q) :=
  put _ _ _ Facts₀.updateFits_S4x8192x1280_S4x1x1280 ⟨n, hn⟩ (start _ n hn hi) b t q

/-- After `k` trips: the counter, the state, and the states kept. -/
theorem trips (hi : V (Proc.devRef .tc main_v86_3) = fun _ => BitVec.ofNat 32 0) (k : ℕ) (hk : k ≤ 8192) :
    (STEP^[k] V) (Proc.devRef .tc main_v86_0) = V (Proc.devRef .tc main_v86_0) ∧ (STEP^[k] V) (Proc.devRef .tc main_v86_1) = V (Proc.devRef .tc main_v86_1) ∧
    (STEP^[k] V) (Proc.devRef .tc main_v86_3) = (fun _ => BitVec.ofNat 32 k) ∧
    (∀ b q, hv (STEP^[k] V) b q = run (av V b q) (bv V b q) (hv V b q) k) ∧
    (∀ b (t : Fin 8192) q, t.val < k → ((STEP^[k] V) (Proc.devRef .tc main_v86_5) : Vec Ideal S4x8192x1280 .f32) (ix3 b t q) = run (av V b q) (bv V b q) (hv V b q) (t.val + 1)) := by
  induction k with
  | zero => exact ⟨rfl, rfl, hi, fun b q => rfl, fun b t q h => absurd h (Nat.not_lt_zero _)⟩
  | succ k ih =>
    obtain ⟨i0, i1, i3, i4, i5⟩ := ih (by omega)
    rw [Function.iterate_succ_apply']
    generalize STEP^[k] V = W at i0 i1 i3 i4 i5 ⊢
    have ha : av W = av V := by unfold av; rw [i0]
    have hb : bv W = bv V := by unfold bv; rw [i1]
    have hs : ∀ b q, (res_main_while0b_v94 W : Vec Ideal S4x1280 .f32) (ix2 b q) = run (av V b q) (bv V b q) (hv V b q) (k + 1) := fun b q => by
      rw [trip_state W k (by omega) i3 b q, ha, hb, i4]
      rfl
    refine ⟨(STEP_main_v86_0 W).trans i0, (STEP_main_v86_1 W).trans i1, (STEP_main_v86_3 W).trans ?_, fun b q => ?_, fun b t q ht => ?_⟩
    · unfold step_main_v86_3
      rw [i3]
      funext j
      show BitVec.ofNat 32 k + 1#32 = BitVec.ofNat 32 (k + 1)
      exact (BitVec.ofNat_add ..).symm
    · unfold hv
      rw [STEP_main_v86_4]
      exact hs b q
    · rw [STEP_main_v86_5, trip_kept W k (by omega) i3]
      by_cases h : t = ⟨k, by omega⟩
      · rw [if_pos h, hs, h]
      · rw [if_neg h]
        exact i5 b t q (by have : t.val ≠ k := fun e => h (Fin.ext e); omega)
end

end LruRef
-- ==== Proof.LruRefVal.lean ====
/- The reference's result: the states of the recurrence, each where its token lies. -/
module

public import proofs.«01_k».proof.Proof.LruPre
public import proofs.«01_k».proof.Proof.LruLoop
public import proofs.«01_k».proof.Proof.LruArr

@[expose] public section

set_option maxRecDepth 100000

noncomputable section

namespace LruRef

open Cert.LruFwdRefIdeal Cert.LruFwdRefIdeal.Gen Cert.LruFwdRefIdeal.Value Idealize.ShloMosaic Idealize.ShloMosaic.TcCoe Idealize.ShloMosaic.StableHlo Rows

section
variable (x : FVec Ideal S4x8192x1280 .f32) (w : FVec Ideal S4x1280 .f32) (cb : FVec Ideal S1280 .f32) (wa : FVec Ideal S2x10x128x128 .f32) (ba : FVec Ideal S2x1280 .f32)
  (wx : FVec Ideal S2x10x128x128 .f32) (bx lam : FVec Ideal S2x1280 .f32) (b : Fin 4) (n : Fin 8192)

theorem line_eq (m : Fin 8195) (q : Fin 1280) : padded (ordered x) (ix3 b m q) = LruBlock.line x b m q := by
  rw [padded_apply]
  unfold LruBlock.line
  by_cases h : 2 ≤ m.val ∧ m.val < 8194
  · rw [dif_pos h, dif_pos h, ordered_apply]
    rfl
  · rw [dif_neg h, dif_neg h]

/-- The convolved sequences. -/
def seqs : FVec Ideal S4x8192x1280 .f32 := conv (padded (ordered x)) w cb

theorem seqs_apply (q : Fin 1280) : seqs x w cb (ix3 b n q) = LruBlock.cv x w cb b n q := by
  unfold seqs LruBlock.cv
  rw [conv_apply, line_eq, line_eq, line_eq, line_eq]
  simp only [mul_comm (LruBlock.line x b _ q)]
  rw [add_comm _ (cb (ix1 q))]
  simp only [add_assoc]

theorem gate_eq (k : Fin 10) (l : Fin 128) : gate (seqs x w cb) wa ba (ix3 b n ⟨128 * k + l, by omega⟩) = sigT (LruBlock.gt x w cb wa ba b n k l) := by
  rw [gate_apply, lin_apply, sigT_eq]
  unfold LruBlock.gt
  refine congrArg sigL (congrArg (· + _) (Finset.sum_congr rfl fun d _ => ?_))
  rw [seqs_apply, mul_comm]

theorem logdec_apply (g : FVec Ideal S4x8192x1280 .f32) (q : Fin 1280) : logdec g lam (ix3 b n q) = Rows.slope (g (ix3 b n q)) (lam (ix2 0 q)) := by
  have h : logdec g lam (ix3 b n q) = rate * g (ix3 b n q) * wide (softp (Host.negf (row0 lam))) (ix3 b n q) := rfl
  have h2 : Host.negf (row0 lam) (ix1 q) = -(row0 lam (ix1 q)) := rfl
  rw [h, wide_apply, softp_apply, h2, row0_apply]
  unfold Rows.slope
  rw [mul_comm rate, mul_assoc]

theorem decay_eq (k : Fin 10) (l : Fin 128) :
    Host.exp (logdec (gate (seqs x w cb) wa ba) lam) (ix3 b n ⟨128 * k + l, by omega⟩) = LruBlock.dcy x w cb wa ba lam b k l n := by
  show Ideal.exp (logdec _ lam _) = _
  rw [logdec_apply, gate_eq]
  rfl

theorem input_eq (k : Fin 10) (l : Fin 128) :
    mulf (Host.sqrt (Host.negf (Host.expm1 (mulf (full 0x40000000#32) (logdec (gate (seqs x w cb) wa ba) lam))))) (mulf (gate (seqs x w cb) wx bx) (seqs x w cb))
      (ix3 b n ⟨128 * k + l, by omega⟩) = LruBlock.ipt x w cb wa ba wx bx lam b k l n := by
  show Ideal.sqrt (-(Ideal.exp (Ideal.ofBits .f32 0x40000000#32 * logdec _ lam _) - 1)) * (gate _ wx bx _ * seqs x w cb _) = _
  rw [logdec_apply, gate_eq, gate_eq, seqs_apply, ← gain_eq (slope_nonpos (by rw [sigT_eq]; exact sigL_nonneg _) _)]
  rfl
end

/-! ## The contents at the loop's entry -/

section
variable (V : Valuation τ sig (Elt Ideal))

theorem keep3_v68 : after hostOps0_3 V (Proc.devRef .tc main_v68) = V (Proc.devRef .tc main_v68) :=
  after_of_writes_sub hostOps0_3 V hostOps0_3_writes (by decide +kernel)
theorem keep3_v66 : after hostOps0_3 V (Proc.devRef .tc main_v66) = V (Proc.devRef .tc main_v66) :=
  after_of_writes_sub hostOps0_3 V hostOps0_3_writes (by decide +kernel)
theorem keep3_v33 : after hostOps0_3 V (Proc.devRef .tc main_v33) = V (Proc.devRef .tc main_v33) :=
  after_of_writes_sub hostOps0_3 V hostOps0_3_writes (by decide +kernel)

/-- The contents after everything that precedes the loop. -/
def entry : Valuation τ sig (Elt Ideal) := after hostOps0_4 (after hostOps0_3 (after hostOps0_2 (after hostOps0_1 (after hostOps0 V))))

theorem before2_v3 : after hostOps0_1 (after hostOps0 V) (Proc.devRef .tc main_v3) = padded (ordered (V (Proc.devRef .tc main_arg0))) :=
  (at1_v3 _ (at0_c V)).trans (congrArg padded (at0_v2 V))

theorem entry_0 : entry V (Proc.devRef .tc main_v86_0) =
    Host.exp (logdec (gate (seqs (V (Proc.devRef .tc main_arg0)) (V (Proc.devRef .tc main_arg1)) (V (Proc.devRef .tc main_arg2))) (V (Proc.devRef .tc main_arg3)) (V (Proc.devRef .tc main_arg4))) (V (Proc.devRef .tc main_arg7))) := by
  unfold entry
  rw [at4_0, keep3_v68, at2_v68, at3_v72, at2_v71, before2_v3, keep_main_arg1_hostOps0_1, keep_main_arg1_hostOps0, keep_main_arg2_hostOps0_1, keep_main_arg2_hostOps0,
    keep_main_arg3_hostOps0_1, keep_main_arg3_hostOps0, keep_main_arg4_hostOps0_1, keep_main_arg4_hostOps0, keep_main_arg7_hostOps0_1, keep_main_arg7_hostOps0]
  rfl

theorem entry_1 : entry V (Proc.devRef .tc main_v86_1) =
    mulf (Host.sqrt (Host.negf (Host.expm1 (mulf (full 0x40000000#32) (logdec (gate (seqs (V (Proc.devRef .tc main_arg0)) (V (Proc.devRef .tc main_arg1)) (V (Proc.devRef .tc main_arg2))) (V (Proc.devRef .tc main_arg3)) (V (Proc.devRef .tc main_arg4))) (V (Proc.devRef .tc main_arg7)))))))
      (mulf (gate (seqs (V (Proc.devRef .tc main_arg0)) (V (Proc.devRef .tc main_arg1)) (V (Proc.devRef .tc main_arg2))) (V (Proc.devRef .tc main_arg5)) (V (Proc.devRef .tc main_arg6)))
        (seqs (V (Proc.devRef .tc main_arg0)) (V (Proc.devRef .tc main_arg1)) (V (Proc.devRef .tc main_arg2)))) := by
  unfold entry
  rw [at4_1, keep3_v68, keep3_v66, keep3_v33, at2_v68, at2_v66, at2_v33, at3_v72, at2_v71, before2_v3, keep_main_arg1_hostOps0_1, keep_main_arg1_hostOps0, keep_main_arg2_hostOps0_1, keep_main_arg2_hostOps0,
    keep_main_arg3_hostOps0_1, keep_main_arg3_hostOps0, keep_main_arg4_hostOps0_1, keep_main_arg4_hostOps0, keep_main_arg5_hostOps0_1, keep_main_arg5_hostOps0,
    keep_main_arg6_hostOps0_1, keep_main_arg6_hostOps0, keep_main_arg7_hostOps0_1, keep_main_arg7_hostOps0]
  rfl

theorem entry_3 : entry V (Proc.devRef .tc main_v86_3) = fun _ => BitVec.ofNat 32 0 := at4_3 _

theorem entry_4 : entry V (Proc.devRef .tc main_v86_4) = (shapeCast S4x1280 (V (Proc.devRef .tc main_arg8)) Facts₀.shapeCasts_S4x1x1280_S4x1280 : FVec Ideal S4x1280 .f32) := by
  unfold entry
  rw [at4_4, keep_main_arg8_hostOps0_3, keep_main_arg8_hostOps0_2, keep_main_arg8_hostOps0_1, keep_main_arg8_hostOps0]

/-- The states the loop keeps are the recurrence's. -/
theorem kept (b : Fin 4) (t : Fin 8192) (k : Fin 10) (l : Fin 128) :
    ((STEP^[8192] (entry V)) (Proc.devRef .tc main_v86_5) : Vec Ideal S4x8192x1280 .f32) (ix3 b t ⟨128 * k + l, by omega⟩) =
      LruBlock.state (V (Proc.devRef .tc main_arg0)) (V (Proc.devRef .tc main_arg1)) (V (Proc.devRef .tc main_arg2)) (V (Proc.devRef .tc main_arg3)) (V (Proc.devRef .tc main_arg4))
        (V (Proc.devRef .tc main_arg5)) (V (Proc.devRef .tc main_arg6)) (V (Proc.devRef .tc main_arg7)) (V (Proc.devRef .tc main_arg8)) b k l (t.val + 1) := by
  rw [(trips (entry V) (entry_3 V) 8192 (le_refl _)).2.2.2.2 b t _ t.isLt]
  unfold LruBlock.state
  have hh : hv (entry V) b ⟨128 * k + l, by omega⟩ = (V (Proc.devRef .tc main_arg8) : FVec Ideal S4x1x1280 .f32) (ix3 b 0 ⟨128 * k + l, by omega⟩) := by
    unfold hv
    rw [entry_4]
    generalize (V (Proc.devRef .tc main_arg8) : FVec Ideal S4x1x1280 .f32) = y
    pointwise
  rw [hh]
  refine run_congr _ (fun n hn => ?_) fun n hn => ?_
  · have hn' : n < 8192 := by omega
    unfold av
    rw [dif_pos hn', entry_0]
    exact decay_eq _ _ _ _ _ _ b ⟨n, hn'⟩ k l
  · have hn' : n < 8192 := by omega
    unfold bv
    rw [dif_pos hn', entry_1]
    exact input_eq _ _ _ _ _ _ _ _ b ⟨n, hn'⟩ k l

end

/-! ## The result -/

/-- Back to where the tokens lie. -/
theorem laid (y : FVec Ideal S4x8192x1280 .f32) (b : Fin 4) (r : Fin 8192) (q : Fin 1280) :
    shapeCast S4x8192x1280 (transpose S4x16x64x8x1280 [0, 1, 3, 2, 4] (shapeCast S4x16x8x64x1280 y Facts₀.shapeCasts_S4x8192x1280_S4x16x8x64x1280)
      Facts₀.transposes_S4x16x8x64x1280_S4x16x64x8x1280_0_1_3_2_4) Facts₀.shapeCasts_S4x16x64x8x1280_S4x8192x1280 (ix3 b r q) =
      y (ix3 b ⟨512 * (r / 512) + (64 * (r % 8) + r % 512 / 8), by omega⟩ q) := by
  have h1 : ∀ z : FVec Ideal S4x16x64x8x1280 .f32, shapeCast S4x8192x1280 z Facts₀.shapeCasts_S4x16x64x8x1280_S4x8192x1280 (ix3 b r q) =
      z (ix5 b ⟨r / 512, by omega⟩ ⟨r % 512 / 8, by omega⟩ ⟨r % 8, by omega⟩ q) := fun z => by
    refine congrArg z (Shape.reshapeEquiv_eq_of_rowMajor Facts₀.shapeCasts_S4x16x64x8x1280_S4x8192x1280 ?_)
    simp only [Shape.rowMajor_val_three, Shape.rowMajor_val_five]
    show (((b.val * 16 + r.val / 512) * 64 + r.val % 512 / 8) * 8 + r.val % 8) * 1280 + q.val = (b.val * 8192 + r.val) * 1280 + q.val
    omega
  have h2 : shapeCast S4x16x8x64x1280 y Facts₀.shapeCasts_S4x8192x1280_S4x16x8x64x1280 (ix5 b ⟨r / 512, by omega⟩ ⟨r % 8, by omega⟩ ⟨r % 512 / 8, by omega⟩ q) =
      y (ix3 b ⟨512 * (r / 512) + (64 * (r % 8) + r % 512 / 8), by omega⟩ q) := by
    refine congrArg y (Shape.reshapeEquiv_eq_of_rowMajor Facts₀.shapeCasts_S4x8192x1280_S4x16x8x64x1280 ?_)
    simp only [Shape.rowMajor_val_three, Shape.rowMajor_val_five]
    show (b.val * 8192 + (512 * (r.val / 512) + (64 * (r.val % 8) + r.val % 512 / 8))) * 1280 + q.val = (((b.val * 16 + r.val / 512) * 8 + r.val % 8) * 64 + r.val % 512 / 8) * 1280 + q.val
    omega
  rw [h1, ← h2]
  generalize shapeCast S4x16x8x64x1280 _ _ = z
  pointwise

theorem result (V : Valuation τ sig (Elt Ideal)) : out_main_v89 (STEP^[8192] (entry V)) =
    LruBlock.G (V (Proc.devRef .tc main_arg0)) (V (Proc.devRef .tc main_arg1)) (V (Proc.devRef .tc main_arg2)) (V (Proc.devRef .tc main_arg3)) (V (Proc.devRef .tc main_arg4))
      (V (Proc.devRef .tc main_arg5)) (V (Proc.devRef .tc main_arg6)) (V (Proc.devRef .tc main_arg7)) (V (Proc.devRef .tc main_arg8)) := by
  funext i
  obtain ⟨b, r, q, rfl⟩ : ∃ (b : Fin 4) (r : Fin 8192) (q : Fin 1280), i = (ix3 b r q : S4x8192x1280.Idx) := ⟨i 0, i 1, i 2, by idx_ext⟩
  refine (laid _ b r q).trans ?_
  have hq : q = ⟨128 * (⟨q.val / 128, by omega⟩ : Fin 10).val + (⟨q.val % 128, by omega⟩ : Fin 128).val, by simp only []; omega⟩ := Fin.ext (by simp only []; omega)
  have h := kept V b ⟨512 * (r / 512) + (64 * (r % 8) + r % 512 / 8), by omega⟩ ⟨q.val / 128, by omega⟩ ⟨q.val % 128, by omega⟩
  rw [← hq] at h
  exact h

theorem final (m : (ℓ : Loc nD τ sig) → Buf (Elt Ideal) ℓ) (c : Dev nD) : out_main_v89 (STEP^[8192] (entryContents preI m c)) =
    LruBlock.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8)) := by
  simp only [entryContents, afterL_cons, afterL_nil]
  exact result _

end LruRef
-- ==== Proof.LruFwd.lean ====
/- The claims on the forward recurrence. -/
module

public import proofs.«01_k».proof.Defs
public import proofs.«01_k».proof.Proof.LruArr
public import proofs.«01_k».proof.Proof.LruRefVal
public import proofs.«01_k».proof.Proof.Gen.LruFwd.Frame
public import proofs.«01_k».proof.Proof.Gen.LruFwdIdeal.Value
public import proofs.«01_k».proof.Proof.Gen.LruFwdRefIdeal.Run
public import Idealize.ShloMosaic.Lib.Quiescent

@[expose] public section

noncomputable section

open Idealize.ShloMosaic Idealize.ShloMosaic.TcCoe Idealize.SL.Sem

namespace Cert.LruFwdClaims

instance : Cert.LruFwd.Facts := Cert.LruFwd.Gen.facts
instance : Cert.LruFwdIdeal.Facts := Cert.LruFwdIdeal.Gen.facts
instance : Cert.LruFwdRefIdeal.Facts := Cert.LruFwdRefIdeal.Gen.facts

theorem frame_p : Cert.quiescent_LruFwd := fun m ρ _ => Cert.LruFwd.Gen.frame m ρ
theorem frame_pi : Cert.quiescent_LruFwdIdeal := fun m ρ _ => Cert.LruFwdIdeal.Gen.frame m ρ
theorem frame_ri : Cert.quiescent_LruFwdRefIdeal := fun m ρ _ =>
  (θ_run Cert.LruFwdRefIdeal.defs _ _).mono (fun r h => ⟨fun c => (h c).2, sem_eq_zero_of_no_sems (by decide) r.2⟩)
    (Cert.LruFwdRefIdeal.Value.run (F := Ideal) m ρ)

theorem algebraic : Cert.algebraic_LruFwdIdeal_LruFwdRefIdeal := by
  intro m ρ m' ρ' _ hagree
  refine ⟨_, (θ_run Cert.LruFwdIdeal.defs _ _).mono (fun r h c => ⟨(h c).1, (h c).2.2⟩) (Cert.LruFwdIdeal.Value.run_blocks (F := Ideal) m ρ), ?_⟩
  refine (θ_run Cert.LruFwdRefIdeal.defs _ _).mono (fun r h c => ⟨?_, (h c).2⟩) (Cert.LruFwdRefIdeal.Value.run (F := Ideal) m' ρ')
  obtain ⟨a0, a1, a2, a3, a4, a5, a6, a7, a8⟩ := hagree c
  refine (h c).1.trans ((LruRef.final m' c).trans ?_)
  rw [a0, a1, a2, a3, a4, a5, a6, a7, a8]
  exact (LruBlock.final9 m c).symm

end Cert.LruFwdClaims

end
-- ==== Proof.Finite3.lean ====
/- What the precondition says: every element of the arrays it names is a real number. -/
module

public import Idealize.ShloMosaic.Lib.Pointwise
public import proofs.«01_k».proof.Proof.Rows
public import proofs.«01_k».proof.Pre_ffn_ctx_finite

@[expose] public section

noncomputable section

open Idealize.ShloMosaic

namespace Cert.Pre_ffn_ctx_finite

/-- The broadcasts of a scalar hold of any shape. -/
theorem facts : Facts where
  bcast_S_S4x256x1024 := by decide
  bcast_S_S4x1x9216 := by decide
  bcast_S_S1024 := by decide
  bcast_S_S1024x5632 := by decide

variable [Facts] (x0 : FVec Ideal S4x256x1024 .f32) (x1 : FVec Ideal S4x1x9216 .f32) (x2 : FVec Ideal S1024 .f32)
  (x3 : FVec Ideal S1024x5632 .f32) (x4 : FVec Ideal S2816x1024 .f32)

theorem fine0 (h : (fn x0 x1 x2 x3 x4).1 = fun _ => 1#1) (i : S4x256x1024.Idx) : Rows.Fine (x0 i) := Rows.Fine.of_lt (congrFun h i)
theorem fine1 (h : (fn x0 x1 x2 x3 x4).2.1 = fun _ => 1#1) (i : S4x1x9216.Idx) : Rows.Fine (x1 i) := Rows.Fine.of_lt (congrFun h i)
theorem fine2 (h : (fn x0 x1 x2 x3 x4).2.2.1 = fun _ => 1#1) (i : S1024.Idx) : Rows.Fine (x2 i) := Rows.Fine.of_lt (congrFun h i)
theorem fine3 (h : (fn x0 x1 x2 x3 x4).2.2.2 = fun _ => 1#1) (i : S1024x5632.Idx) : Rows.Fine (x3 i) := Rows.Fine.of_lt (congrFun h i)

end Cert.Pre_ffn_ctx_finite

end
-- ==== Proof.FfnCtxKernel.lean ====
/- The kernel of the feed-forward call on the context tokens: what it stores at a grid point, row by row, and the array it leaves. -/
module

public import Idealize.ShloMosaic.Lib.Pointwise
public import proofs.«01_k».proof.Proof.Rows
public import Idealize.ShloMosaic.Lib.Pipeline.ValueKit.Geometry
public import Idealize.ShloMosaic.Lib.Pipeline.ValueKit.Acc
public import Idealize.ShloMosaic.Lib.Pipeline.ValueKit.Tiles
public import proofs.«01_k».proof.Proof.Gen.FfnCtxIdeal.Frame

@[expose] public section

set_option maxRecDepth 16384
noncomputable section
open Idealize.ShloMosaic Cert.FfnCtxIdeal Cert.FfnCtxIdeal.Gen
namespace Cert.FfnCtxIdeal.Rowwise

/-- One chunk of the hidden columns: the gated unit of two products, times the chunk's rows of the second matrix. -/
def chunk (h : FVec Ideal S256x1024 .bf16) (wg wu : Vec Ideal S1024x256 .bf16) (wd : Vec Ideal S256x1024 .bf16)
    (r : Fin 256) (d : Fin 1024) : EReal :=
  ∑ q : Fin 256, Rows.gateT (∑ k, h (ix2 r k) * wg (ix2 k q)) (∑ k, h (ix2 r k) * wu (ix2 k q)) * wd (ix2 q d)

theorem pay2 (x : Vec Ideal S1x256x1024 .f32) (r : Fin 256) (d : Fin 1024) : k0_pay2 x (ix2 r d) = x (ix3 0 r d) := by
  pointwise [k0_pay2]

theorem pay3 (a : Vec Ideal S1x1x1024 .f32) (d : Fin 1024) : k0_pay3 a (ix2 0 d) = a (ix3 0 0 d) := by
  pointwise [k0_pay3]

theorem pay4 (x : Vec Ideal S1x256x1024 .f32) (sh sc : Vec Ideal S1x1x1024 .f32) (g : Vec Ideal S1x1024 .f32) (r : Fin 256) (d : Fin 1024) :
    k0_pay4 x sh sc g (ix2 r d) = Rows.adj (fun k => x (ix3 0 r k)) (fun k => g (ix2 0 k)) (fun k => sc (ix3 0 0 k)) (fun k => sh (ix3 0 0 k)) d := by
  pointwise [k0_pay4, k0_pay2, Rows.adj, Rows.nrm, Rows.inv, Rows.len, Rows.eps]

theorem pay5 (x : Vec Ideal S1x256x1024 .f32) (sh sc : Vec Ideal S1x1x1024 .f32) (g : Vec Ideal S1x1024 .f32)
    (a : Vec Ideal S1024x256 .bf16) (r : Fin 256) (q : Fin 256) :
    k0_pay5 x sh sc g a (ix2 r q) = ∑ k, k0_pay4 x sh sc g (ix2 r k) * a (ix2 k q) := by
  pointwise [k0_pay5, k0_pay4]

section
variable (h : FVec Ideal S256x1024 .bf16) (acc : FVec Ideal S256x1024 .f32) (a b a' b' a2 b2 : Vec Ideal S1024x256 .bf16)
  (e e' e2 : Vec Ideal S256x1024 .bf16)

theorem pay7 (f : FVec Ideal S256x256 .f32) (hf : ∀ r q, f (ix2 r q) = ∑ k, h (ix2 r k) * a (ix2 k q)) (r : Fin 256) (d : Fin 1024) :
    k0_pay7 h f (k0_pay6 b) (constant S256x256 .f32 0x00000000#32) e a' b' e' (ix2 r d) = chunk h a b e r d + chunk h a' b' e' r d := by
  pointwise [k0_pay7, k0_pay6, chunk, Rows.gateT, Rows.half]
  simp only [hf]

theorem pay10 (r : Fin 256) (d : Fin 1024) :
    k0_pay10 h acc (k0_pay8 h b) (k0_pay9 h a) e a' b' e' (ix2 r d) = acc (ix2 r d) + chunk h a b e r d + chunk h a' b' e' r d := by
  pointwise [k0_pay10, k0_pay8, k0_pay9, chunk, Rows.gateT, Rows.half]

theorem pay13 (r : Fin 256) (d : Fin 1024) :
    k0_pay13 h acc (k0_pay11 h a b) (k0_pay12 e) a' b' e' a2 b2 e2 (ix2 r d) =
      acc (ix2 r d) + chunk h a b e r d + chunk h a' b' e' r d + chunk h a2 b2 e2 r d := by
  pointwise [k0_pay13, k0_pay11, k0_pay12, chunk, Rows.gateT, Rows.half]

theorem pay14 (r : Fin 256) (d : Fin 1024) :
    k0_pay14 h acc a b e a' b' e' (ix2 r d) = acc (ix2 r d) + chunk h a b e r d + chunk h a' b' e' r d := by
  pointwise [k0_pay14, chunk, Rows.gateT, Rows.half]

theorem pay16 (x : FVec Ideal S256x1024 .f32) (gt : FVec Ideal S1x1024 .f32) (r : Fin 256) (d : Fin 1024) :
    k0_pay16 x gt h acc (k0_pay15 h a) b e a' b' e' (ix2 r d) =
      x (ix2 r d) + Rows.half * gt (ix2 0 d) * (acc (ix2 r d) + chunk h a b e r d + chunk h a' b' e' r d) := by
  pointwise [k0_pay16, k0_pay15, chunk, Rows.gateT, Rows.half]

theorem pay18 (v : FVec Ideal S256x1024 .f32) (j : Fin 32) (d : Fin 1024) : k0_pay18 v (ix4 0 0 j d) = v (ix2 ⟨32 + j, by omega⟩ d) := by
  pointwise [k0_pay18]

theorem pay19 (v : FVec Ideal S256x1024 .f32) (j : Fin 32) (d : Fin 1024) : k0_pay19 v (ix4 0 0 j d) = v (ix2 ⟨64 + j, by omega⟩ d) := by
  pointwise [k0_pay19]

theorem pay20 (v : FVec Ideal S256x1024 .f32) (j : Fin 32) (d : Fin 1024) : k0_pay20 v (ix4 0 0 j d) = v (ix2 ⟨96 + j, by omega⟩ d) := by
  pointwise [k0_pay20]

theorem pay21 (v : FVec Ideal S256x1024 .f32) (j : Fin 32) (d : Fin 1024) : k0_pay21 v (ix4 0 0 j d) = v (ix2 ⟨128 + j, by omega⟩ d) := by
  pointwise [k0_pay21]

theorem pay22 (v : FVec Ideal S256x1024 .f32) (j : Fin 32) (d : Fin 1024) : k0_pay22 v (ix4 0 0 j d) = v (ix2 ⟨160 + j, by omega⟩ d) := by
  pointwise [k0_pay22]

theorem pay23 (v : FVec Ideal S256x1024 .f32) (j : Fin 32) (d : Fin 1024) : k0_pay23 v (ix4 0 0 j d) = v (ix2 ⟨192 + j, by omega⟩ d) := by
  pointwise [k0_pay23]

theorem pay24 (v : FVec Ideal S256x1024 .f32) (j : Fin 32) (d : Fin 1024) : k0_pay1 (k0_pay24 v) (ix4 0 0 j d) = v (ix2 ⟨224 + j, by omega⟩ d) := by
  pointwise [k0_pay1, k0_pay24]

theorem pay17 (x : FVec Ideal S256x1024 .f32) (gt : FVec Ideal S1x1024 .f32) (z : FVec Ideal S256x256 .f32) (j : Fin 32) (d : Fin 1024) :
    k0_pay17 x gt h acc z b e a' b' e' (ix4 0 0 j d) = k0_pay16 x gt h acc z b e a' b' e' (ix2 ⟨j, by omega⟩ d) := by
  have hs : k0_pay17 x gt h acc z b e a' b' e' = shapeCast S1x1x32x1024
    (extractStridedSlice S32x1024 ![0, 0] (k0_pay16 x gt h acc z b e a' b' e') slices_S256x1024_o0_0_S32x1024) shapeCasts_S32x1024_S1x1x32x1024 := rfl
  rw [hs]
  generalize k0_pay16 x gt h acc z b e a' b' e' = v
  pointwise

/-- A chunk over columns and rows at an offset is that part of the hidden columns. -/
theorem chunk_eq (r : Fin 256) (d : Fin 1024) {hr : Fin 1024 → EReal} {wu : Fin 1024 → Fin 5632 → EReal} {wd : Fin 2816 → Fin 1024 → EReal} {o : ℕ}
    {ho : o + 256 ≤ 2816} (hh : ∀ k, h (ix2 r k) = hr k) (ha : ∀ k q, a (ix2 k q) = wu k ⟨o + q, by omega⟩)
    (hb : ∀ k q, b (ix2 k q) = wu k ⟨2816 + (o + q), by omega⟩) (he : ∀ q, e (ix2 q d) = wd ⟨o + q, by omega⟩ d) :
    chunk h a b e r d = Rows.part Rows.gateT hr wu wd d o ho := by
  simp only [chunk, Rows.part, Rows.dot, hh, ha, hb, he]
end

section
variable (x0 : Vec Ideal S1x256x1024 .f32) (x1 : Vec Ideal S1x1x9216 .f32) (x2 : Vec Ideal S1x1024 .f32)
  (x3 : Vec Ideal S1024x5632 .bf16) (x4 : Vec Ideal S2816x1024 .bf16)

/-- The rows a grid point computes. -/
theorem rows (r : Fin 256) (d : Fin 1024) :
    k0_pay30 x0 x1 x2 x3 x4 (ix2 r d) =
      Rows.ffn Rows.gateT (fun k => x0 (ix3 0 r k)) (fun k => x2 (ix2 0 k))
        (fun k => x1 (ix3 0 0 ⟨1024 + k, by omega⟩)) (fun k => x1 (ix3 0 0 ⟨k, by omega⟩)) (fun k => x1 (ix3 0 0 ⟨2048 + k, by omega⟩))
        (fun k q => x3 (ix2 k q)) (fun q d => x4 (ix2 q d)) d := by
  unfold k0_pay30 k0_pay29 k0_pay28 k0_pay26 k0_pay25
  have hh : ∀ k, k0_pay27 x0 x1 x2 x3 x4 (ix2 r k) = Rows.adj (fun k => x0 (ix3 0 r k)) (fun k => x2 (ix2 0 k))
        (fun k => x1 (ix3 0 0 ⟨1024 + k, by omega⟩)) (fun k => x1 (ix3 0 0 ⟨k, by omega⟩)) k := fun k => by
    unfold k0_pay27
    rw [pay4]
    congr 1 <;> funext k <;> pointwise
  have hf : ∀ r q, k0_pay5 (View.ld x0 r0_0) (View.ld x1 r0_1) (View.ld x1 r0_2) (View.ld x2 r0_4) (View.ld x3 r0_5) (ix2 r q) =
      ∑ k, k0_pay27 x0 x1 x2 x3 x4 (ix2 r k) * View.ld x3 r0_5 (ix2 k q) := fun r q => pay5 _ _ _ _ _ r q
  rw [pay16, pay14, pay13, pay10, pay7 _ _ _ _ _ _ _ _ hf, Rows.ffn, Rows.sum_parts, pay2, pay3]
  generalize k0_pay27 (F := Ideal) _ _ _ _ _ = h at hh ⊢
  congr 1
  · pointwise
  congr 1
  · congr 1
    pointwise
  congr 1; congr 1; congr 1; congr 1; congr 1; congr 1; congr 1; congr 1; congr 1; congr 1
  all_goals
    refine chunk_eq _ _ _ _ _ _ hh ?_ ?_ ?_ <;> intros <;> pointwise <;>
      exact congrArg (fun n => x3 (ix2 _ n)) (Fin.mk.inj_iff.2 (by omega))

theorem block (j : Fin 32) (k : Fin 8192) :
    out0_5 x0 x1 x2 x3 x4 (ix4 0 0 j k) = k0_pay30 x0 x1 x2 x3 x4 (ix2 ⟨k / 1024 * 32 + j, by omega⟩ ⟨k % 1024, by omega⟩) := by
  unfold out0_5
  canon_tiles z e
  all_goals
    obtain ⟨j', d, rfl⟩ : ∃ (j' : Fin 32) (d : Fin 1024), z = (ix4 0 0 j' d : S1x1x32x1024.Idx) := ⟨z 2, z 3, by idx_ext⟩
    have f2 : (j : ℕ) = j' := e2
    first | (have f3 : (k : ℕ) = _ + (d : ℕ) := e3) | (have f3 : (k : ℕ) = d := e3)
    first | rw [pay24] | rw [pay18] | rw [pay19] | rw [pay20] | rw [pay21] | rw [pay22] | rw [pay23] | rw [pay17]
    refine congrArg₂ (fun a b => k0_pay30 x0 x1 x2 x3 x4 (ix2 a b)) (Fin.ext ?_) (Fin.ext ?_) <;> simp only [] <;> omega
end

/-- The token which a line of the context holds at a place: column block `k / 1024` of line `j` is token `32 (k / 1024) + j`. -/
def token (j : Fin 32) (k : Fin 8192) : Fin 256 := ⟨k / 1024 * 32 + j, by omega⟩

/-- The result, by the argument arrays: a line holds eight tokens side by side. -/
def G (act : EReal → EReal → EReal) (x : Vec Ideal S4x256x1024 .f32) (m : Vec Ideal S4x1x9216 .f32)
    (g : Vec Ideal S1024 .f32) (wu : Vec Ideal S1024x5632 .f32) (wd : Vec Ideal S2816x1024 .f32) : Vec Ideal S4x1x32x8192 .f32 := fun i =>
  Rows.ffn act (fun k => x (ix3 (i 0) (token (i 2) (i 3)) k)) (fun k => g (ix1 k))
    (fun k => m (ix3 (i 0) 0 ⟨1024 + k, by omega⟩)) (fun k => m (ix3 (i 0) 0 ⟨k, by omega⟩))
    (fun k => m (ix3 (i 0) 0 ⟨2048 + k, by omega⟩)) (fun k q => wu (ix2 k q)) (fun q d => wd (ix2 q d)) (Rows.column (i 3))

section
open Idealize.ShloMosaic.TcCoe
variable (m : (ℓ : Loc nD τ sig) → Buf (Elt Ideal) ℓ) (c : Dev nD)

set_option maxHeartbeats 1000000 in
theorem V_v0 (k : Fin 1024) (q : Fin 5632) : V m c main_v0 (ix2 k q) = m ((c : Thread nD τ).loc main_arg3) (ix2 k q) := by
  have h : V m c main_v0 = (truncf .bf16 (m ((c : Thread nD τ).loc main_arg3) : FVec Ideal S1024x5632 .f32) bitsLt_bf16_f32 : FVec Ideal S1024x5632 .bf16) := rfl
  rw [h]; pointwise

set_option maxHeartbeats 1000000 in
theorem V_v1 (q : Fin 2816) (d : Fin 1024) : V m c main_v1 (ix2 q d) = m ((c : Thread nD τ).loc main_arg4) (ix2 q d) := by
  have h : V m c main_v1 = (truncf .bf16 (m ((c : Thread nD τ).loc main_arg4) : FVec Ideal S2816x1024 .f32) bitsLt_bf16_f32 : FVec Ideal S2816x1024 .bf16) := rfl
  rw [h]; pointwise

set_option maxHeartbeats 1000000 in
theorem V_v2 (k : Fin 1024) : V m c main_v2 (ix2 0 k) = m ((c : Thread nD τ).loc main_arg2) (ix1 k) := by
  have h : V m c main_v2 = shapeCast S1x1024 (m ((c : Thread nD τ).loc main_arg2)) Facts₀.shapeCasts_S1024_S1x1024 := rfl
  rw [h]; pointwise

theorem e0 : ∀ t : Fin cfg0.N, win0_0.index t = ![t.val, 0, 0] := (by decide +kernel : ∀ t : Fin grid0.N, _)
theorem e1 : ∀ t : Fin cfg0.N, win0_1.index t = ![t.val, 0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val, 0, 0, 0] := (by decide +kernel : ∀ t : Fin grid0.N, _)

theorem lt4 (t : Fin cfg0.N) : t.val < 4 := lt_of_lt_of_eq t.isLt (by decide +kernel)

theorem in0 (t : Fin cfg0.N) (r : Fin 256) (k : Fin 1024) : iblk m c 0 t (ix3 0 r k) =
    m ((c : Thread nD τ).loc main_arg0) (ix3 ⟨t, lt4 t⟩ r k) := by
  have h : (win0_0.blk t).view.emb (ix3 0 r k) = ix3 ⟨t, lt4 t⟩ r k := by blk_ext [e0]
  exact (congrArg (V m c main_arg0) h).trans (congrFun (V_main_arg0 m c) _)

theorem in1 (t : Fin cfg0.N) (k : Fin 9216) : iblk m c 1 t (ix3 0 0 k) =
    m ((c : Thread nD τ).loc main_arg1) (ix3 ⟨t, lt4 t⟩ 0 k) := by
  have h : (win0_1.blk t).view.emb (ix3 0 0 k) = ix3 ⟨t, lt4 t⟩ 0 k := by blk_ext [e1]
  exact (congrArg (V m c main_arg1) h).trans (congrFun (V_main_arg1 m c) _)

theorem in2 (t : Fin cfg0.N) (k : Fin 1024) : iblk m c 2 t (ix2 0 k) = m ((c : Thread nD τ).loc main_arg2) (ix1 k) := by
  have h : (win0_2.blk t).view.emb (ix2 0 k) = ix2 0 k := by blk_ext [e2]
  exact (congrArg (V m c main_v2) h).trans (V_v2 m c k)

theorem in3 (t : Fin cfg0.N) (k : Fin 1024) (q : Fin 5632) : iblk m c 3 t (ix2 k q) = m ((c : Thread nD τ).loc main_arg3) (ix2 k q) := by
  have h : (win0_3.blk t).view.emb (ix2 k q) = ix2 k q := by blk_ext [e3]
  exact (congrArg (V m c main_v0) h).trans (V_v0 m c k q)

theorem in4 (t : Fin cfg0.N) (q : Fin 2816) (d : Fin 1024) : iblk m c 4 t (ix2 q d) = m ((c : Thread nD τ).loc main_arg4) (ix2 q d) := by
  have h : (win0_4.blk t).view.emb (ix2 q d) = ix2 q d := by blk_ext [e4]
  exact (congrArg (V m c main_v1) h).trans (V_v1 m c q d)

/-- The result array after the run is `G` of the arguments. -/
theorem final : (dats m 0 c).arrAt 5 cfg0.N = G Rows.gateT (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  obtain ⟨j, k, hy⟩ : ∃ (j : Fin 32) (k : Fin 8192), y = (ix4 0 0 j k : S1x1x32x8192.Idx) := ⟨y 2, y 3, by idx_ext⟩
  have hi : (win0_5.blk t).view.emb y = ix4 ⟨t, lt4 t⟩ 0 j k := by subst hy; blk_ext [e5]
  rw [hi, hy]
  refine ((block _ _ _ _ _ j k).trans (rows _ _ _ _ _ _ _)).trans ?_
  simp only [in0, in1, in2, in3, in4]
  rfl
end

end Cert.FfnCtxIdeal.Rowwise

end
-- ==== Proof.FfnCtxRef.lean ====
/- The reference of the feed-forward call on the context tokens, stage by stage, as the same function of its arguments. -/
module

public import Idealize.ShloMosaic.Lib.Pointwise
public import proofs.«01_k».proof.Proof.Rows
public import proofs.«01_k».proof.Proof.Gen.FfnCtxRefIdeal.Read

@[expose] public section

set_option maxRecDepth 16384

noncomputable section

open Idealize.ShloMosaic Cert.FfnCtxRefIdeal Cert.FfnCtxRefIdeal.Gen Cert.FfnCtxRefIdeal.Read

namespace Cert.FfnCtxRefIdeal.Rowwise

variable (x0 : Vec Ideal S4x256x1024 .f32) (x1 : Vec Ideal S4x1x9216 .f32) (x2 : Vec Ideal S1024 .f32)
  (x3 : Vec Ideal S1024x5632 .f32) (x4 : Vec Ideal S2816x1024 .f32)
  (b : Fin 4) (l : Fin 256) (d : Fin 1024)

/-- The normed row, scaled and shifted. -/
theorem normed : val_main_v29 x0 x1 x2 (ix3 b l d) =
    Rows.adj (fun k => x0 (ix3 b l k)) (fun k => x2 (ix1 k)) (fun k => x1 (ix3 b 0 ⟨1024 + k, by omega⟩))
      (fun k => x1 (ix3 b 0 ⟨k, by omega⟩)) d := by
  pointwise [val_main_v29, val_main_v28, val_main_v27, val_main_v26, val_main_v25, val_main_v24, val_main_cst_3, val_main_v23, val_main_v22,
    val_main_v21, val_main_v20, val_main_v19, val_main_v18, val_main_v17, val_main_v16, val_main_cst_2, val_main_v15, val_main_v14,
    val_main_cst_1, val_main_v13, val_main_v12, val_main_cst_0, val_main_v11, val_main_v1, val_main_v0, Rows.adj, Rows.nrm, Rows.inv, Rows.len, Rows.eps]

/-- The gated unit and its product with the second matrix. -/
theorem hidden : val_main_v35 x0 x1 x2 x3 x4 (ix3 b l d) =
    Rows.hid Rows.gateL (fun k => val_main_v29 x0 x1 x2 (ix3 b l k)) (fun k q => x3 (ix2 k q)) (fun q d => x4 (ix2 q d)) d := by
  pointwise [val_main_v35, val_main_v34, val_main_v33, val_main_call0_v5, val_main_call0_v4, val_main_call0_cst_0, val_main_call0_v3,
    val_main_call0_v2, val_main_call0_cst, val_main_call0_v1, val_main_call0_v0, val_main_v32, val_main_v31, val_main_v30,
    Rows.hid, Rows.gateL, Rows.dot]

/-- The row with half the gated product added. -/
theorem fed : val_main_v38 x0 x1 x2 x3 x4 (ix3 b l d) =
    x0 (ix3 b l d) + Rows.half * x1 (ix3 b 0 ⟨2048 + d, by omega⟩) * val_main_v35 x0 x1 x2 x3 x4 (ix3 b l d) := by
  pointwise [val_main_v38, val_main_v37, val_main_v36, val_main_v10, val_main_v9, val_main_cst, val_main_v2, Rows.half]

/-- The token array split into column blocks and lines. -/
theorem split (x : Vec Ideal S4x256x1024 .f32) (h : S4x256x1024.ShapeCasts S4x1x8x32x1024) (s : Fin 8) (j : Fin 32) :
    shapeCast S4x1x8x32x1024 x h (ix5 b 0 s j d) = x (ix3 b ⟨s * 32 + j, by omega⟩ d) := by
  refine congrArg x (Shape.reshapeEquiv_eq_of_rowMajor h ?_)
  simp only [Shape.rowMajor_val_three, Shape.rowMajor_val_five]
  show (b.val * 256 + (s.val * 32 + j.val)) * 1024 + d.val = (((b.val * 1 + 0) * 8 + s.val) * 32 + j.val) * 1024 + d.val
  omega

/-- A line's column blocks side by side. -/
theorem join (x : Vec Ideal S4x1x32x8x1024 .f32) (h : S4x1x32x8x1024.ShapeCasts S4x1x32x8192) (j : Fin 32) (k : Fin 8192) :
    shapeCast S4x1x32x8192 x h (ix4 b 0 j k) = x (ix5 b 0 j ⟨k / 1024, by omega⟩ (Rows.column k)) := by
  refine congrArg x (Shape.reshapeEquiv_eq_of_rowMajor h ?_)
  simp only [Shape.rowMajor_val_five, Shape.rowMajor_val_four]
  show (((b.val * 1 + 0) * 32 + j.val) * 8 + k.val / 1024) * 1024 + k.val % 1024 = ((b.val * 1 + 0) * 32 + j.val) * 8192 + k.val
  omega

/-- The rows laid out eight to a line. -/
theorem laid (j : Fin 32) (k : Fin 8192) : val_main_v41 x0 x1 x2 x3 x4 (ix4 b 0 j k) =
    val_main_v38 x0 x1 x2 x3 x4 (ix3 b ⟨k / 1024 * 32 + j, by omega⟩ (Rows.column k)) := by
  unfold val_main_v41 val_main_v40 val_main_v39
  generalize val_main_v38 x0 x1 x2 x3 x4 = y
  refine (join b _ _ j k).trans ?_
  have h := split b (Rows.column k) y Facts₀.shapeCasts_S4x256x1024_S4x1x8x32x1024 ⟨k / 1024, by omega⟩ j
  refine Eq.trans ?_ h
  generalize shapeCast S4x1x8x32x1024 y _ = z
  pointwise

/-- The result at a place. -/
theorem result (j : Fin 32) (k : Fin 8192) : val_main_v41 x0 x1 x2 x3 x4 (ix4 b 0 j k) =
    Rows.ffn Rows.gateL (fun k' => x0 (ix3 b ⟨k / 1024 * 32 + j, by omega⟩ k')) (fun k => x2 (ix1 k))
      (fun k => x1 (ix3 b 0 ⟨1024 + k, by omega⟩)) (fun k => x1 (ix3 b 0 ⟨k, by omega⟩))
      (fun k => x1 (ix3 b 0 ⟨2048 + k, by omega⟩)) (fun k q => x3 (ix2 k q)) (fun q d => x4 (ix2 q d)) (Rows.column k) := by
  rw [laid, fed, hidden, Rows.ffn]
  simp only [normed]

end Cert.FfnCtxRefIdeal.Rowwise

end
-- ==== Proof.FfnCtx.lean ====
/- The claims on the feed-forward call on the context tokens. -/
module

public import proofs.«01_k».proof.Defs
public import proofs.«01_k».proof.Proof.Rows
public import proofs.«01_k».proof.Proof.Finite3
public import proofs.«01_k».proof.Proof.FfnCtxKernel
public import proofs.«01_k».proof.Proof.FfnCtxRef
public import proofs.«01_k».proof.Proof.Gen.FfnCtx.Frame
public import proofs.«01_k».proof.Proof.Gen.FfnCtxIdeal.Value
public import proofs.«01_k».proof.Proof.Gen.FfnCtxRefIdeal.Run
public import Idealize.ShloMosaic.Lib.Quiescent

@[expose] public section

noncomputable section

open Idealize.ShloMosaic Idealize.ShloMosaic.TcCoe Idealize.SL.Sem

namespace Cert.FfnCtxClaims

instance : Cert.FfnCtx.Facts := Cert.FfnCtx.Gen.facts
instance : Cert.FfnCtxIdeal.Facts := Cert.FfnCtxIdeal.Gen.facts
instance : Cert.FfnCtxRefIdeal.Facts := Cert.FfnCtxRefIdeal.Gen.facts
instance : Cert.Pre_ffn_ctx_finite.Facts := Cert.Pre_ffn_ctx_finite.facts

theorem frame_p : Cert.quiescent_FfnCtx := fun m ρ _ => Cert.FfnCtx.Gen.frame m ρ
theorem frame_pi : Cert.quiescent_FfnCtxIdeal := fun m ρ _ => Cert.FfnCtxIdeal.Gen.frame m ρ
theorem frame_pi' : Cert.quiescent_FfnCtxIdeal_pre_ffn_ctx_finite := fun m ρ _ => Cert.FfnCtxIdeal.Gen.frame m ρ
theorem frame_ri : Cert.quiescent_FfnCtxRefIdeal := fun m ρ _ =>
  (θ_run Cert.FfnCtxRefIdeal.defs _ _).mono (fun r h => ⟨fun c => (h c).2, sem_eq_zero_of_no_sems (by decide) r.2⟩)
    (Cert.FfnCtxRefIdeal.Value.run (F := Ideal) m ρ)
theorem frame_ri' : Cert.quiescent_FfnCtxRefIdeal_pre_ffn_ctx_finite := fun m ρ _ => frame_ri m ρ trivial

section
open Cert.FfnCtxRefIdeal Cert.FfnCtxRefIdeal.Read

/-- On arguments that are real numbers the reference's array is the kernel's. -/
theorem same (x0 : Vec Ideal S4x256x1024 .f32) (x1 : Vec Ideal S4x1x9216 .f32) (x2 : Vec Ideal S1024 .f32)
    (x3 : Vec Ideal S1024x5632 .f32) (x4 : Vec Ideal S2816x1024 .f32)
    (h0 : ∀ i, Rows.Fine (x0 i)) (h1 : ∀ i, Rows.Fine (x1 i)) (h2 : ∀ i, Rows.Fine (x2 i)) (h3 : ∀ i, Rows.Fine (x3 i)) :
    val_main_v41 x0 x1 x2 x3 x4 = Cert.FfnCtxIdeal.Rowwise.G Rows.gateT x0 x1 x2 x3 x4 := by
  funext i
  obtain ⟨b, j, k, rfl⟩ : ∃ (b : Fin 4) (j : Fin 32) (k : Fin 8192), i = ix4 b 0 j k := ⟨i 0, i 2, i 3, by idx_ext⟩
  rw [Cert.FfnCtxRefIdeal.Rowwise.result]
  unfold Cert.FfnCtxIdeal.Rowwise.G
  refine (Rows.ffn_eq ?_ ?_ ?_ ?_ ?_ _).symm <;> intros
  · exact h0 _
  · exact h2 _
  · exact h1 _
  · exact h1 _
  · exact h3 _
end

theorem algebraic : Cert.algebraic_FfnCtxIdeal_FfnCtxRefIdeal_pre_ffn_ctx_finite := by
  intro m ρ m' ρ' hpre hagree
  refine ⟨_, Cert.FfnCtxIdeal.Value.run_blocks (F := Ideal) m ρ, ?_⟩
  refine (θ_run Cert.FfnCtxRefIdeal.defs _ _).mono (fun r h c => ⟨?_, (h c).2⟩) (Cert.FfnCtxRefIdeal.Value.run (F := Ideal) m' ρ')
  obtain ⟨p0, p1, p2, p3⟩ := hpre c
  obtain ⟨a0, a1, a2, a3, a4⟩ := hagree c
  refine (h c).1.trans ((Cert.FfnCtxRefIdeal.Read.val_main_v41_eq m' c).trans ?_)
  rw [a0, a1, a2, a3, a4]
  refine (same _ _ _ _ _ (Cert.Pre_ffn_ctx_finite.fine0 _ _ _ _ _ p0) (Cert.Pre_ffn_ctx_finite.fine1 _ _ _ _ _ p1)
    (Cert.Pre_ffn_ctx_finite.fine2 _ _ _ _ _ p2) (Cert.Pre_ffn_ctx_finite.fine3 _ _ _ _ _ p3)).trans ?_
  exact (Cert.FfnCtxIdeal.Rowwise.final m c).symm

end Cert.FfnCtxClaims

end
-- ==== Proof.InprojCtxKernel.lean ====
/- The kernel of the input projection on the context tokens: what it stores at a grid point, row by row, and the array it leaves. -/
module

public import Idealize.ShloMosaic.Lib.Pointwise
public import proofs.«01_k».proof.Proof.Gates
public import Idealize.ShloMosaic.Lib.Pipeline.ValueKit.Geometry
public import Idealize.ShloMosaic.Lib.Pipeline.ValueKit.Acc
public import Idealize.ShloMosaic.Lib.Pipeline.ValueKit.Tiles
public import proofs.«01_k».proof.Proof.Gen.InprojCtxIdeal.Frame

@[expose] public section

set_option maxRecDepth 16384
noncomputable section
open Idealize.ShloMosaic Cert.InprojCtxIdeal Cert.InprojCtxIdeal.Gen
namespace Cert.InprojCtxIdeal.Rowwise

/-! ## One chunk of 256 columns -/

/-- A chunk's column: the row times the chunk's column, and its bias. -/
def lin (h : FVec Ideal S256x1024 .bf16) (a : Vec Ideal S1024x256 .bf16) (b : Vec Ideal S1x256 .f32) (r : Fin 256) (q : Fin 256) : EReal :=
  (∑ k, h (ix2 r k) * a (ix2 k q)) + b (ix2 0 q)

theorem pay2 (sh sc : Vec Ideal S1x1x1024 .f32) (x : Vec Ideal S1x256x1024 .f32) (g : Vec Ideal S1x1024 .f32) (r : Fin 256) (d : Fin 1024) :
    k0_pay2 sh sc x g (ix2 r d) = Rows.adj (fun k => x (ix3 0 r k)) (fun k => g (ix2 0 k)) (fun k => sc (ix3 0 0 k)) (fun k => sh (ix3 0 0 k)) d := by
  pointwise [k0_pay2, Rows.adj, Rows.nrm, Rows.inv, Rows.len, Rows.eps]

theorem pay3 (sh sc : Vec Ideal S1x1x1024 .f32) (x : Vec Ideal S1x256x1024 .f32) (g : Vec Ideal S1x1024 .f32) (a : Vec Ideal S1024x256 .bf16)
    (b : Vec Ideal S1x256 .f32) (r : Fin 256) (q : Fin 256) :
    k0_pay3 sh sc x g a b (ix2 r q) = lin (k0_pay2 sh sc x g) a b r q := by
  pointwise [k0_pay3, k0_pay2, lin]

variable (h : FVec Ideal S256x1024 .bf16) (a : Vec Ideal S1024x256 .bf16) (b : Vec Ideal S1x256 .f32) (r : Fin 256) (q : Fin 256)

theorem pay4 (f : FVec Ideal S256x256 .f32) : k0_pay4 f (ix3 0 r q) = f (ix2 r q) := by
  pointwise [k0_pay4]

theorem pay5 : k0_pay5 h a b (ix3 0 r q) = lin h a b r q := by
  pointwise [k0_pay5, lin]

theorem pay6 : k0_pay6 h a b (ix3 0 r q) = lin h a b r q := by
  pointwise [k0_pay6, lin]

theorem pay7 : k0_pay7 h a b (ix3 0 r q) = lin h a b r q := by
  pointwise [k0_pay7, lin]

theorem pay1 : k0_pay1 h a b (ix3 0 r q) = lin h a b r q := by
  pointwise [k0_pay1, lin]

/-! ## A grid point's block -/

section
variable (x0 : Vec Ideal S1x256x1024 .f32) (x1 : Vec Ideal S1x1x9216 .f32) (x2 : Vec Ideal S1x1024 .f32) (x3 : Vec Ideal S1024x1280 .bf16)
  (x4 : Vec Ideal S1x1280 .f32)

/-- The row's projection onto column `n`. -/
def P (r : Fin 256) (n : Fin 1280) : EReal :=
  Rows.dot (Rows.adj (fun k => x0 (ix3 0 r k)) (fun k => x2 (ix2 0 k)) (fun k => x1 (ix3 0 0 ⟨4096 + k, by omega⟩))
    (fun k => x1 (ix3 0 0 ⟨3072 + k, by omega⟩))) (fun k => x3 (ix2 k n)) + x4 (ix2 0 n)

theorem row (d : Fin 1024) : k0_pay8 x0 x1 x2 x3 x4 (ix2 r d) = Rows.adj (fun k => x0 (ix3 0 r k)) (fun k => x2 (ix2 0 k))
    (fun k => x1 (ix3 0 0 ⟨4096 + k, by omega⟩)) (fun k => x1 (ix3 0 0 ⟨3072 + k, by omega⟩)) d := by
  unfold k0_pay8
  rw [pay2]
  congr 1 <;> funext k <;> pointwise

/-- A chunk at its columns is the projection there. -/
theorem lin_eq {n : Fin 1280} (ha : ∀ k, a (ix2 k q) = x3 (ix2 k n)) (hb : b (ix2 0 q) = x4 (ix2 0 n)) :
    lin (k0_pay8 x0 x1 x2 x3 x4) a b r q = P x0 x1 x2 x3 x4 r n := by
  simp only [lin, P, Rows.dot, ha, hb, row]

theorem block (n : Fin 1280) : out0_5 x0 x1 x2 x3 x4 (ix3 0 r n) = P x0 x1 x2 x3 x4 r n := by
  unfold out0_5
  canon_tiles z e
  all_goals
    obtain ⟨r', q, rfl⟩ : ∃ (r' : Fin 256) (q : Fin 256), z = (ix3 0 r' q : S1x256x256.Idx) := ⟨z 1, z 2, by idx_ext⟩
    have f1 : (r : ℕ) = r' := e1
    obtain rfl := Fin.ext f1
    first | (have f2 : (n : ℕ) = _ + (q : ℕ) := e2) | (have f2 : (n : ℕ) = q := e2)
    first | rw [pay1] | rw [pay7] | rw [pay6] | rw [pay5] | rw [pay4, pay3]
    refine lin_eq _ _ _ _ _ _ _ _ _ (fun k => ?_) ?_ <;> pointwise <;> congr 2 <;> exact Fin.ext (by simp only []; omega)

end

/-! ## The array -/

/-- The projection of token `l` of batch `b` onto column `n`, by the argument arrays. -/
def proj (x : Vec Ideal S4x256x1024 .f32) (m : Vec Ideal S4x1x9216 .f32) (g : Vec Ideal S1024 .f32)
    (w : Vec Ideal S1024x6656 .f32) (b : Vec Ideal S6656 .f32) (i : Fin 4) (l : Fin 256) (n : Fin 6656) : EReal :=
  Rows.proj (Rows.adj (fun k => x (ix3 i l k)) (fun k => g (ix1 k)) (fun k => m (ix3 i 0 ⟨4096 + k, by omega⟩))
    (fun k => m (ix3 i 0 ⟨3072 + k, by omega⟩))) (fun k n => w (ix2 k n)) (fun n => b (ix1 n)) n

section
variable (x : Vec Ideal S4x256x1024 .f32) (m : Vec Ideal S4x1x9216 .f32) (g : Vec Ideal S1024 .f32)
  (w : Vec Ideal S1024x6656 .f32) (b : Vec Ideal S6656 .f32)

/-- The result: the recurrence's columns, which begin at 2048. -/
def G : Vec Ideal S4x256x1280 .f32 := fun i =>
  proj x m g w b (i 0) (i 1) ⟨2048 + (i 2).val, by have := (i 2).isLt; simp at this; omega⟩
end

section
open Idealize.ShloMosaic.TcCoe
variable (m : (ℓ : Loc nD τ sig) → Buf (Elt Ideal) ℓ) (c : Dev nD)

theorem V_v1 (k : Fin 1024) (n : Fin 1280) : V m c main_v1 (ix2 k n) = m ((c : Thread nD τ).loc main_arg3) (ix2 k ⟨2048 + n, by omega⟩) := by
  have h : V m c main_v1 = (extractStridedSlice S1024x1280 ![0, 2048] (truncf .bf16 (m ((c : Thread nD τ).loc main_arg3) : FVec Ideal S1024x6656 .f32) bitsLt_bf16_f32 :
    FVec Ideal S1024x6656 .bf16) Facts₀.slices_S1024x6656_S1024x1280_0_2048 : FVec Ideal S1024x1280 .bf16) := rfl
  rw [h]; pointwise

theorem V_v3 (k : Fin 1024) : V m c main_v3 (ix2 0 k) = m ((c : Thread nD τ).loc main_arg2) (ix1 k) := by
  have h : V m c main_v3 = shapeCast S1x1024 (m ((c : Thread nD τ).loc main_arg2)) Facts₀.shapeCasts_S1024_S1x1024 := rfl
  rw [h]; pointwise

theorem V_v4 (n : Fin 1280) : V m c main_v4 (ix2 0 n) = m ((c : Thread nD τ).loc main_arg4) (ix1 ⟨2048 + n, by omega⟩) := by
  have h : V m c main_v4 = shapeCast S1x1280 (extractStridedSlice S1280 ![2048] (m ((c : Thread nD τ).loc main_arg4) : FVec Ideal S6656 .f32)
    Facts₀.slices_S6656_S1280_2048) Facts₀.shapeCasts_S1280_S1x1280 := rfl
  rw [h]; pointwise

theorem e0 : ∀ t : Fin cfg0.N, win0_0.index t = ![t.val, 0, 0] := (by decide +kernel : ∀ t : Fin grid0.N, _)
theorem e1 : ∀ t : Fin cfg0.N, win0_1.index t = ![t.val, 0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val, 0, 0] := (by decide +kernel : ∀ t : Fin grid0.N, _)

theorem lt4 (t : Fin cfg0.N) : t.val < 4 := lt_of_lt_of_eq t.isLt (by decide +kernel)

theorem in0 (t : Fin cfg0.N) (r : Fin 256) (k : Fin 1024) : iblk m c 0 t (ix3 0 r k) =
    m ((c : Thread nD τ).loc main_arg0) (ix3 ⟨t, lt4 t⟩ r k) := by
  have h : (win0_0.blk t).view.emb (ix3 0 r k) = ix3 ⟨t, lt4 t⟩ r k := by blk_ext [e0]
  exact (congrArg (V m c main_arg0) h).trans (congrFun (V_main_arg0 m c) _)

theorem in1 (t : Fin cfg0.N) (k : Fin 9216) : iblk m c 1 t (ix3 0 0 k) =
    m ((c : Thread nD τ).loc main_arg1) (ix3 ⟨t, lt4 t⟩ 0 k) := by
  have h : (win0_1.blk t).view.emb (ix3 0 0 k) = ix3 ⟨t, lt4 t⟩ 0 k := by blk_ext [e1]
  exact (congrArg (V m c main_arg1) h).trans (congrFun (V_main_arg1 m c) _)

theorem in2 (t : Fin cfg0.N) (k : Fin 1024) : iblk m c 2 t (ix2 0 k) = m ((c : Thread nD τ).loc main_arg2) (ix1 k) := by
  have h : (win0_2.blk t).view.emb (ix2 0 k) = ix2 0 k := by blk_ext [e2]
  exact (congrArg (V m c main_v3) h).trans (V_v3 m c k)

theorem in3 (t : Fin cfg0.N) (k : Fin 1024) (n : Fin 1280) : iblk m c 3 t (ix2 k n) =
    m ((c : Thread nD τ).loc main_arg3) (ix2 k ⟨2048 + n, by omega⟩) := by
  have h : (win0_3.blk t).view.emb (ix2 k n) = ix2 k n := by blk_ext [e3]
  exact (congrArg (V m c main_v1) h).trans (V_v1 m c k n)

theorem in4 (t : Fin cfg0.N) (n : Fin 1280) : iblk m c 4 t (ix2 0 n) = m ((c : Thread nD τ).loc main_arg4) (ix1 ⟨2048 + n, by omega⟩) := by
  have h : (win0_4.blk t).view.emb (ix2 0 n) = ix2 0 n := by blk_ext [e4]
  exact (congrArg (V m c main_v4) h).trans (V_v4 m c n)

/-- The result array after the run is `G` of the arguments. -/
theorem final : (dats m 0 c).arrAt 5 cfg0.N = G (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  obtain ⟨r, n, hy⟩ : ∃ (r : Fin 256) (n : Fin 1280), y = (ix3 0 r n : S1x256x1280.Idx) := ⟨y 1, y 2, by idx_ext⟩
  have hi : (win0_5.blk t).view.emb y = ix3 ⟨t, lt4 t⟩ r n := by subst hy; blk_ext [e5]
  rw [hi, hy]
  refine (block r _ _ _ _ _ n).trans ?_
  simp only [P, in0, in1, in2, in3, in4]
  rfl

end

end Cert.InprojCtxIdeal.Rowwise

end
-- ==== Proof.InprojCtxRef.lean ====
/- The reference of the input projection on the context tokens, stage by stage, as the same functions of its arguments. -/
module

public import Idealize.ShloMosaic.Lib.Pointwise
public import proofs.«01_k».proof.Proof.Gates
public import proofs.«01_k».proof.Proof.Gen.InprojCtxRefIdeal.Read

@[expose] public section

set_option maxRecDepth 100000

noncomputable section

open Idealize.ShloMosaic Cert.InprojCtxRefIdeal Cert.InprojCtxRefIdeal.Gen Cert.InprojCtxRefIdeal.Read

namespace Cert.InprojCtxRefIdeal.Rowwise

variable (x0 : Vec Ideal S4x256x1024 .f32) (x1 : Vec Ideal S4x1x9216 .f32) (x2 : Vec Ideal S1024 .f32)
  (x3 : Vec Ideal S1024x6656 .f32) (x4 : Vec Ideal S6656 .f32) (b : Fin 4) (l : Fin 256)

/-- The normed row, scaled and shifted. -/
theorem normed (d : Fin 1024) : val_main_v27 x0 x1 x2 (ix3 b l d) =
    Rows.adj (fun k => x0 (ix3 b l k)) (fun k => x2 (ix1 k)) (fun k => x1 (ix3 b 0 ⟨4096 + k, by omega⟩))
      (fun k => x1 (ix3 b 0 ⟨3072 + k, by omega⟩)) d := by
  pointwise [val_main_v27, val_main_v26, val_main_v25, val_main_v24, val_main_v23, val_main_v22, val_main_cst_2, val_main_v21, val_main_v20,
    val_main_v19, val_main_v18, val_main_v17, val_main_v16, val_main_v15, val_main_v14, val_main_cst_1, val_main_v13, val_main_v12,
    val_main_cst_0, val_main_v11, val_main_v10, val_main_cst, val_main_v9, val_main_v4, val_main_v3, Rows.adj, Rows.nrm, Rows.inv, Rows.len, Rows.eps]

/-- The row times the recurrence's columns of the matrix, and their bias. -/
theorem result (n : Fin 1280) : val_main_v33 x0 x1 x2 x3 x4 (ix3 b l n) =
    Rows.proj (fun k => val_main_v27 x0 x1 x2 (ix3 b l k)) (fun k n => x3 (ix2 k n)) (fun n => x4 (ix1 n)) ⟨2048 + n, by omega⟩ := by
  pointwise [val_main_v33, val_main_v32, val_main_v31, val_main_v30, val_main_v29, val_main_v28, Rows.proj, Rows.dot]

end Cert.InprojCtxRefIdeal.Rowwise

end
-- ==== Proof.InprojCtx.lean ====
/- The claims on the input projection on the context tokens. -/
module

public import proofs.«01_k».proof.Defs
public import proofs.«01_k».proof.Proof.Gates
public import proofs.«01_k».proof.Proof.InprojCtxKernel
public import proofs.«01_k».proof.Proof.InprojCtxRef
public import proofs.«01_k».proof.Proof.Gen.InprojCtx.Frame
public import proofs.«01_k».proof.Proof.Gen.InprojCtxIdeal.Value
public import proofs.«01_k».proof.Proof.Gen.InprojCtxRefIdeal.Run
public import Idealize.ShloMosaic.Lib.Quiescent

@[expose] public section

noncomputable section

open Idealize.ShloMosaic Idealize.ShloMosaic.TcCoe Idealize.SL.Sem

namespace Cert.InprojCtxClaims

instance : Cert.InprojCtx.Facts := Cert.InprojCtx.Gen.facts
instance : Cert.InprojCtxIdeal.Facts := Cert.InprojCtxIdeal.Gen.facts
instance : Cert.InprojCtxRefIdeal.Facts := Cert.InprojCtxRefIdeal.Gen.facts

theorem frame_p : Cert.quiescent_InprojCtx := fun m ρ _ => Cert.InprojCtx.Gen.frame m ρ
theorem frame_pi : Cert.quiescent_InprojCtxIdeal := fun m ρ _ => Cert.InprojCtxIdeal.Gen.frame m ρ
theorem frame_ri : Cert.quiescent_InprojCtxRefIdeal := fun m ρ _ =>
  (θ_run Cert.InprojCtxRefIdeal.defs _ _).mono (fun r h => ⟨fun c => (h c).2, sem_eq_zero_of_no_sems (by decide) r.2⟩)
    (Cert.InprojCtxRefIdeal.Value.run (F := Ideal) m ρ)

section
open Cert.InprojCtxRefIdeal Cert.InprojCtxRefIdeal.Read
variable (x0 : Vec Ideal S4x256x1024 .f32) (x1 : Vec Ideal S4x1x9216 .f32) (x2 : Vec Ideal S1024 .f32)
  (x3 : Vec Ideal S1024x6656 .f32) (x4 : Vec Ideal S6656 .f32)

/-- The reference's array is the kernel's. -/
theorem same : val_main_v33 x0 x1 x2 x3 x4 = Cert.InprojCtxIdeal.Rowwise.G x0 x1 x2 x3 x4 := by
  funext i
  obtain ⟨b, l, n, rfl⟩ : ∃ (b : Fin 4) (l : Fin 256) (n : Fin 1280), i = ix3 b l n := ⟨i 0, i 1, i 2, by idx_ext⟩
  rw [Cert.InprojCtxRefIdeal.Rowwise.result]
  simp only [Cert.InprojCtxRefIdeal.Rowwise.normed]
  rfl
end

theorem algebraic : Cert.algebraic_InprojCtxIdeal_InprojCtxRefIdeal := by
  intro m ρ m' ρ' _ hagree
  refine ⟨_, Cert.InprojCtxIdeal.Value.run_blocks (F := Ideal) m ρ, ?_⟩
  refine (θ_run Cert.InprojCtxRefIdeal.defs _ _).mono (fun r h c => ⟨?_, (h c).2⟩) (Cert.InprojCtxRefIdeal.Value.run (F := Ideal) m' ρ')
  obtain ⟨a0, a1, a2, a3, a4⟩ := hagree c
  refine (h c).1.trans ((Cert.InprojCtxRefIdeal.Read.val_main_v33_eq (F := Ideal) _ _ _ _ _).trans ?_)
  rw [a0, a1, a2, a3, a4]
  exact (same _ _ _ _ _).trans (Cert.InprojCtxIdeal.Rowwise.final m c).symm

end Cert.InprojCtxClaims

end
-- ==== Proof.ModulationKernel.lean ====
/- The kernel of the modulation: what it stores at a grid point, row by row, and the array it leaves. -/
module

public import Idealize.ShloMosaic.Lib.Pointwise
public import proofs.«01_k».proof.Proof.Gates
public import Idealize.ShloMosaic.Lib.Pipeline.ValueKit.Geometry
public import Idealize.ShloMosaic.Lib.Pipeline.ValueKit.Acc
public import Idealize.ShloMosaic.Lib.Pipeline.ValueKit.Tiles
public import proofs.«01_k».proof.Proof.Gen.ModulationIdeal.Frame

@[expose] public section

set_option maxRecDepth 16384
noncomputable section
open Idealize.ShloMosaic Cert.ModulationIdeal Cert.ModulationIdeal.Gen
namespace Cert.ModulationIdeal.Rowwise

theorem pay1 (x : Vec Ideal S8x1024 .f32) (w : Vec Ideal S1024x1024 .f32) (b : Vec Ideal S1x1024 .f32) (r : Fin 8) (n : Fin 1024) :
    k0_pay1 x w b (ix2 r n) = Rows.dot (fun k => x (ix2 r k) * Rows.sigT (x (ix2 r k))) (fun k => w (ix2 k n)) + b (ix2 0 n) := by
  pointwise [k0_pay1, Rows.dot, Rows.sigT, Rows.half]

theorem block (x : Vec Ideal S8x1024 .f32) (w : Vec Ideal S1024x1024 .f32) (b : Vec Ideal S1x1024 .f32) (r : Fin 8) (n : Fin 1024) :
    out0_3 x w b (ix2 r n) = Rows.dot (fun k => x (ix2 r k) * Rows.sigT (x (ix2 r k))) (fun k => w (ix2 k n)) + b (ix2 0 n) := by
  unfold out0_3
  canon_tiles z e
  obtain ⟨r', q, rfl⟩ : ∃ (r' : Fin 8) (q : Fin 1024), z = (ix2 r' q : S8x1024.Idx) := ⟨z 0, z 1, by idx_ext⟩
  have f0 : (r : ℕ) = r' := e0
  obtain rfl := Fin.ext f0
  have f1 : (n : ℕ) = q := e1
  obtain rfl := Fin.ext f1
  rw [pay1]
  pointwise

/-- The rows of the vectors with their logistic function, times the matrix, and the bias. -/
def G (x : Vec Ideal S8x1024 .f32) (w : Vec Ideal S1024x9216 .f32) (b : Vec Ideal S9216 .f32) : Vec Ideal S8x9216 .f32 := fun i =>
  Rows.dot (fun k => x (ix2 (i 0) k) * Rows.sigT (x (ix2 (i 0) k))) (fun k => w (ix2 k (i 1))) + b (ix1 (i 1))

/-- The bias seen as a matrix of one row. -/
theorem lined (b : Vec Ideal S9216 .f32) (n : Fin 9216) : shapeCast S1x9216 b Facts₀.shapeCasts_S9216_S1x9216 (ix2 0 n) = b (ix1 n) := by
  refine congrArg b (Shape.reshapeEquiv_eq_of_rowMajor _ ?_)
  simp only [Shape.rowMajor_val_one, Shape.rowMajor_val_two]
  show n.val = 0 * 9216 + n.val
  omega

section
open Idealize.ShloMosaic.TcCoe
variable (m : (ℓ : Loc nD τ sig) → Buf (Elt Ideal) ℓ) (c : Dev nD)

theorem V_v0 (n : Fin 9216) : V m c main_v0 (ix2 0 n) = m ((c : Thread nD τ).loc main_arg2) (ix1 n) := by
  have h : V m c main_v0 = shapeCast S1x9216 (m ((c : Thread nD τ).loc main_arg2)) Facts₀.shapeCasts_S9216_S1x9216 := rfl
  rw [h]
  exact lined _ n

theorem w0 : ∀ t : Fin cfg0.N, win0_0.index t = ![0, 0] := (by decide +kernel : ∀ t : Fin grid0.N, _)
theorem w1 : ∀ t : Fin cfg0.N, win0_1.index t = ![0, t.val] := (by decide +kernel : ∀ t : Fin grid0.N, _)
theorem w2 : ∀ t : Fin cfg0.N, win0_2.index t = ![0, t.val] := (by decide +kernel : ∀ t : Fin grid0.N, _)
theorem w3 : ∀ t : Fin cfg0.N, win0_3.index t = ![0, t.val] := (by decide +kernel : ∀ t : Fin grid0.N, _)

theorem lt9 (t : Fin cfg0.N) : t.val < 9 := lt_of_lt_of_eq t.isLt (by decide +kernel)

/-- The column which grid point `t` holds at place `n`. -/
def col (t : Fin cfg0.N) (n : Fin 1024) : Fin 9216 := ⟨t.val * 1024 + n, by have := lt9 t; omega⟩

theorem in0 (t : Fin cfg0.N) (r : Fin 8) (k : Fin 1024) : iblk m c 0 t (ix2 r k) = m ((c : Thread nD τ).loc main_arg0) (ix2 r k) := by
  have h : (win0_0.blk t).view.emb (ix2 r k) = ix2 r k := by blk_ext [w0]
  exact (congrArg (V m c main_arg0) h).trans (congrFun (V_main_arg0 m c) _)

theorem in1 (t : Fin cfg0.N) (k : Fin 1024) (n : Fin 1024) : iblk m c 1 t (ix2 k n) =
    m ((c : Thread nD τ).loc main_arg1) (ix2 k (col t n)) := by
  have h : (win0_1.blk t).view.emb (ix2 k n) = ix2 k (col t n) := by unfold col; blk_ext [w1]
  exact (congrArg (V m c main_arg1) h).trans (congrFun (V_main_arg1 m c) _)

theorem in2 (t : Fin cfg0.N) (n : Fin 1024) : iblk m c 2 t (ix2 0 n) = m ((c : Thread nD τ).loc main_arg2) (ix1 (col t n)) := by
  have h : (win0_2.blk t).view.emb (ix2 0 n) = ix2 0 (col t n) := by unfold col; blk_ext [w2]
  exact (congrArg (V m c main_v0) h).trans (V_v0 m c _)

/-- The result array after the run is `G` of the arguments. -/
theorem final : (dats m 0 c).arrAt 3 cfg0.N = G (m ((c : Thread nD τ).loc main_arg0)) (m ((c : Thread nD τ).loc main_arg1))
    (m ((c : Thread nD τ).loc main_arg2)) := by
  refine (dats m 0 c).arrAt_eq_of_covers 3 _ (by decide +kernel) fun t hf y => ?_
  blk_simp
  rw [after0_3]
  obtain ⟨r, n, hy⟩ : ∃ (r : Fin 8) (n : Fin 1024), y = (ix2 r n : S8x1024.Idx) := ⟨y 0, y 1, by idx_ext⟩
  have hi : (win0_3.blk t).view.emb y = ix2 r (col t n) := by subst hy; unfold col; blk_ext [w3]
  rw [hi, hy]
  refine (block _ _ _ r n).trans ?_
  simp only [in0, in1, in2]
  rfl

end

end Cert.ModulationIdeal.Rowwise

end
-- ==== Proof.Modulation.lean ====
/- The claims on the modulation. -/
module

public import proofs.«01_k».proof.Defs
public import proofs.«01_k».proof.Proof.Gates
public import proofs.«01_k».proof.Proof.ModulationKernel
public import proofs.«01_k».proof.Proof.Gen.Modulation.Frame
public import proofs.«01_k».proof.Proof.Gen.ModulationIdeal.Value
public import proofs.«01_k».proof.Proof.Gen.ModulationRefIdeal.Run
public import proofs.«01_k».proof.Proof.Gen.ModulationRefIdeal.Read
public import Idealize.ShloMosaic.Lib.Quiescent

@[expose] public section

noncomputable section

open Idealize.ShloMosaic Idealize.ShloMosaic.TcCoe Idealize.SL.Sem

namespace Cert.ModulationClaims

instance : Cert.Modulation.Facts := Cert.Modulation.Gen.facts
instance : Cert.ModulationIdeal.Facts := Cert.ModulationIdeal.Gen.facts
instance : Cert.ModulationRefIdeal.Facts := Cert.ModulationRefIdeal.Gen.facts

theorem frame_p : Cert.quiescent_Modulation := fun m ρ _ => Cert.Modulation.Gen.frame m ρ
theorem frame_pi : Cert.quiescent_ModulationIdeal := fun m ρ _ => Cert.ModulationIdeal.Gen.frame m ρ
theorem frame_ri : Cert.quiescent_ModulationRefIdeal := fun m ρ _ =>
  (θ_run Cert.ModulationRefIdeal.defs _ _).mono (fun r h => ⟨fun c => (h c).2, sem_eq_zero_of_no_sems (by decide) r.2⟩)
    (Cert.ModulationRefIdeal.Value.run (F := Ideal) m ρ)

section
open Cert.ModulationRefIdeal Cert.ModulationRefIdeal.Read
variable (x0 : Vec Ideal S8x1024 .f32) (x1 : Vec Ideal S1024x9216 .f32) (x2 : Vec Ideal S9216 .f32)

/-- The reference's row, with the logistic function through the exponential. -/
theorem result (r : Fin 8) (n : Fin 9216) : val_main_v4 x0 x1 x2 (ix2 r n) =
    Rows.dot (fun k => x0 (ix2 r k) * Rows.sigL (x0 (ix2 r k))) (fun k => x1 (ix2 k n)) + x2 (ix1 n) := by
  pointwise [val_main_v4, val_main_v3, val_main_v2, val_main_v1, val_main_v0, val_main_call0_v5, val_main_call0_v4, val_main_call0_cst_0,
    val_main_call0_v3, val_main_call0_v2, val_main_call0_cst, val_main_call0_v1, val_main_call0_v0, Rows.dot, Rows.sigL]

/-- The reference's array is the kernel's. -/
theorem same : val_main_v4 x0 x1 x2 = Cert.ModulationIdeal.Rowwise.G x0 x1 x2 := by
  funext i
  obtain ⟨r, n, rfl⟩ : ∃ (r : Fin 8) (n : Fin 9216), i = ix2 r n := ⟨i 0, i 1, by idx_ext⟩
  rw [result]
  simp only [← Rows.sigT_eq]
  rfl
end

theorem algebraic : Cert.algebraic_ModulationIdeal_ModulationRefIdeal := by
  intro m ρ m' ρ' _ hagree
  refine ⟨_, Cert.ModulationIdeal.Value.run_blocks (F := Ideal) m ρ, ?_⟩
  refine (θ_run Cert.ModulationRefIdeal.defs _ _).mono (fun r h c => ⟨?_, (h c).2⟩) (Cert.ModulationRefIdeal.Value.run (F := Ideal) m' ρ')
  obtain ⟨a0, a1, a2⟩ := hagree c
  refine (h c).1.trans ((Cert.ModulationRefIdeal.Read.val_main_v4_eq (F := Ideal) _ _ _).trans ?_)
  rw [a0, a1, a2]
  exact (same _ _ _).trans (Cert.ModulationIdeal.Rowwise.final m c).symm

end Cert.ModulationClaims

end
-- ==== Proof.lean ====
/- The claims of the certificate, put together. -/
module

public import proofs.«01_k».proof.Defs
public import proofs.«01_k».proof.Proof.Ffn2
public import proofs.«01_k».proof.Proof.Ffn1
public import proofs.«01_k».proof.Proof.Inproj
public import proofs.«01_k».proof.Proof.LruFwd
public import proofs.«01_k».proof.Proof.FfnCtx
public import proofs.«01_k».proof.Proof.InprojCtx
public import proofs.«01_k».proof.Proof.Modulation

@[expose] public section

noncomputable section

namespace Cert.Proof

theorem claim : Cert.Claim := ⟨Cert.Ffn2.Gen.facts, Cert.Ffn2Ideal.Gen.facts, Cert.Ffn2RefIdeal.Gen.facts,
  Cert.Ffn1.Gen.facts, Cert.Ffn1Ideal.Gen.facts, Cert.Ffn1RefIdeal.Gen.facts,
  Cert.Inproj.Gen.facts, Cert.InprojIdeal.Gen.facts, Cert.InprojRefIdeal.Gen.facts,
  Cert.LruFwd.Gen.facts, Cert.LruFwdIdeal.Gen.facts, Cert.LruFwdRefIdeal.Gen.facts,
  Cert.FfnCtx.Gen.facts, Cert.FfnCtxIdeal.Gen.facts, Cert.FfnCtxRefIdeal.Gen.facts,
  Cert.InprojCtx.Gen.facts, Cert.InprojCtxIdeal.Gen.facts, Cert.InprojCtxRefIdeal.Gen.facts,
  Cert.Modulation.Gen.facts, Cert.ModulationIdeal.Gen.facts, Cert.ModulationRefIdeal.Gen.facts,
  Cert.Pre_ffn2_finite.facts, Cert.Pre_ffn1_finite.facts, Cert.Pre_ffn_ctx_finite.facts,
  Ffn2Claims.frame_p, Ffn2Claims.frame_pi, Ffn2Claims.frame_pi', Ffn2Claims.frame_ri, Ffn2Claims.frame_ri',
  Ffn1Claims.frame_p, Ffn1Claims.frame_pi, Ffn1Claims.frame_pi', Ffn1Claims.frame_ri, Ffn1Claims.frame_ri',
  InprojClaims.frame_p, InprojClaims.frame_pi, InprojClaims.frame_ri,
  LruFwdClaims.frame_p, LruFwdClaims.frame_pi, LruFwdClaims.frame_ri,
  FfnCtxClaims.frame_p, FfnCtxClaims.frame_pi, FfnCtxClaims.frame_pi', FfnCtxClaims.frame_ri, FfnCtxClaims.frame_ri',
  InprojCtxClaims.frame_p, InprojCtxClaims.frame_pi, InprojCtxClaims.frame_ri,
  ModulationClaims.frame_p, ModulationClaims.frame_pi, ModulationClaims.frame_ri,
  trivial, Ffn2Claims.algebraic, trivial, Ffn1Claims.algebraic, trivial, InprojClaims.algebraic, trivial, LruFwdClaims.algebraic,
  trivial, FfnCtxClaims.algebraic, trivial, InprojCtxClaims.algebraic,
  trivial, ModulationClaims.algebraic⟩

end Cert.Proof

end
